-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_v131) = v4 c
          ∧ r.2.mem ((c.tc : Thread Cert.ReferenceIdeal.nD Cert.ReferenceIdeal.τ).loc Cert.ReferenceIdeal.main_v133) = v5 c
          ∧ r.2.mem ((c.tc : Thread Cert.ReferenceIdeal.nD Cert.ReferenceIdeal.τ).loc Cert.ReferenceIdeal.main_v136) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x8192 : Shape := ⟨3, ![4, 4096, 8192]⟩
abbrev S4x4096x2048 : Shape := ⟨3, ![4, 4096, 2048]⟩
abbrev S4x16x4x32x128 : Shape := ⟨5, ![4, 16, 4, 32, 128]⟩
abbrev S4x16x32x128 : Shape := ⟨4, ![4, 16, 32, 128]⟩
abbrev S1x4096x512 : Shape := ⟨3, ![1, 4096, 512]⟩
abbrev S1x4096x128 : Shape := ⟨3, ![1, 4096, 128]⟩
abbrev S1x1x4x32x128 : Shape := ⟨5, ![1, 1, 4, 32, 128]⟩
abbrev S1x1x32x128 : Shape := ⟨4, ![1, 1, 32, 128]⟩
abbrev S32x128x128 : Shape := ⟨3, ![32, 128, 128]⟩
abbrev S128x512 : Shape := ⟨2, ![128, 512]⟩
abbrev S1x512 : Shape := ⟨2, ![1, 512]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x1x1x128 : Shape := ⟨4, ![1, 1, 1, 128]⟩
abbrev S1x1x1x1x128 : Shape := ⟨5, ![1, 1, 1, 1, 128]⟩
abbrev S512 : Shape := ⟨1, ![512]⟩

abbrev nBuf : Space → Nat
  | .hbm => 10
  | .vmem => 25
  | .smem => 0
  | _ => 0

abbrev bufTy : (tb : Table) → Fin (tcTables nBuf tb) → BufTy
  | .hbm, ⟨0, _⟩ => ⟨S4x4096x8192, .bf16⟩
  | .hbm, ⟨1, _⟩ => ⟨S4x4096x2048, .bf16⟩
  | .hbm, ⟨2, _⟩ => ⟨S4x4096x2048, .bf16⟩
  | .hbm, ⟨3, _⟩ => ⟨S4x4096x8192, .bf16⟩
  | .hbm, ⟨4, _⟩ => ⟨S4x4096x8192, .fp8e4m3⟩
  | .hbm, ⟨5, _⟩ => ⟨S4x16x4x32x128, .f32⟩
  | .hbm, ⟨6, _⟩ => ⟨S4x4096x2048, .fp8e4m3⟩
  | .hbm, ⟨7, _⟩ => ⟨S4x16x32x128, .f32⟩
  | .hbm, ⟨8, _⟩ => ⟨S4x4096x2048, .fp8e4m3⟩
  | .hbm, ⟨9, _⟩ => ⟨S4x16x32x128, .f32⟩
  | .local _ .vmem, ⟨0, _⟩ => ⟨S1x4096x512, .bf16⟩
  | .local _ .vmem, ⟨1, _⟩ => ⟨S1x4096x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x4096x512, .fp8e4m3⟩
  | .local _ .vmem, ⟨9, _⟩ => ⟨S1x4096x512, .fp8e4m3⟩
  | .local _ .vmem, ⟨10, _⟩ => ⟨S1x1x4x32x128, .f32⟩
  | .local _ .vmem, ⟨11, _⟩ => ⟨S1x1x4x32x128, .f32⟩
  | .local _ .vmem, ⟨12, _⟩ => ⟨S1x4096x128, .fp8e4m3⟩
  | .local _ .vmem, ⟨13, _⟩ => ⟨S1x4096x128, .fp8e4m3⟩
  | .local _ .vmem, ⟨14, _⟩ => ⟨S1x1x32x128, .f32⟩
  | .local _ .vmem, ⟨15, _⟩ => ⟨S1x1x32x128, .f32⟩
  | .local _ .vmem, ⟨16, _⟩ => ⟨S1x4096x128, .fp8e4m3⟩
  | .local _ .vmem, ⟨17, _⟩ => ⟨S1x4096x128, .fp8e4m3⟩
  | .local _ .vmem, ⟨18, _⟩ => ⟨S1x1x32x128, .f32⟩
  | .local _ .vmem, ⟨19, _⟩ => ⟨S1x1x32x128, .f32⟩
  | .local _ .vmem, ⟨20, _⟩ => ⟨S32x128x128, .fp8e4m3⟩
  | .local _ .vmem, ⟨21, _⟩ => ⟨S128x512, .fp8e4m3⟩
  | .local _ .vmem, ⟨22, _⟩ => ⟨S128x512, .f32⟩
  | .local _ .vmem, ⟨23, _⟩ => ⟨S1x512, .f32⟩
  | .local _ .vmem, ⟨24, _⟩ => ⟨S1x512, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 3 → Nat :=
  let c0 : Index := 0#32
  let c0_i32 : BitVec 32 := 0#32
  let c1_i32 : BitVec 32 := 1#32
  let arg17 : BitVec 32 := Scf.iv c0_i32 c1_i32 k0_t1
  let c128_i32_10 : BitVec 32 := 128#32
  let v21 : BitVec 32 := Scalar.muli arg17 c128_i32_10
  let v22 : Index := Scalar.indexCast v21
  let c0_11 : Index := 0#32
  ![0, v22.toNat, 0]
def k0_off2 (k0_t1 : Fin k0_t1_loop.trips) : Fin 4 → Nat :=
  let c0_28 : Index := 0#32
  let c0_29 : Index := 0#32
  let c0_i32 : BitVec 32 := 0#32
  let c1_i32 : BitVec 32 := 1#32
  let arg17 : BitVec 32 := Scf.iv c0_i32 c1_i32 k0_t1
  let v75 : Index := Scalar.indexCast arg17
  let c0_30 : Index := 0#32
  ![0, 0, v75.toNat, 0]
def k0_off3 (k0_t1 : Fin k0_t1_loop.trips) : Fin 3 → Nat :=
  let c0_i32 : BitVec 32 := 0#32
  let c1_i32 : BitVec 32 := 1#32
  let arg17 : BitVec 32 := Scf.iv c0_i32 c1_i32 k0_t1
  let v132 : Index := Scalar.indexCast arg17
  let c0_50 : Index := 0#32
  let c0_51 : Index := 0#32
  ![v132.toNat, 0, 0]
@[reducible] def k0_t2_loop : Scf.Loop 32 :=
  let c0_i32_6 : BitVec 32 := 0#32
  let c32_i32_7 : BitVec 32 := 32#32
  let v20 : BitVec 32 := Scalar.addi c0_i32_6 c32_i32_7
  let c1_i32_8 : BitVec 32 := 1#32
  ⟨c0_i32_6, v20, c1_i32_8⟩
def k0_off4 (k0_t2 : Fin k0_t2_loop.trips) : Fin 3 → Nat :=
  let c0 : Index := 0#32
  let c0_i32_6 : BitVec 32 := 0#32
  let c1_i32_8 : BitVec 32 := 1#32
  let arg17 : BitVec 32 := Scf.iv c0_i32_6 c1_i32_8 k0_t2
  let c128_i32_10 : BitVec 32 := 128#32
  let v21 : BitVec 32 := Scalar.muli arg17 c128_i32_10
  let v22 : Index := Scalar.indexCast v21
  let c0_11 : Index := 0#32
  ![0, v22.toNat, 0]
def k0_off5 (k0_t2 : Fin k0_t2_loop.trips) : Fin 5 → Nat :=
  let c0_30 : Index := 0#32
  let c0_31 : Index := 0#32
  let c0_32 : Index := 0#32
  let c0_i32_6 : BitVec 32 := 0#32
  let c1_i32_8 : BitVec 32 := 1#32
  let arg17 : BitVec 32 := Scf.iv c0_i32_6 c1_i32_8 k0_t2
  let v80 : Index := Scalar.indexCast arg17
  let c0_33 : Index := 0#32
  ![0, 0, 0, v80.toNat, 0]
def k0_off6 (k0_t2 : Fin k0_t2_loop.trips) : Fin 3 → Nat :=
  let c0_35 : Index := 0#32
  let c0_i32_6 : BitVec 32 := 0#32
  let c1_i32_8 : BitVec 32 := 1#32
  let arg17 : BitVec 32 := Scf.iv c0_i32_6 c1_i32_8 k0_t2
  let c128_i32_10 : BitVec 32 := 128#32
  let v21 : BitVec 32 := Scalar.muli arg17 c128_i32_10
  let v86 : Index := Scalar.indexCast v21
  let c128 : Index := 128#32
  ![0, v86.toNat, 128]
def k0_off7 (k0_t2 : Fin k0_t2_loop.trips) : Fin 5 → Nat :=
  let c0_55 : Index := 0#32
  let c0_56 : Index := 0#32
  let c1 : Index := 1#32
  let c0_i32_6 : BitVec 32 := 0#32
  let c1_i32_8 : BitVec 32 := 1#32
  let arg17 : BitVec 32 := Scf.iv c0_i32_6 c1_i32_8 k0_t2
  let v144 : Index := Scalar.indexCast arg17
  let c0_57 : Index := 0#32
  ![0, 0, 1, v144.toNat, 0]
def k0_off8 (k0_t2 : Fin k0_t2_loop.trips) : Fin 3 → Nat :=
  let c0_59 : Index := 0#32
  let c0_i32_6 : BitVec 32 := 0#32
  let c1_i32_8 : BitVec 32 := 1#32
  let arg17 : BitVec 32 := Scf.iv c0_i32_6 c1_i32_8 k0_t2
  let c128_i32_10 : BitVec 32 := 128#32
  let v21 : BitVec 32 := Scalar.muli arg17 c128_i32_10
  let v150 : Index := Scalar.indexCast v21
  let c256 : Index := 256#32
  ![0, v150.toNat, 256]
def k0_off9 (k0_t2 : Fin k0_t2_loop.trips) : Fin 5 → Nat :=
  let c0_79 : Index := 0#32
  let c0_80 : Index := 0#32
  let c2 : Index := 2#32
  let c0_i32_6 : BitVec 32 := 0#32
  let c1_i32_8 : BitVec 32 := 1#32
  let arg17 : BitVec 32 := Scf.iv c0_i32_6 c1_i32_8 k0_t2
  let v208 : Index := Scalar.indexCast arg17
  let c0_81 : Index := 0#32
  ![0, 0, 2, v208.toNat, 0]
def k0_off10 (k0_t2 : Fin k0_t2_loop.trips) : Fin 3 → Nat :=
  let c0_83 : Index := 0#32
  let c0_i32_6 : BitVec 32 := 0#32
  let c1_i32_8 : BitVec 32 := 1#32
  let arg17 : BitVec 32 := Scf.iv c0_i32_6 c1_i32_8 k0_t2
  let c128_i32_10 : BitVec 32 := 128#32
  let v21 : BitVec 32 := Scalar.muli arg17 c128_i32_10
  let v214 : Index := Scalar.indexCast v21
  let c384 : Index := 384#32
  ![0, v214.toNat, 384]
def k0_off11 (k0_t2 : Fin k0_t2_loop.trips) : Fin 5 → Nat :=
  let c0_103 : Index := 0#32
  let c0_104 : Index := 0#32
  let c3 : Index := 3#32
  let c0_i32_6 : BitVec 32 := 0#32
  let c1_i32_8 : BitVec 32 := 1#32
  let arg17 : BitVec 32 := Scf.iv c0_i32_6 c1_i32_8 k0_t2
  let v272 : Index := Scalar.indexCast arg17
  let c0_105 : Index := 0#32
  ![0, 0, 3, v272.toNat, 0]
@[reducible] def k0_t3_loop (k0_t2 : Fin k0_t2_loop.trips) : Scf.Loop 32 :=
  let c0_i32_117 : BitVec 32 := 0#32
  let c0_i32_6 : BitVec 32 := 0#32
  let c1_i32_8 : BitVec 32 := 1#32
  let arg17 : BitVec 32 := Scf.iv c0_i32_6 c1_i32_8 k0_t2
  let v291 : BitVec 32 := Scalar.subi arg17 c0_i32_117
  let c1_i32_118 : BitVec 32 := 1#32
  let v293 : BitVec 32 := Scalar.divsi v291 c1_i32_118
  let v294 : BitVec 32 := Scalar.muli v293 c1_i32_118
  let v295 : BitVec 32 := Scalar.addi c0_i32_117 v294
  let c1_i32_119 : BitVec 32 := 1#32
  ⟨c0_i32_117, v295, c1_i32_119⟩
def k0_off12 (k0_t2 : Fin k0_t2_loop.trips) (k0_t3 : Fin (k0_t3_loop k0_t2).trips) : Fin 3 → Nat :=
  let c0_169 : Index := 0#32
  let c0_i32_117 : BitVec 32 := 0#32
  let c1_i32_119 : BitVec 32 := 1#32
  let arg18 : BitVec 32 := Scf.iv c0_i32_117 c1_i32_119 k0_t3
  let c128_i32_168 : BitVec 32 := 128#32
  let v392 : BitVec 32 := Scalar.muli arg18 c128_i32_168
  let v393 : Index := Scalar.indexCast v392
  let c0_170 : Index := 0#32
  ![0, v393.toNat, 0]
def k0_off13 (k0_t2 : Fin k0_t2_loop.trips) (k0_t3 : Fin (k0_t3_loop k0_t2).trips) : Fin 4 → Nat :=
  let c0_174 : Index := 0#32
  let c0_175 : Index := 0#32
  let c0_i32_117 : BitVec 32 := 0#32
  let c1_i32_119 : BitVec 32 := 1#32
  let arg18 : BitVec 32 := Scf.iv c0_i32_117 c1_i32_119 k0_t3
  let v398 : Index := Scalar.indexCast arg18
  let c0_176 : Index := 0#32
  ![0, 0, v398.toNat, 0]
def k0_off14 (k0_t2 : Fin k0_t2_loop.trips) (k0_t3 : Fin (k0_t3_loop k0_t2).trips) : Fin 3 → Nat :=
  let c0_i32_117 : BitVec 32 := 0#32
  let c1_i32_119 : BitVec 32 := 1#32
  let arg18 : BitVec 32 := Scf.iv c0_i32_117 c1_i32_119 k0_t3
  let v436 : Index := Scalar.indexCast arg18
  let c0_192 : Index := 0#32
  let c0_193 : Index := 0#32
  ![v436.toNat, 0, 0]
@[reducible] def k0_t4_loop (k0_t2 : Fin k0_t2_loop.trips) : Scf.Loop 32 :=
  let c0_i32_117 : BitVec 32 := 0#32
  let c0_i32_6 : BitVec 32 := 0#32
  let c1_i32_8 : BitVec 32 := 1#32
  let arg17 : BitVec 32 := Scf.iv c0_i32_6 c1_i32_8 k0_t2
  let v291 : BitVec 32 := Scalar.subi arg17 c0_i32_117
  let c1_i32_118 : BitVec 32 := 1#32
  let v293 : BitVec 32 := Scalar.divsi v291 c1_i32_118
  let v294 : BitVec 32 := Scalar.muli v293 c1_i32_118
  let v295 : BitVec 32 := Scalar.addi c0_i32_117 v294
  let v292 : BitVec 32 := Scalar.addi c0_i32_117 v291
  let c1_i32_120 : BitVec 32 := 1#32
  ⟨v295, v292, c1_i32_120⟩
def k0_off15 (k0_t2 : Fin k0_t2_loop.trips) (k0_t4 : Fin (k0_t4_loop k0_t2).trips) : Fin 3 → Nat :=
  let c0_169 : Index := 0#32
  let c0_i32_117 : BitVec 32 := 0#32
  let c0_i32_6 : BitVec 32 := 0#32
  let c1_i32_8 : BitVec 32 := 1#32
  let arg17 : BitVec 32 := Scf.iv c0_i32_6 c1_i32_8 k0_t2
  let v291 : BitVec 32 := Scalar.subi arg17 c0_i32_117
  let c1_i32_118 : BitVec 32 := 1#32
  let v293 : BitVec 32 := Scalar.divsi v291 c1_i32_118
  let v294 : BitVec 32 := Scalar.muli v293 c1_i32_118
  let v295 : BitVec 32 := Scalar.addi c0_i32_117 v294
  let c1_i32_120 : BitVec 32 := 1#32
  let arg18 : BitVec 32 := Scf.iv v295 c1_i32_120 k0_t4
  let c128_i32_168 : BitVec 32 := 128#32
  let v392 : BitVec 32 := Scalar.muli arg18 c128_i32_168
  let v393 : Index := Scalar.indexCast v392
  let c0_170 : Index := 0#32
  ![0, v393.toNat, 0]
def k0_off16 (k0_t2 : Fin k0_t2_loop.trips) (k0_t4 : Fin (k0_t4_loop k0_t2).trips) : Fin 4 → Nat :=
  let c0_174 : Index := 0#32
  let c0_175 : Index := 0#32
  let c0_i32_117 : BitVec 32 := 0#32
  let c0_i32_6 : BitVec 32 := 0#32
  let c1_i32_8 : BitVec 32 := 1#32
  let arg17 : BitVec 32 := Scf.iv c0_i32_6 c1_i32_8 k0_t2
  let v291 : BitVec 32 := Scalar.subi arg17 c0_i32_117
  let c1_i32_118 : BitVec 32 := 1#32
  let v293 : BitVec 32 := Scalar.divsi v291 c1_i32_118
  let v294 : BitVec 32 := Scalar.muli v293 c1_i32_118
  let v295 : BitVec 32 := Scalar.addi c0_i32_117 v294
  let c1_i32_120 : BitVec 32 := 1#32
  let arg18 : BitVec 32 := Scf.iv v295 c1_i32_120 k0_t4
  let v398 : Index := Scalar.indexCast arg18
  let c0_176 : Index := 0#32
  ![0, 0, v398.toNat, 0]
def k0_off17 (k0_t2 : Fin k0_t2_loop.trips) (k0_t4 : Fin (k0_t4_loop k0_t2).trips) : Fin 3 → Nat :=
  let c0_i32_117 : BitVec 32 := 0#32
  let c0_i32_6 : BitVec 32 := 0#32
  let c1_i32_8 : BitVec 32 := 1#32
  let arg17 : BitVec 32 := Scf.iv c0_i32_6 c1_i32_8 k0_t2
  let v291 : BitVec 32 := Scalar.subi arg17 c0_i32_117
  let c1_i32_118 : BitVec 32 := 1#32
  let v293 : BitVec 32 := Scalar.divsi v291 c1_i32_118
  let v294 : BitVec 32 := Scalar.muli v293 c1_i32_118
  let v295 : BitVec 32 := Scalar.addi c0_i32_117 v294
  let c1_i32_120 : BitVec 32 := 1#32
  let arg18 : BitVec 32 := Scf.iv v295 c1_i32_120 k0_t4
  let v436 : Index := Scalar.indexCast arg18
  let c0_192 : Index := 0#32
  let c0_193 : Index := 0#32
  ![v436.toNat, 0, 0]
def k0_off18 (k0_t2 : Fin k0_t2_loop.trips) : Fin 3 → Nat :=
  let c0_122 : Index := 0#32
  let c0_i32_6 : BitVec 32 := 0#32
  let c1_i32_8 : BitVec 32 := 1#32
  let arg17 : BitVec 32 := Scf.iv c0_i32_6 c1_i32_8 k0_t2
  let c128_i32_121 : BitVec 32 := 128#32
  let v296 : BitVec 32 := Scalar.muli arg17 c128_i32_121
  let v297 : Index := Scalar.indexCast v296
  let c0_123 : Index := 0#32
  ![0, v297.toNat, 0]
def k0_off19 (k0_t2 : Fin k0_t2_loop.trips) : Fin 4 → Nat :=
  let c0_128 : Index := 0#32
  let c0_129 : Index := 0#32
  let c0_i32_6 : BitVec 32 := 0#32
  let c1_i32_8 : BitVec 32 := 1#32
  let arg17 : BitVec 32 := Scf.iv c0_i32_6 c1_i32_8 k0_t2
  let v304 : Index := Scalar.indexCast arg17
  let c0_130 : Index := 0#32
  ![0, 0, v304.toNat, 0]
def k0_off20 (k0_t2 : Fin k0_t2_loop.trips) : Fin 3 → Nat :=
  let c0_i32_6 : BitVec 32 := 0#32
  let c1_i32_8 : BitVec 32 := 1#32
  let arg17 : BitVec 32 := Scf.iv c0_i32_6 c1_i32_8 k0_t2
  let v342 : Index := Scalar.indexCast arg17
  let c0_146 : Index := 0#32
  let c0_147 : Index := 0#32
  ![v342.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x4096x8192 : Shape := ⟨3, ![4, 4096, 8192]⟩
abbrev S4x4096x2048 : Shape := ⟨3, ![4, 4096, 2048]⟩
abbrev S4x32x128x64x128 : Shape := ⟨5, ![4, 32, 128, 64, 128]⟩
abbrev S_ : Shape := ⟨0, ![]⟩
abbrev S4x32x64 : Shape := ⟨3, ![4, 32, 64]⟩
abbrev S4x32x1x64x1 : Shape := ⟨5, ![4, 32, 1, 64, 1]⟩
abbrev S4x4096x64x128 : Shape := ⟨4, ![4, 4096, 64, 128]⟩
abbrev S4x32x128x16x128 : Shape := ⟨5, ![4, 32, 128, 16, 128]⟩
abbrev S4x32x16 : Shape := ⟨3, ![4, 32, 16]⟩
abbrev S4x32x1x16x1 : Shape := ⟨5, ![4, 32, 1, 16, 1]⟩
abbrev S4x4096x16x128 : Shape := ⟨4, ![4, 4096, 16, 128]⟩
abbrev S4x32x128x64 : Shape := ⟨4, ![4, 32, 128, 64]⟩
abbrev S4x4096x64 : Shape := ⟨3, ![4, 4096, 64]⟩
abbrev S4x4096x16x4 : Shape := ⟨4, ![4, 4096, 16, 4]⟩
abbrev S4x32x128x16 : Shape := ⟨4, ![4, 32, 128, 16]⟩
abbrev S4x4096x16 : Shape := ⟨3, ![4, 4096, 16]⟩
abbrev S4x4096x16x4x128 : Shape := ⟨5, ![4, 4096, 16, 4, 128]⟩
abbrev S4x16x4096x4096x4 : Shape := ⟨5, ![4, 16, 4096, 4096, 4]⟩
abbrev S4x16x4x4096x4096 : Shape := ⟨5, ![4, 16, 4, 4096, 4096]⟩
abbrev S4x16x4x4096 : Shape := ⟨4, ![4, 16, 4, 4096]⟩
abbrev S4x16x4x4096x1 : Shape := ⟨5, ![4, 16, 4, 4096, 1]⟩
abbrev S4x16x4096 : Shape := ⟨3, ![4, 16, 4096]⟩
abbrev S4x16x1x1x4096 : Shape := ⟨5, ![4, 16, 1, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096x16x1 : Shape := ⟨4, ![4, 4096, 16, 1]⟩
abbrev S4x16x4x4096x128 : Shape := ⟨5, ![4, 16, 4, 4096, 128]⟩
abbrev S4x32x16x4 : Shape := ⟨4, ![4, 32, 16, 4]⟩
abbrev S4x16x4x32 : Shape := ⟨4, ![4, 16, 4, 32]⟩
abbrev S4x16x4x32x1 : Shape := ⟨5, ![4, 16, 4, 32, 1]⟩
abbrev S4x16x4x32x128 : Shape := ⟨5, ![4, 16, 4, 32, 128]⟩
abbrev S4x16x32 : Shape := ⟨3, ![4, 16, 32]⟩
abbrev S4x16x32x1 : Shape := ⟨4, ![4, 16, 32, 1]⟩
abbrev S4x16x32x128 : Shape := ⟨4, ![4, 16, 32, 128]⟩

abbrev nBuf : Space → Nat
  | .hbm => 201
  | .vmem => 0
  | .smem => 0
  | _ => 0

abbrev hbmTy0_0 (i : Nat) : BufTy := match i % 128 with
  | 0 => ⟨S4x4096x8192, .bf16⟩
  | 1 => ⟨S4x4096x2048, .bf16⟩
  | 2 => ⟨S4x4096x2048, .bf16⟩
  | 3 => ⟨S4x4096x8192, .f32⟩
  | 4 => ⟨S4x32x128x64x128, .f32⟩
  | 5 => ⟨S4x32x128x64x128, .f32⟩
  | 6 => ⟨S_, .f32⟩
  | 7 => ⟨S4x32x64, .f32⟩
  | 8 => ⟨S_, .f32⟩
  | 9 => ⟨S4x32x64, .f32⟩
  | 10 => ⟨S_, .f32⟩
  | 11 => ⟨S4x32x64, .f32⟩
  | 12 => ⟨S4x32x64, .f32⟩
  | 13 => ⟨S4x32x64, .f32⟩
  | 14 => ⟨S4x32x64, .f32⟩
  | 15 => ⟨S4x32x64, .f32⟩
  | 16 => ⟨S4x32x64, .f32⟩
  | 17 => ⟨S_, .f32⟩
  | 18 => ⟨S4x32x64, .f32⟩
  | 19 => ⟨S4x32x64, .f32⟩
  | 20 => ⟨S_, .f32⟩
  | 21 => ⟨S4x32x64, .f32⟩
  | 22 => ⟨S4x32x64, .i1⟩
  | 23 => ⟨S_, .f32⟩
  | 24 => ⟨S_, .f32⟩
  | 25 => ⟨S4x32x64, .f32⟩
  | 26 => ⟨S4x32x64, .f32⟩
  | 27 => ⟨S4x32x64, .f32⟩
  | 28 => ⟨S4x32x64, .f32⟩
  | 29 => ⟨S4x32x1x64x1, .f32⟩
  | 30 => ⟨S4x32x128x64x128, .f32⟩
  | 31 => ⟨S4x32x128x64x128, .f32⟩
  | 32 => ⟨S_, .f32⟩
  | 33 => ⟨S_, .f32⟩
  | 34 => ⟨S_, .f32⟩
  | 35 => ⟨S4x32x128x64x128, .f32⟩
  | 36 => ⟨S4x32x128x64x128, .f32⟩
  | 37 => ⟨S_, .f32⟩
  | 38 => ⟨S4x32x128x64x128, .f32⟩
  | 39 => ⟨S4x32x128x64x128, .f32⟩
  | 40 => ⟨S4x4096x64x128, .f32⟩
  | 41 => ⟨S4x32x64, .f32⟩
  | 42 => ⟨S4x4096x2048, .f32⟩
  | 43 => ⟨S4x32x128x16x128, .f32⟩
  | 44 => ⟨S4x32x128x16x128, .f32⟩
  | 45 => ⟨S_, .f32⟩
  | 46 => ⟨S4x32x16, .f32⟩
  | 47 => ⟨S_, .f32⟩
  | 48 => ⟨S4x32x16, .f32⟩
  | 49 => ⟨S_, .f32⟩
  | 50 => ⟨S4x32x16, .f32⟩
  | 51 => ⟨S4x32x16, .f32⟩
  | 52 => ⟨S4x32x16, .f32⟩
  | 53 => ⟨S4x32x16, .f32⟩
  | 54 => ⟨S4x32x16, .f32⟩
  | 55 => ⟨S4x32x16, .f32⟩
  | 56 => ⟨S_, .f32⟩
  | 57 => ⟨S4x32x16, .f32⟩
  | 58 => ⟨S4x32x16, .f32⟩
  | 59 => ⟨S_, .f32⟩
  | 60 => ⟨S4x32x16, .f32⟩
  | 61 => ⟨S4x32x16, .i1⟩
  | 62 => ⟨S_, .f32⟩
  | 63 => ⟨S_, .f32⟩
  | 64 => ⟨S4x32x16, .f32⟩
  | 65 => ⟨S4x32x16, .f32⟩
  | 66 => ⟨S4x32x16, .f32⟩
  | 67 => ⟨S4x32x16, .f32⟩
  | 68 => ⟨S4x32x1x16x1, .f32⟩
  | 69 => ⟨S4x32x128x16x128, .f32⟩
  | 70 => ⟨S4x32x128x16x128, .f32⟩
  | 71 => ⟨S_, .f32⟩
  | 72 => ⟨S_, .f32⟩
  | 73 => ⟨S_, .f32⟩
  | 74 => ⟨S4x32x128x16x128, .f32⟩
  | 75 => ⟨S4x32x128x16x128, .f32⟩
  | 76 => ⟨S_, .f32⟩
  | 77 => ⟨S4x32x128x16x128, .f32⟩
  | 78 => ⟨S4x32x128x16x128, .f32⟩
  | 79 => ⟨S4x4096x16x128, .f32⟩
  | 80 => ⟨S4x32x16, .f32⟩
  | 81 => ⟨S4x4096x2048, .f32⟩
  | 82 => ⟨S4x32x128x16x128, .f32⟩
  | 83 => ⟨S4x32x128x16x128, .f32⟩
  | 84 => ⟨S_, .f32⟩
  | 85 => ⟨S4x32x16, .f32⟩
  | 86 => ⟨S_, .f32⟩
  | 87 => ⟨S4x32x16, .f32⟩
  | 88 => ⟨S_, .f32⟩
  | 89 => ⟨S4x32x16, .f32⟩
  | 90 => ⟨S4x32x16, .f32⟩
  | 91 => ⟨S4x32x16, .f32⟩
  | 92 => ⟨S4x32x16, .f32⟩
  | 93 => ⟨S4x32x16, .f32⟩
  | 94 => ⟨S4x32x16, .f32⟩
  | 95 => ⟨S_, .f32⟩
  | 96 => ⟨S4x32x16, .f32⟩
  | 97 => ⟨S4x32x16, .f32⟩
  | 98 => ⟨S_, .f32⟩
  | 99 => ⟨S4x32x16, .f32⟩
  | 100 => ⟨S4x32x16, .i1⟩
  | 101 => ⟨S_, .f32⟩
  | 102 => ⟨S_, .f32⟩
  | 103 => ⟨S4x32x16, .f32⟩
  | 104 => ⟨S4x32x16, .f32⟩
  | 105 => ⟨S4x32x16, .f32⟩
  | 106 => ⟨S4x32x16, .f32⟩
  | 107 => ⟨S4x32x1x16x1, .f32⟩
  | 108 => ⟨S4x32x128x16x128, .f32⟩
  | 109 => ⟨S4x32x128x16x128, .f32⟩
  | 110 => ⟨S_, .f32⟩
  | 111 => ⟨S_, .f32⟩
  | 112 => ⟨S_, .f32⟩
  | 113 => ⟨S4x32x128x16x128, .f32⟩
  | 114 => ⟨S4x32x128x16x128, .f32⟩
  | 115 => ⟨S_, .f32⟩
  | 116 => ⟨S4x32x128x16x128, .f32⟩
  | 117 => ⟨S4x32x128x16x128, .f32⟩
  | 118 => ⟨S4x4096x16x128, .f32⟩
  | 119 => ⟨S4x32x16, .f32⟩
  | 120 => ⟨S_, .f32⟩
  | 121 => ⟨S4x32x64, .f32⟩
  | 122 => ⟨S4x32x64, .f32⟩
  | 123 => ⟨S4x32x128x64, .f32⟩
  | 124 => ⟨S4x4096x64, .f32⟩
  | 125 => ⟨S4x4096x16x4, .f32⟩
  | 126 => ⟨S4x32x128x16, .f32⟩
  | 127 => ⟨S4x4096x16, .f32⟩
  | _ => ⟨S4x4096x8192, .bf16⟩

abbrev hbmTy0_1 (i : Nat) : BufTy := match i % 128 with
  | 0 => ⟨S4x32x128x16, .f32⟩
  | 1 => ⟨S4x4096x16, .f32⟩
  | 2 => ⟨S4x4096x16x4x128, .f32⟩
  | 3 => ⟨S4x16x4096x4096x4, .f32⟩
  | 4 => ⟨S4x16x4x4096x4096, .f32⟩
  | 5 => ⟨S4x16x4x4096, .f32⟩
  | 6 => ⟨S4x16x4x4096x1, .f32⟩
  | 7 => ⟨S4x16x4096, .f32⟩
  | 8 => ⟨S4x16x1x1x4096, .f32⟩
  | 9 => ⟨S4x16x4x4096x4096, .f32⟩
  | 10 => ⟨S4x16x4x4096x4096, .f32⟩
  | 11 => ⟨S4x16x4x4096x4096, .f32⟩
  | 12 => ⟨S4x16x4x4096x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S_, .f32⟩
  | 21 => ⟨S_, .f32⟩
  | 22 => ⟨S4x16x4x4096x4096, .i1⟩
  | 23 => ⟨S4x16x4x4096x4096, .f32⟩
  | 24 => ⟨S4x16x4x4096x4096, .f32⟩
  | 25 => ⟨S_, .f32⟩
  | 26 => ⟨S4x16x4x4096, .f32⟩
  | 27 => ⟨S4x16x4x4096x1, .f32⟩
  | 28 => ⟨S4x16x4x4096x4096, .f32⟩
  | 29 => ⟨S4x16x4x4096x4096, .f32⟩
  | 30 => ⟨S4x16x4x4096x4096, .f32⟩
  | 31 => ⟨S_, .f32⟩
  | 32 => ⟨S4x16x4x4096, .f32⟩
  | 33 => ⟨S4x16x4x4096x1, .f32⟩
  | 34 => ⟨S_, .f32⟩
  | 35 => ⟨S4x16x4x4096x4096, .f32⟩
  | 36 => ⟨S4x16x4x4096x4096, .f32⟩
  | 37 => ⟨S_, .f32⟩
  | 38 => ⟨S_, .f32⟩
  | 39 => ⟨S_, .f32⟩
  | 40 => ⟨S4x16x4x4096x4096, .f32⟩
  | 41 => ⟨S4x16x4x4096x4096, .f32⟩
  | 42 => ⟨S_, .f32⟩
  | 43 => ⟨S4x16x4x4096x4096, .f32⟩
  | 44 => ⟨S4x16x4x4096x4096, .f32⟩
  | 45 => ⟨S4x4096x16x1, .f32⟩
  | 46 => ⟨S4x4096x16x128, .f32⟩
  | 47 => ⟨S4x4096x16x128, .f32⟩
  | 48 => ⟨S4x16x4x4096x128, .f32⟩
  | 49 => ⟨S_, .f32⟩
  | 50 => ⟨S4x16x4x4096x128, .f32⟩
  | 51 => ⟨S4x16x4x4096x128, .f32⟩
  | 52 => ⟨S4x16x4x4096x128, .f32⟩
  | 53 => ⟨S4x16x4x4096x128, .f32⟩
  | 54 => ⟨S4x4096x16x4x128, .f32⟩
  | 55 => ⟨S4x4096x8192, .f32⟩
  | 56 => ⟨S4x4096x8192, .bf16⟩
  | 57 => ⟨S4x4096x8192, .f32⟩
  | 58 => ⟨S4x4096x8192, .fp8e4m3⟩
  | 59 => ⟨S4x32x16x4, .f32⟩
  | 60 => ⟨S4x16x4x32, .f32⟩
  | 61 => ⟨S4x16x4x32x1, .f32⟩
  | 62 => ⟨S4x16x4x32x128, .f32⟩
  | 63 => ⟨S4x4096x2048, .f32⟩
  | 64 => ⟨S4x4096x2048, .fp8e4m3⟩
  | 65 => ⟨S4x16x32, .f32⟩
  | 66 => ⟨S4x16x32x1, .f32⟩
  | 67 => ⟨S4x16x32x128, .f32⟩
  | 68 => ⟨S4x4096x2048, .f32⟩
  | 69 => ⟨S4x4096x2048, .fp8e4m3⟩
  | 70 => ⟨S4x16x32, .f32⟩
  | 71 => ⟨S4x16x32x1, .f32⟩
  | 72 => ⟨S4x16x32x128, .f32⟩
  | _ => ⟨S4x4096x8192, .bf16⟩

abbrev hbmTy (i : Nat) : BufTy := match i / 128 with
  | 0 => hbmTy0_0 i
  | 1 => hbmTy0_1 i
  | _ => ⟨S4x4096x8192, .bf16⟩

abbrev bufTy : (tb : Table) → Fin (tcTables nBuf tb) → BufTy
  | .hbm, ⟨i, _⟩ => hbmTy i
  | _, _ => ⟨S4x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩
abbrev main_cst_12 : Ref sig .tc := ⟨.hbm, 62, rfl⟩
abbrev main_call2_v0 : Ref sig .tc := ⟨.hbm, 63, rfl⟩
abbrev main_call2_v1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_13 : Ref sig .tc := ⟨.hbm, 71, rfl⟩
abbrev main_cst_14 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_15 : Ref sig .tc := ⟨.hbm, 84, rfl⟩
abbrev main_v51 : Ref sig .tc := ⟨.hbm, 85, rfl⟩
abbrev main_cst_16 : Ref sig .tc := ⟨.hbm, 86, rfl⟩
abbrev main_v52 : Ref sig .tc := ⟨.hbm, 87, rfl⟩
abbrev main_cst_17 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_18 : Ref sig .tc := ⟨.hbm, 95, rfl⟩
abbrev main_v59 : Ref sig .tc := ⟨.hbm, 96, rfl⟩
abbrev main_v60 : Ref sig .tc := ⟨.hbm, 97, rfl⟩
abbrev main_cst_19 : Ref sig .tc := ⟨.hbm, 98, rfl⟩
abbrev main_v61 : Ref sig .tc := ⟨.hbm, 99, rfl⟩
abbrev main_v62 : Ref sig .tc := ⟨.hbm, 100, rfl⟩
abbrev main_cst_20 : Ref sig .tc := ⟨.hbm, 101, rfl⟩
abbrev main_call4_v0 : Ref sig .tc := ⟨.hbm, 102, rfl⟩
abbrev main_call4_v1 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_21 : Ref sig .tc := ⟨.hbm, 110, rfl⟩
abbrev main_cst_22 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_23 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_24 : Ref sig .tc := ⟨.hbm, 148, rfl⟩
abbrev main_call6_v0 : Ref sig .tc := ⟨.hbm, 149, rfl⟩
abbrev main_call6_v1 : Ref sig .tc := ⟨.hbm, 150, rfl⟩
abbrev main_call6_v2 : Ref sig .tc := ⟨.hbm, 151, rfl⟩
abbrev main_v99 : Ref sig .tc := ⟨.hbm, 152, rfl⟩
abbrev main_cst_25 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_26 : Ref sig .tc := ⟨.hbm, 159, rfl⟩
abbrev main_v105 : Ref sig .tc := ⟨.hbm, 160, rfl⟩
abbrev main_v106 : Ref sig .tc := ⟨.hbm, 161, rfl⟩
abbrev main_cst_27 : Ref sig .tc := ⟨.hbm, 162, rfl⟩
abbrev main_v107 : Ref sig .tc := ⟨.hbm, 163, rfl⟩
abbrev main_v108 : Ref sig .tc := ⟨.hbm, 164, rfl⟩
abbrev main_cst_28 : Ref sig .tc := ⟨.hbm, 165, rfl⟩
abbrev main_cst_29 : Ref sig .tc := ⟨.hbm, 166, rfl⟩
abbrev main_call7_v0 : Ref sig .tc := ⟨.hbm, 167, rfl⟩
abbrev main_call7_v1 : Ref sig .tc := ⟨.hbm, 168, rfl⟩
abbrev main_call7_v2 : Ref sig .tc := ⟨.hbm, 169, rfl⟩
abbrev main_call7_v3 : Ref sig .tc := ⟨.hbm, 170, rfl⟩
abbrev main_call7_v4 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_30 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩

abbrev nD : Nat := 1
abbrev τ : Topo := Topo.v7x

variable {F : FTy → Type} [FloatOps F]
-- ==== Proof.Bits.Model.lean ====
/- What one grid point of `Kernel` computes, as functions of its three input blocks: the quantised blocks and scales of
   q, k and v, the running (accumulator, maximum, sum) of one query tile over the key tiles, and the output tile. Every
   pure value is a payload of the generated skeleton; a tile of a buffer is a window of 128 rows. -/
module

public import proofs.«01_k».proof.Proof.Gen.Kernel.Skeleton
public import Idealize.ShloMosaic.Lib.VecWindow

@[expose] public section

set_option maxRecDepth 16384

noncomputable section

namespace Cert.Proof.Bits

open Cert.Kernel Cert.Kernel.Gen Idealize.ShloMosaic Idealize.SL.Sem

variable {F : FTy → Type} [FloatOps F]

/-! ## Windows -/

/-- Tile `j` of a [1, 4096, 128] block lies inside it. -/
theorem inbK : ∀ (j : Fin 32) (a : Fin 3), (![0, 128 * j.val, 0] : Fin 3 → ℕ) a + S1x128x128.size a ≤ S1x4096x128.size a := by decide +kernel

/-- Tile `i`, head `g` of a [1, 4096, 512] block lies inside it. -/
theorem inbQ : ∀ (i : Fin 32) (g : Fin 4) (a : Fin 3), (![0, 128 * i.val, 128 * g.val] : Fin 3 → ℕ) a + S1x128x128.size a ≤ S1x4096x512.size a := by decide +kernel

/-- Row `j` of a [1, 1, 32, 128] scale block lies inside it. -/
theorem inbS : ∀ (j : Fin 32) (a : Fin 4), (![0, 0, j.val, 0] : Fin 4 → ℕ) a + S1x1x1x128.size a ≤ S1x1x32x128.size a := by decide +kernel

/-- Row `i` of head `g` of a [1, 1, 4, 32, 128] scale block lies inside it. -/
theorem inbR : ∀ (i : Fin 32) (g : Fin 4) (a : Fin 5), (![0, 0, g.val, i.val, 0] : Fin 5 → ℕ) a + S1x1x1x1x128.size a ≤ S1x1x4x32x128.size a := by decide +kernel

/-- Slab `j` of the [32, 128, 128] scratch lies inside it. -/
theorem inbT : ∀ (j : Fin 32) (a : Fin 3), (![j.val, 0, 0] : Fin 3 → ℕ) a + S1x128x128.size a ≤ S32x128x128.size a := by decide +kernel

/-- Tile `j` of a [1, 4096, 128] block. -/
abbrev tK {α : Type} (x : S1x4096x128.Idx → α) (j : Fin 32) : S1x128x128.Idx → α := VecWindow.window x ![0, 128 * j.val, 0] S1x128x128.size (inbK j)

/-- Tile `i`, head `g` of a [1, 4096, 512] block. -/
abbrev tQ {α : Type} (x : S1x4096x512.Idx → α) (i : Fin 32) (g : Fin 4) : S1x128x128.Idx → α :=
  VecWindow.window x ![0, 128 * i.val, 128 * g.val] S1x128x128.size (inbQ i g)

/-- Row `j` of a scale block. -/
abbrev tS {α : Type} (x : S1x1x32x128.Idx → α) (j : Fin 32) : S1x1x1x128.Idx → α := VecWindow.window x ![0, 0, j.val, 0] S1x1x1x128.size (inbS j)

/-- Row `i` of head `g` of a q-scale block. -/
abbrev tR {α : Type} (x : S1x1x4x32x128.Idx → α) (i : Fin 32) (g : Fin 4) : S1x1x1x1x128.Idx → α :=
  VecWindow.window x ![0, 0, g.val, i.val, 0] S1x1x1x1x128.size (inbR i g)

/-- Slab `j` of the transposed v codes. -/
abbrev tT {α : Type} (x : S32x128x128.Idx → α) (j : Fin 32) : S1x128x128.Idx → α := VecWindow.window x ![j.val, 0, 0] S1x128x128.size (inbT j)

/-! ## The quantised tiles -/

/-- The codes of a k tile. -/
def kc (b : FVec F S1x128x128 .bf16) : FVec F S1x128x128 .fp8e4m3 := k0_pay14 (k0_pay13 b)
/-- The scale row of a k tile. -/
def ks (b : FVec F S1x128x128 .bf16) : FVec F S1x1x1x128 .f32 := k0_pay15 (k0_pay12 b)
/-- The codes of a v tile. -/
def vc (b : FVec F S1x128x128 .bf16) : FVec F S1x128x128 .fp8e4m3 := k0_pay3 (k0_pay16 b) (k0_pay17 b) (k0_pay19 b) (k0_pay20 b) (k0_pay21 b)
/-- The transposed codes of a v tile. -/
def vt (b : FVec F S1x128x128 .bf16) : FVec F S1x128x128 .fp8e4m3 := k0_pay4 (k0_pay16 b) (k0_pay17 b) (k0_pay19 b) (k0_pay20 b) (k0_pay21 b)
/-- The scale row of a v tile. -/
def vs (b : FVec F S1x128x128 .bf16) : FVec F S1x1x1x128 .f32 := k0_pay5 (k0_pay17 b) (k0_pay19 b) (k0_pay20 b) (k0_pay21 b)

/-- The codes of a q tile of head `g`. -/
def qc (g : Fin 4) (b : FVec F S1x128x128 .bf16) : FVec F S1x128x128 .fp8e4m3 :=
  match g with
  | 0 => k0_pay41 (k0_pay39 b)
  | 1 => k0_pay52 (k0_pay46 b) (k0_pay47 b) (k0_pay48 b) (k0_pay49 b)
  | 2 => k0_pay61 (k0_pay57 b) (k0_pay58 b)
  | 3 => k0_pay73 (k0_pay66 b) (k0_pay67 b) (k0_pay68 b) (k0_pay69 b) (Scalar.ofBits .f32 0x3FB8AA3B#32)
/-- The transposed codes of a q tile of head `g`. -/
def qt (g : Fin 4) (b : FVec F S1x128x128 .bf16) : FVec F S128x128 .fp8e4m3 :=
  match g with
  | 0 => k0_pay42 (k0_pay39 b)
  | 1 => k0_pay53 (k0_pay46 b) (k0_pay47 b) (k0_pay48 b) (k0_pay49 b)
  | 2 => k0_pay62 (k0_pay57 b) (k0_pay58 b)
  | 3 => k0_pay74 (k0_pay66 b) (k0_pay67 b) (k0_pay68 b) (k0_pay69 b) (Scalar.ofBits .f32 0x3FB8AA3B#32)
/-- The scale row of a q tile of head `g`. -/
def qs (g : Fin 4) (b : FVec F S1x128x128 .bf16) : FVec F S1x1x1x1x128 .f32 :=
  match g with
  | 0 => k0_pay44 (k0_pay38 b)
  | 1 => k0_pay55 (k0_pay54 (k0_pay47 b) (k0_pay48 b) (k0_pay49 b))
  | 2 => k0_pay64 (k0_pay59 b)
  | 3 => k0_pay76 (k0_pay71 (k0_pay67 b) (k0_pay68 b) (k0_pay69 b) (Scalar.ofBits .f32 0x3FB8AA3B#32))

/-- The four heads' q scales times 1/√128, side by side. -/
def qrow (b : Fin 4 → FVec F S1x128x128 .bf16) : FVec F S1x512 .f32 :=
  k0_pay77 (k0_pay45 (k0_pay38 (b 0))) (k0_pay56 (k0_pay54 (k0_pay47 (b 1)) (k0_pay48 (b 1)) (k0_pay49 (b 1)))) (k0_pay65 (k0_pay59 (b 2)))
    (k0_pay71 (k0_pay67 (b 3)) (k0_pay68 (b 3)) (k0_pay69 (b 3)) (Scalar.ofBits .f32 0x3FB8AA3B#32))

/-- The head of a column of [128, 512]. -/
theorem d512 (y : S128x512.Idx) : (y 1).val / 128 < 4 := by have h : (y 1).val < 512 := (y 1).isLt; omega

/-- A column of [128, 512] inside its head: `(row, column mod 128)`. -/
def colIn (y : S128x512.Idx) : S128x128.Idx := fun a => match a with
  | ⟨0, _⟩ => ⟨(y 0).val, (y 0).isLt⟩
  | ⟨1, _⟩ => ⟨(y 1).val % 128, Nat.mod_lt _ (by decide)⟩

/-- The four heads' transposed q codes, side by side. -/
def qtAll (b : Fin 4 → FVec F S1x128x128 .bf16) : FVec F S128x512 .fp8e4m3 :=
  fun y => qt ⟨(y 1).val / 128, d512 y⟩ (b ⟨(y 1).val / 128, d512 y⟩) (colIn y)

/-! ## The running softmax of one query tile -/

/-- The running state of one query tile: accumulator, maximum, sum. -/
structure St (F : FTy → Type) where
  /-- the weighted sum of the v codes -/
  acc : FVec F S128x512 .f32
  /-- the running maximum -/
  m : FVec F S1x512 .f32
  /-- the running sum -/
  l : FVec F S1x512 .f32

/-- The state before any key tile. -/
def st0 : St F := ⟨k0_pay80, k0_pay78, k0_pay79⟩

/-- One key tile below the diagonal: its k codes and scale, its transposed v codes and v scale. -/
def stepU (c : FVec F S1x512 .f32) (q : FVec F S128x512 .fp8e4m3) (K : FVec F S1x128x128 .fp8e4m3) (kS : FVec F S1x1x1x128 .f32)
    (V : FVec F S1x128x128 .fp8e4m3) (vS : FVec F S1x1x1x128 .f32) (s : St F) : St F :=
  ⟨k0_pay82 (k0_pay23 vS) (k0_pay26 c K q kS s.m) (k0_pay27 c K q kS s.m) V s.acc, k0_pay83 (k0_pay25 c K q kS s.m),
    k0_pay81 (k0_pay28 c K q kS s.m s.l)⟩

/-- The key tile on the diagonal, masked above it. -/
def stepD (c : FVec F S1x512 .f32) (q : FVec F S128x512 .fp8e4m3) (K : FVec F S1x128x128 .fp8e4m3) (kS : FVec F S1x1x1x128 .f32)
    (V : FVec F S1x128x128 .fp8e4m3) (vS : FVec F S1x1x1x128 .f32) (s : St F) : St F :=
  ⟨k0_pay96 (k0_pay89 vS) (k0_pay92 k0_pay6 c (k0_pay87 K) q kS s.m) (k0_pay93 k0_pay6 c (k0_pay87 K) q kS s.m)
      (Scalar.ofBits .f32 0x43E00000#32) k0_pay95 V s.acc,
    k0_pay97 (k0_pay91 k0_pay6 c (k0_pay87 K) q kS s.m), k0_pay94 k0_pay6 c (k0_pay87 K) q kS s.m s.l⟩

/-- The state after the first `n` key tiles below the diagonal. -/
def iter (c : FVec F S1x512 .f32) (q : FVec F S128x512 .fp8e4m3) (xk xv : FVec F S1x4096x128 .bf16) : ℕ → St F
  | 0 => st0
  | n + 1 => if h : n < 32 then
      stepU c q (kc (tK xk ⟨n, h⟩)) (ks (tK xk ⟨n, h⟩)) (vt (tK xv ⟨n, h⟩)) (vs (tK xv ⟨n, h⟩)) (iter c q xk xv n)
    else iter c q xk xv n

/-- The final state of query tile `i`. -/
def fin (xq : FVec F S1x4096x512 .bf16) (xk xv : FVec F S1x4096x128 .bf16) (i : Fin 32) : St F :=
  stepD (qrow (tQ xq i)) (qtAll (tQ xq i)) (kc (tK xk i)) (ks (tK xk i)) (vt (tK xv i)) (vs (tK xv i))
    (iter (qrow (tQ xq i)) (qtAll (tQ xq i)) xk xv i.val)

/-- Head `g` of the output tile of a final state. -/
def yOf (s : St F) (g : Fin 4) : FVec F S1x128x128 .bf16 :=
  match g with
  | 0 => k0_pay99 s.acc s.l
  | 1 => k0_pay7 (k0_pay100 s.acc s.l)
  | 2 => k0_pay8 (k0_pay98 s.acc s.l)
  | 3 => k0_pay9 (k0_pay98 s.acc s.l)

/-! ## Blocks assembled from their tiles -/

/-- A place inside a 128×128 tile. -/
def cell (r c : ℕ) (hr : r < 128) (hc : c < 128) : S1x128x128.Idx := fun a => match a with
  | ⟨0, _⟩ => ⟨0, Nat.zero_lt_one⟩
  | ⟨1, _⟩ => ⟨r, hr⟩
  | ⟨2, _⟩ => ⟨c, hc⟩

/-- The tile of a row of [1, 4096, 128]. -/
theorem dK (y : S1x4096x128.Idx) : (y 1).val / 128 < 32 := by have h : (y 1).val < 4096 := (y 1).isLt; omega
/-- The tile of a row of [1, 4096, 512]. -/
theorem dQ1 (y : S1x4096x512.Idx) : (y 1).val / 128 < 32 := by have h : (y 1).val < 4096 := (y 1).isLt; omega
/-- The head of a column of [1, 4096, 512]. -/
theorem dQ2 (y : S1x4096x512.Idx) : (y 2).val / 128 < 4 := by have h : (y 2).val < 512 := (y 2).isLt; omega

/-- A [1, 4096, 128] block from its tiles. -/
def asmK {α : Type} (w : Fin 32 → S1x128x128.Idx → α) : S1x4096x128.Idx → α := fun y =>
  w ⟨(y 1).val / 128, dK y⟩ (cell ((y 1).val % 128) (y 2).val (Nat.mod_lt _ (by decide)) (y 2).isLt)

/-- A [1, 4096, 512] block from its tiles. -/
def asmQ {α : Type} (w : Fin 32 → Fin 4 → S1x128x128.Idx → α) : S1x4096x512.Idx → α := fun y =>
  w ⟨(y 1).val / 128, dQ1 y⟩ ⟨(y 2).val / 128, dQ2 y⟩
    (cell ((y 1).val % 128) ((y 2).val % 128) (Nat.mod_lt _ (by decide)) (Nat.mod_lt _ (by decide)))

/-- A [1, 1, 32, 128] scale block from its rows. -/
def asmS {α : Type} (w : Fin 32 → S1x1x1x128.Idx → α) : S1x1x32x128.Idx → α := fun y =>
  w ⟨(y 2).val, (y 2).isLt⟩ (fun a => match a with
    | ⟨0, _⟩ => ⟨0, Nat.zero_lt_one⟩
    | ⟨1, _⟩ => ⟨0, Nat.zero_lt_one⟩
    | ⟨2, _⟩ => ⟨0, Nat.zero_lt_one⟩
    | ⟨3, _⟩ => ⟨(y 3).val, (y 3).isLt⟩)

/-- A [1, 1, 4, 32, 128] scale block from its rows. -/
def asmR {α : Type} (w : Fin 32 → Fin 4 → S1x1x1x1x128.Idx → α) : S1x1x4x32x128.Idx → α := fun y =>
  w ⟨(y 3).val, (y 3).isLt⟩ ⟨(y 2).val, (y 2).isLt⟩ (fun a => match a with
    | ⟨0, _⟩ => ⟨0, Nat.zero_lt_one⟩
    | ⟨1, _⟩ => ⟨0, Nat.zero_lt_one⟩
    | ⟨2, _⟩ => ⟨0, Nat.zero_lt_one⟩
    | ⟨3, _⟩ => ⟨0, Nat.zero_lt_one⟩
    | ⟨4, _⟩ => ⟨(y 4).val, (y 4).isLt⟩)

/-- A block whose tiles are `w` is the block assembled from `w`. -/
theorem eq_asmK {α : Type} (x : S1x4096x128.Idx → α) (w : Fin 32 → S1x128x128.Idx → α) (h : ∀ j, tK x j = w j) : x = asmK w := by
  funext y
  refine Eq.trans ?_ (congrFun (h _) _)
  refine congrArg x (funext fun a => Fin.ext ?_)
  have h0 : (y 0).val < 1 := (y 0).isLt
  match a with
  | ⟨0, _⟩ => show (y 0).val = 0 + 1 * 0; omega
  | ⟨1, _⟩ => show (y 1).val = 128 * ((y 1).val / 128) + 1 * ((y 1).val % 128); omega
  | ⟨2, _⟩ => show (y 2).val = 0 + 1 * (y 2).val; omega

/-- A block whose tiles are `w` is the block assembled from `w`. -/
theorem eq_asmQ {α : Type} (x : S1x4096x512.Idx → α) (w : Fin 32 → Fin 4 → S1x128x128.Idx → α) (h : ∀ i g, tQ x i g = w i g) : x = asmQ w := by
  funext y
  refine Eq.trans ?_ (congrFun (h _ _) _)
  refine congrArg x (funext fun a => Fin.ext ?_)
  have h0 : (y 0).val < 1 := (y 0).isLt
  match a with
  | ⟨0, _⟩ => show (y 0).val = 0 + 1 * 0; omega
  | ⟨1, _⟩ => show (y 1).val = 128 * ((y 1).val / 128) + 1 * ((y 1).val % 128); omega
  | ⟨2, _⟩ => show (y 2).val = 128 * ((y 2).val / 128) + 1 * ((y 2).val % 128); omega

/-- A scale block whose rows are `w` is the block assembled from `w`. -/
theorem eq_asmS {α : Type} (x : S1x1x32x128.Idx → α) (w : Fin 32 → S1x1x1x128.Idx → α) (h : ∀ j, tS x j = w j) : x = asmS w := by
  funext y
  refine Eq.trans ?_ (congrFun (h _) _)
  refine congrArg x (funext fun a => Fin.ext ?_)
  have h0 : (y 0).val < 1 := (y 0).isLt
  have h1 : (y 1).val < 1 := (y 1).isLt
  match a with
  | ⟨0, _⟩ => show (y 0).val = 0 + 1 * 0; omega
  | ⟨1, _⟩ => show (y 1).val = 0 + 1 * 0; omega
  | ⟨2, _⟩ => show (y 2).val = (y 2).val + 1 * 0; omega
  | ⟨3, _⟩ => show (y 3).val = 0 + 1 * (y 3).val; omega

/-- A scale block whose rows are `w` is the block assembled from `w`. -/
theorem eq_asmR {α : Type} (x : S1x1x4x32x128.Idx → α) (w : Fin 32 → Fin 4 → S1x1x1x1x128.Idx → α) (h : ∀ i g, tR x i g = w i g) : x = asmR w := by
  funext y
  refine Eq.trans ?_ (congrFun (h _ _) _)
  refine congrArg x (funext fun a => Fin.ext ?_)
  have h0 : (y 0).val < 1 := (y 0).isLt
  have h1 : (y 1).val < 1 := (y 1).isLt
  match a with
  | ⟨0, _⟩ => show (y 0).val = 0 + 1 * 0; omega
  | ⟨1, _⟩ => show (y 1).val = 0 + 1 * 0; omega
  | ⟨2, _⟩ => show (y 2).val = (y 2).val + 1 * 0; omega
  | ⟨3, _⟩ => show (y 3).val = (y 3).val + 1 * 0; omega
  | ⟨4, _⟩ => show (y 4).val = 0 + 1 * (y 4).val; omega

end Cert.Proof.Bits

end
-- ==== Proof.Bits.TripA.lean ====
/- The first loop of `Kernel`'s body: one trip quantises tile `k` of k and v, and after the 32 trips every tile of the
   code, scale and transposed-code buffers holds its quantised tile. -/
module

public import proofs.«01_k».proof.Proof.Bits.Model
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A memref's elements in full. -/
abbrev pt (c : Dev nD) {s : Shape} {e : EltTy} (a : Memref sig .tc .vmem s e) (f : BufTy.Contents (Elt F) a.view.ty) : sProp 𝕄G :=
  iprop(a.view.loc (c : Thread nD τ) ↦[a.view.set]{fullShare} f)

/-- A memref's elements in full, what it reads satisfying `P`. -/
def held (c : Dev nD) {s : Shape} {e : EltTy} (a : Memref sig .tc .vmem s e) (P : (s.Idx → Elt F e) → Prop) : sProp 𝕄G :=
  iprop(∃ f, ⌜P (a.view.read (Elt F) f)⌝ ∗ pt c a f)

/-- One store through a window, read back. -/
theorem read_upd {sig : RefSig} {κ : Kind} {sp : Space} {s : Shape} {e : EltTy} {Val : EltTy → Type} (v : View sig κ sp s e) (f : v.ty.Contents Val)
    {off off' size : Fin s.rank → ℕ} (inb : ∀ a, off a + size a ≤ s.size a) (w : (Rect.unit off size inb).shape.Idx → Val e) (h : off = off')
    {w' : ((a : Fin s.rank) → Fin (size a)) → Val e} (hw : w = w') :
    v.read Val (v.writes Val f [⟨Rect.unit off size inb, w⟩]) = VecWindow.put (v.read Val f) off' size w' := by
  subst hw; exact View.read_writes_cons_put v f inb w [] h

/-- The first `k` windows are known and window `k` is put: the first `k + 1` are known. -/
theorem grow {α : Type} {s : Shape} {off : Fin 32 → Fin s.rank → ℕ} {size : Fin s.rank → ℕ} {x y : s.Idx → α}
    (w : Fin 32 → ((a : Fin s.rank) → Fin (size a)) → α) (inb : ∀ j a, off j a + size a ≤ s.size a)
    (sep : ∃ a, ∀ i j : Fin 32, i ≠ j → off i a + size a ≤ off j a ∨ off j a + size a ≤ off i a) (k : Fin 32)
    (e : y = VecWindow.put x (off k) size (w k)) (h : ∀ j : Fin 32, j.val < k.val → VecWindow.window x (off j) size (inb j) = w j) :
    ∀ j : Fin 32, j.val < k.val + 1 → VecWindow.window y (off j) size (inb j) = w j := by
  intro j hj
  subst e
  by_cases hjk : j = k
  · subst hjk; exact VecWindow.window_put_same _ _ _ _ _
  · obtain ⟨a, ha⟩ := sep
    rw [VecWindow.window_put_of_disjoint _ _ _ _ _ _ _ a (ha j k hjk)]
    exact h j (by have : j.val ≠ k.val := fun e => hjk (Fin.ext e); omega)

/-- Distinct tiles lie apart. -/
theorem sepK : ∀ i j : Fin 32, i ≠ j → (![0, 128 * i.val, 0] : Fin 3 → ℕ) 1 + S1x128x128.size 1 ≤ (![0, 128 * j.val, 0] : Fin 3 → ℕ) 1
    ∨ (![0, 128 * j.val, 0] : Fin 3 → ℕ) 1 + S1x128x128.size 1 ≤ (![0, 128 * i.val, 0] : Fin 3 → ℕ) 1 := by decide +kernel
/-- Distinct rows lie apart. -/
theorem sepS : ∀ i j : Fin 32, i ≠ j → (![0, 0, i.val, 0] : Fin 4 → ℕ) 2 + S1x1x1x128.size 2 ≤ (![0, 0, j.val, 0] : Fin 4 → ℕ) 2
    ∨ (![0, 0, j.val, 0] : Fin 4 → ℕ) 2 + S1x1x1x128.size 2 ≤ (![0, 0, i.val, 0] : Fin 4 → ℕ) 2 := by decide +kernel
/-- Distinct slabs lie apart. -/
theorem sepT : ∀ i j : Fin 32, i ≠ j → (![i.val, 0, 0] : Fin 3 → ℕ) 0 + S1x128x128.size 0 ≤ (![j.val, 0, 0] : Fin 3 → ℕ) 0
    ∨ (![j.val, 0, 0] : Fin 3 → ℕ) 0 + S1x128x128.size 0 ≤ (![i.val, 0, 0] : Fin 3 → ℕ) 0 := by decide +kernel

/-- A trip of the first loop as a tile number. -/
abbrev n1 (k : Fin k0_t1_loop.trips) : Fin 32 := ⟨k.val, Nat.lt_of_lt_of_le k.isLt k0_t1_abs.2.1⟩

variable (𝒱 : Variants) (c : Dev nD) (bd : Option 𝒱.V) (E : Set ℕ) (i : grid0.Coords)
  (arg2 : Memref sig .tc .vmem S1x4096x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x4096x512 .bf16) (harg5 : arg5.IsWhole)
  (arg6 : Memref sig .tc .vmem S1x4096x512 .fp8e4m3) (harg6 : arg6.IsWhole) (arg7 : Memref sig .tc .vmem S1x1x4x32x128 .f32) (harg7 : arg7.IsWhole)
  (arg8 : Memref sig .tc .vmem S1x4096x128 .fp8e4m3) (harg8 : arg8.IsWhole) (arg9 : Memref sig .tc .vmem S1x1x32x128 .f32) (harg9 : arg9.IsWhole)
  (arg10 : Memref sig .tc .vmem S1x4096x128 .fp8e4m3) (harg10 : arg10.IsWhole) (arg11 : Memref sig .tc .vmem S1x1x32x128 .f32) (harg11 : arg11.IsWhole)
  (arg12 : Memref sig .tc .vmem S32x128x128 .fp8e4m3) (harg12 : arg12.IsWhole) (arg13 : Memref sig .tc .vmem S128x512 .fp8e4m3) (harg13 : arg13.IsWhole)
  (arg14 : Memref sig .tc .vmem S128x512 .f32) (harg14 : arg14.IsWhole) (arg15 : Memref sig .tc .vmem S1x512 .f32) (harg15 : arg15.IsWhole)
  (arg16 : Memref sig .tc .vmem S1x512 .f32) (harg16 : arg16.IsWhole)

/-- One trip: tile `k` of every written buffer becomes the quantised tile, nothing else changes. -/
theorem trip1 (f3 f4 f8 f9 f10 f11 f12) (k : Fin k0_t1_loop.trips) :
    (iprop(pt c arg3 f3 ∗ pt c arg4 f4 ∗ pt c arg8 f8 ∗ pt c arg9 f9 ∗ pt c arg10 f10 ∗ pt c arg11 f11 ∗ pt c arg12 f12) : sProp 𝕄G)
      ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k PUnit.unit)
        (fun _ => iprop(pt c arg3 f3 ∗ pt c arg4 f4
          ∗ (∃ g8, pt c arg8 g8 ∗ ⌜arg8.view.read (Elt F) g8 = VecWindow.put (arg8.view.read (Elt F) f8) ![0, 128 * (n1 k).val, 0] S1x128x128.size (kc (tK (arg3.view.read (Elt F) f3) (n1 k)))⌝)
          ∗ (∃ g9, pt c arg9 g9 ∗ ⌜arg9.view.read (Elt F) g9 = VecWindow.put (arg9.view.read (Elt F) f9) ![0, 0, (n1 k).val, 0] S1x1x1x128.size (ks (tK (arg3.view.read (Elt F) f3) (n1 k)))⌝)
          ∗ (∃ g10, pt c arg10 g10 ∗ ⌜arg10.view.read (Elt F) g10 = VecWindow.put (arg10.view.read (Elt F) f10) ![0, 128 * (n1 k).val, 0] S1x128x128.size (vc (tK (arg4.view.read (Elt F) f4) (n1 k)))⌝)
          ∗ (∃ g11, pt c arg11 g11 ∗ ⌜arg11.view.read (Elt F) g11 = VecWindow.put (arg11.view.read (Elt F) f11) ![0, 0, (n1 k).val, 0] S1x1x1x128.size (vs (tK (arg4.view.read (Elt F) f4) (n1 k)))⌝)
          ∗ (∃ g12, pt c arg12 g12 ∗ ⌜arg12.view.read (Elt F) g12 = VecWindow.put (arg12.view.read (Elt F) f12) ![(n1 k).val, 0, 0] S1x128x128.size (vt (tK (arg4.view.read (Elt F) f4) (n1 k)))⌝))) := by
  have hk : k.val < 32 := Nat.lt_of_lt_of_le k.isLt k0_t1_abs.2.1
  unfold k0_t1_body
  iintro ⟨H3, H4, H8, H9, H10, H11, H12⟩
  sl_exec
  sl_step
  have e3 := View.readAt_unit arg3.view f3 (k0_off1_inb k) (k0_off1_eq k) (inbK (n1 k))
  have e4 := View.readAt_unit arg4.view f4 (k0_off1_inb k) (k0_off1_eq k) (inbK (n1 k))
  isplitl [H3]; · iexact H3
  isplitl [H4]; · iexact H4
  isplitl [H8]
  · iexists _; isplitl [H8]; · iexact H8
    ipureintro; exact read_upd _ _ _ _ (k0_off1_eq k) (Eq.trans rfl (congrArg kc e3))
  isplitl [H9]
  · iexists _; isplitl [H9]; · iexact H9
    ipureintro; exact read_upd _ _ _ _ (k0_off2_eq k) (Eq.trans rfl (congrArg ks e3))
  isplitl [H10]
  · iexists _; isplitl [H10]; · iexact H10
    ipureintro; exact read_upd _ _ _ _ (k0_off1_eq k) (Eq.trans rfl (congrArg vc e4))
  isplitl [H11]
  · iexists _; isplitl [H11]; · iexact H11
    ipureintro; exact read_upd _ _ _ _ (k0_off2_eq k) (Eq.trans rfl (congrArg vs e4))
  iexists _; isplitl [H12]; · iexact H12
  ipureintro; exact read_upd _ _ _ _ (k0_off3_eq k) (Eq.trans rfl (congrArg vt e4))

/-- The invariant: before trip `k` the first `k` tiles of every written buffer are the quantised tiles. -/
def inv1 (X3 X4 : FVec F S1x4096x128 .bf16) (k : ℕ) (_ : PUnit) : sProp 𝕄G :=
  iprop(held c arg3 (fun x => x = X3) ∗ held c arg4 (fun x => x = X4)
    ∗ held c arg8 (fun x => ∀ j : Fin 32, j.val < k → tK x j = kc (tK X3 j))
    ∗ held c arg9 (fun x => ∀ j : Fin 32, j.val < k → tS x j = ks (tK X3 j))
    ∗ held c arg10 (fun x => ∀ j : Fin 32, j.val < k → tK x j = vc (tK X4 j))
    ∗ held c arg11 (fun x => ∀ j : Fin 32, j.val < k → tS x j = vs (tK X4 j))
    ∗ held c arg12 (fun x => ∀ j : Fin 32, j.val < k → tT x j = vt (tK X4 j)))

/-- The invariant is kept by a trip. -/
theorem step1 (X3 X4 : FVec F S1x4096x128 .bf16) (k : Fin k0_t1_loop.trips) (u : PUnit) :
    inv1 (F := F) c arg3 arg4 arg8 arg9 arg10 arg11 arg12 X3 X4 k.val u
      ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k u)
        (inv1 (F := F) c arg3 arg4 arg8 arg9 arg10 arg11 arg12 X3 X4 (k.val + 1)) := by
  unfold inv1 held
  iintro ⟨⟨%f3, %h3, H3⟩, ⟨%f4, %h4, H4⟩, ⟨%f8, %h8, H8⟩, ⟨%f9, %h9, H9⟩, ⟨%f10, %h10, H10⟩, ⟨%f11, %h11, H11⟩, ⟨%f12, %h12, H12⟩⟩
  iapply (wp_wand_r Idealize.ShloMosaic.frame (wpE (defs₀ (F := F)) 𝒱 (c : Thread nD τ) bd) E)
  isplitl [H3 H4 H8 H9 H10 H11 H12]
  · iapply (trip1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 f3 f4 f8 f9 f10 f11 f12 k)
    isplitl [H3]; · iexact H3
    isplitl [H4]; · iexact H4
    isplitl [H8]; · iexact H8
    isplitl [H9]; · iexact H9
    isplitl [H10]; · iexact H10
    isplitl [H11]; · iexact H11
    iexact H12
  iintro %_ ⟨H3, H4, ⟨%g8, H8, %e8⟩, ⟨%g9, H9, %e9⟩, ⟨%g10, H10, %e10⟩, ⟨%g11, H11, %e11⟩, ⟨%g12, H12, %e12⟩⟩
  subst h3 h4
  isplitl [H3]
  · iexists _; isplitr; · ipureintro; rfl
    iexact H3
  isplitl [H4]
  · iexists _; isplitr; · ipureintro; rfl
    iexact H4
  isplitl [H8]
  · iexists _; isplitr; · ipureintro; exact grow _ inbK ⟨1, sepK⟩ (n1 k) e8 h8
    iexact H8
  isplitl [H9]
  · iexists _; isplitr; · ipureintro; exact grow _ inbS ⟨2, sepS⟩ (n1 k) e9 h9
    iexact H9
  isplitl [H10]
  · iexists _; isplitr; · ipureintro; exact grow _ inbK ⟨1, sepK⟩ (n1 k) e10 h10
    iexact H10
  isplitl [H11]
  · iexists _; isplitr; · ipureintro; exact grow _ inbS ⟨2, sepS⟩ (n1 k) e11 h11
    iexact H11
  iexists _; isplitr; · ipureintro; exact grow _ inbT ⟨0, sepT⟩ (n1 k) e12 h12
  iexact H12

end Cert.Proof.Bits

end
-- ==== Proof.Bits.TripB.lean ====
/- The inner loop of `Kernel`'s body: one trip folds one key tile below the diagonal into the running accumulator,
   maximum and sum of the query tile, so after `i` trips the three scratches hold the state `iter i`. -/
module

public import proofs.«01_k».proof.Proof.Bits.TripA
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The inner loop of query tile `i` makes `i` trips. -/
theorem t3_trips : ∀ k : Fin k0_t2_loop.trips, (k0_t3_loop k).trips = k.val := by decide +kernel

/-- A trip of the second loop as a tile number. -/
abbrev n2 (k : Fin k0_t2_loop.trips) : Fin 32 := ⟨k.val, Nat.lt_of_lt_of_le k.isLt k0_t2_abs.2.1⟩

/-- A trip of the inner loop as a tile number. -/
abbrev n3 (t : Fin k0_t2_loop.trips) (k : Fin (k0_t3_loop t).trips) : Fin 32 :=
  ⟨k.val, Nat.lt_of_lt_of_le k.isLt (Nat.le_trans (k0_t3_abs t).2.1 (by decide))⟩

variable (𝒱 : Variants) (c : Dev nD) (bd : Option 𝒱.V) (E : Set ℕ) (i : grid0.Coords)
  (arg2 : Memref sig .tc .vmem S1x4096x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x4096x512 .bf16) (harg5 : arg5.IsWhole)
  (arg6 : Memref sig .tc .vmem S1x4096x512 .fp8e4m3) (harg6 : arg6.IsWhole) (arg7 : Memref sig .tc .vmem S1x1x4x32x128 .f32) (harg7 : arg7.IsWhole)
  (arg8 : Memref sig .tc .vmem S1x4096x128 .fp8e4m3) (harg8 : arg8.IsWhole) (arg9 : Memref sig .tc .vmem S1x1x32x128 .f32) (harg9 : arg9.IsWhole)
  (arg10 : Memref sig .tc .vmem S1x4096x128 .fp8e4m3) (harg10 : arg10.IsWhole) (arg11 : Memref sig .tc .vmem S1x1x32x128 .f32) (harg11 : arg11.IsWhole)
  (arg12 : Memref sig .tc .vmem S32x128x128 .fp8e4m3) (harg12 : arg12.IsWhole) (arg13 : Memref sig .tc .vmem S128x512 .fp8e4m3) (harg13 : arg13.IsWhole)
  (arg14 : Memref sig .tc .vmem S128x512 .f32) (harg14 : arg14.IsWhole) (arg15 : Memref sig .tc .vmem S1x512 .f32) (harg15 : arg15.IsWhole)
  (arg16 : Memref sig .tc .vmem S1x512 .f32) (harg16 : arg16.IsWhole)

  (t : Fin k0_t2_loop.trips) (arg17 : BitVec 32) (v85 v149 v213 : FVec F S1x128 .f32) (v250 : FVec F S1x1 .f32) (v269 : FVec F S128x128 .fp8e4m3)

/-- The step of one key tile, from what the buffers read. -/
def stepAt (n : Fin 32) (C : FVec F S1x512 .f32) (x8 : FVec F S1x4096x128 .fp8e4m3) (x9 x11 : FVec F S1x1x32x128 .f32) (x12 : FVec F S32x128x128 .fp8e4m3)
    (x13 : FVec F S128x512 .fp8e4m3) (s : St F) : St F := stepU C x13 (tK x8 n) (tS x9 n) (tT x12 n) (tS x11 n) s

/-- One trip: the three running scratches take one step, nothing else changes. -/
theorem trip3 (f8 f9 f11 f12 f13 f14 f15 f16) (k : Fin (k0_t3_loop t).trips) :
    (iprop(pt c arg8 f8 ∗ pt c arg9 f9 ∗ pt c arg11 f11 ∗ pt c arg12 f12 ∗ pt c arg13 f13 ∗ pt c arg14 f14 ∗ pt c arg15 f15 ∗ pt c arg16 f16) : sProp 𝕄G)
      ⊢ wp frame (wpE (defs₀ (F := F)) 𝒱 (c : Thread nD τ) bd) E
        (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 t arg17 v85 v149 v213 v250 v269 k PUnit.unit)
        (fun _ => iprop(pt c arg8 f8 ∗ pt c arg9 f9 ∗ pt c arg11 f11 ∗ pt c arg12 f12 ∗ pt c arg13 f13
          ∗ (∃ g14, pt c arg14 g14 ∗ ⌜arg14.view.read (Elt F) g14 = (stepAt (n3 t k) (k0_pay77 v85 v149 v213 v250) (arg8.view.read (Elt F) f8) (arg9.view.read (Elt F) f9) (arg11.view.read (Elt F) f11) (arg12.view.read (Elt F) f12) (arg13.view.read (Elt F) f13) ⟨arg14.view.read (Elt F) f14, arg15.view.read (Elt F) f15, arg16.view.read (Elt F) f16⟩).acc⌝)
          ∗ (∃ g15, pt c arg15 g15 ∗ ⌜arg15.view.read (Elt F) g15 = (stepAt (n3 t k) (k0_pay77 v85 v149 v213 v250) (arg8.view.read (Elt F) f8) (arg9.view.read (Elt F) f9) (arg11.view.read (Elt F) f11) (arg12.view.read (Elt F) f12) (arg13.view.read (Elt F) f13) ⟨arg14.view.read (Elt F) f14, arg15.view.read (Elt F) f15, arg16.view.read (Elt F) f16⟩).m⌝)
          ∗ (∃ g16, pt c arg16 g16 ∗ ⌜arg16.view.read (Elt F) g16 = (stepAt (n3 t k) (k0_pay77 v85 v149 v213 v250) (arg8.view.read (Elt F) f8) (arg9.view.read (Elt F) f9) (arg11.view.read (Elt F) f11) (arg12.view.read (Elt F) f12) (arg13.view.read (Elt F) f13) ⟨arg14.view.read (Elt F) f14, arg15.view.read (Elt F) f15, arg16.view.read (Elt F) f16⟩).l⌝))) := by
  have hk : k.val < 32 := (n3 t k).isLt
  unfold k0_t3_body
  iintro ⟨H8, H9, H11, H12, H13, H14, H15, H16⟩
  sl_exec
  sl_step
  have e8 := View.readAt_unit arg8.view f8 (k0_off12_inb t k) (k0_off12_eq t k) (inbK (n3 t k))
  have e9 := View.readAt_unit arg9.view f9 (k0_off13_inb t k) (k0_off13_eq t k) (inbS (n3 t k))
  have e11 := View.readAt_unit arg11.view f11 (k0_off13_inb t k) (k0_off13_eq t k) (inbS (n3 t k))
  have e12 := View.readAt_unit arg12.view f12 (k0_off14_inb t k) (k0_off14_eq t k) (inbT (n3 t k))
  have e13 := View.readAt_full arg13.view f13 inb_S128x512_S128x512_0_0
  have e14 := View.readAt_full arg14.view f14 inb_S128x512_S128x512_0_0
  have e15 := View.readAt_full arg15.view f15 inb_S1x512_S1x512_0_0
  have e16 := View.readAt_full arg16.view f16 inb_S1x512_S1x512_0_0
  have eS : stepU (k0_pay77 v85 v149 v213 v250)
      (arg13.view.readAt (Elt F) (Rect.unit (s := S128x512) ![0, 0] S128x512.size inb_S128x512_S128x512_0_0).toLoadRect f13)
      (arg8.view.readAt (Elt F) (Rect.unit (s := S1x4096x128) (k0_off12 t k) S1x128x128.size (k0_off12_inb t k)).toLoadRect f8)
      (arg9.view.readAt (Elt F) (Rect.unit (s := S1x1x32x128) (k0_off13 t k) S1x1x1x128.size (k0_off13_inb t k)).toLoadRect f9)
      (arg12.view.readAt (Elt F) (Rect.unit (s := S32x128x128) (k0_off14 t k) S1x128x128.size (k0_off14_inb t k)).toLoadRect f12)
      (arg11.view.readAt (Elt F) (Rect.unit (s := S1x1x32x128) (k0_off13 t k) S1x1x1x128.size (k0_off13_inb t k)).toLoadRect f11)
      ⟨arg14.view.readAt (Elt F) (Rect.unit (s := S128x512) ![0, 0] S128x512.size inb_S128x512_S128x512_0_0).toLoadRect f14,
        arg15.view.readAt (Elt F) (Rect.unit (s := S1x512) ![0, 0] S1x512.size inb_S1x512_S1x512_0_0).toLoadRect f15,
        arg16.view.readAt (Elt F) (Rect.unit (s := S1x512) ![0, 0] S1x512.size inb_S1x512_S1x512_0_0).toLoadRect f16⟩
      = stepAt (n3 t k) (k0_pay77 v85 v149 v213 v250) (arg8.view.read (Elt F) f8) (arg9.view.read (Elt F) f9) (arg11.view.read (Elt F) f11)
          (arg12.view.read (Elt F) f12) (arg13.view.read (Elt F) f13)
          ⟨arg14.view.read (Elt F) f14, arg15.view.read (Elt F) f15, arg16.view.read (Elt F) f16⟩ := by
    unfold stepAt
    simp only [e8, e9, e11, e12, e13, e14, e15, e16]
  isplitl [H8]; · iexact H8
  isplitl [H9]; · iexact H9
  isplitl [H11]; · iexact H11
  isplitl [H12]; · iexact H12
  isplitl [H13]; · iexact H13
  isplitl [H14]
  · iexists _; isplitl [H14]; · iexact H14
    ipureintro; exact (View.read_writes_full arg14.view f14 inb_S128x512_S128x512_0_0 _ []).trans (Eq.trans rfl (congrArg St.acc eS))
  isplitl [H15]
  · iexists _; isplitl [H15]; · iexact H15
    ipureintro; exact (View.read_writes_full arg15.view f15 inb_S1x512_S1x512_0_0 _ []).trans (Eq.trans rfl (congrArg St.m eS))
  iexists _; isplitl [H16]; · iexact H16
  ipureintro; exact (View.read_writes_full arg16.view f16 inb_S1x512_S1x512_0_0 _ []).trans (Eq.trans rfl (congrArg St.l eS))

/-- The invariant: every key tile of the quantised buffers is known, and the running scratches hold the state after
    `k` key tiles. -/
def inv3 (X3 X4 : FVec F S1x4096x128 .bf16) (C : FVec F S1x512 .f32) (Q : FVec F S128x512 .fp8e4m3) (k : ℕ) (_ : PUnit) : sProp 𝕄G :=
  iprop(held c arg8 (fun x => ∀ j : Fin 32, tK x j = kc (tK X3 j)) ∗ held c arg9 (fun x => ∀ j : Fin 32, tS x j = ks (tK X3 j))
    ∗ held c arg11 (fun x => ∀ j : Fin 32, tS x j = vs (tK X4 j)) ∗ held c arg12 (fun x => ∀ j : Fin 32, tT x j = vt (tK X4 j))
    ∗ held c arg13 (fun x => x = Q)
    ∗ held c arg14 (fun x => x = (iter C Q X3 X4 k).acc) ∗ held c arg15 (fun x => x = (iter C Q X3 X4 k).m) ∗ held c arg16 (fun x => x = (iter C Q X3 X4 k).l))

/-- One step from known buffers is one step of `iter`. -/
theorem stepAt_iter (n : Fin 32) (X3 X4 : FVec F S1x4096x128 .bf16) (C : FVec F S1x512 .f32) (x8 : FVec F S1x4096x128 .fp8e4m3)
    (x9 x11 : FVec F S1x1x32x128 .f32) (x12 : FVec F S32x128x128 .fp8e4m3) (x13 : FVec F S128x512 .fp8e4m3)
    (h8 : ∀ j : Fin 32, tK x8 j = kc (tK X3 j)) (h9 : ∀ j : Fin 32, tS x9 j = ks (tK X3 j)) (h11 : ∀ j : Fin 32, tS x11 j = vs (tK X4 j))
    (h12 : ∀ j : Fin 32, tT x12 j = vt (tK X4 j)) :
    stepAt n C x8 x9 x11 x12 x13 (iter C x13 X3 X4 n.val) = iter C x13 X3 X4 (n.val + 1) := by
  show _ = (if h : n.val < 32 then _ else _)
  rw [dif_pos n.isLt]
  unfold stepAt
  rw [h8 n, h9 n, h11 n, h12 n]

/-- The invariant is kept by a trip. -/
theorem step3 (X3 X4 : FVec F S1x4096x128 .bf16) (C : FVec F S1x512 .f32) (hC : k0_pay77 v85 v149 v213 v250 = C) (Q : FVec F S128x512 .fp8e4m3)
    (k : Fin (k0_t3_loop t).trips) (u : PUnit) :
    inv3 (F := F) c arg8 arg9 arg11 arg12 arg13 arg14 arg15 arg16 X3 X4 C Q k.val u
      ⊢ wp frame (wpE (defs₀ (F := F)) 𝒱 (c : Thread nD τ) bd) E
        (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 t arg17 v85 v149 v213 v250 v269 k u)
        (inv3 (F := F) c arg8 arg9 arg11 arg12 arg13 arg14 arg15 arg16 X3 X4 C Q (k.val + 1)) := by
  subst hC
  unfold inv3 held
  iintro ⟨⟨%f8, %h8, H8⟩, ⟨%f9, %h9, H9⟩, ⟨%f11, %h11, H11⟩, ⟨%f12, %h12, H12⟩, ⟨%f13, %h13, H13⟩, ⟨%f14, %h14, H14⟩, ⟨%f15, %h15, H15⟩, ⟨%f16, %h16, H16⟩⟩
  iapply (wp_wand_r Idealize.ShloMosaic.frame (wpE (defs₀ (F := F)) 𝒱 (c : Thread nD τ) bd) E)
  isplitl [H8 H9 H11 H12 H13 H14 H15 H16]
  · iapply (trip3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 t arg17 v85 v149 v213 v250 v269 f8 f9 f11 f12 f13 f14 f15 f16 k)
    isplitl [H8]; · iexact H8
    isplitl [H9]; · iexact H9
    isplitl [H11]; · iexact H11
    isplitl [H12]; · iexact H12
    isplitl [H13]; · iexact H13
    isplitl [H14]; · iexact H14
    isplitl [H15]; · iexact H15
    iexact H16
  subst h13
  have hs := stepAt_iter (n3 t k) X3 X4 (k0_pay77 v85 v149 v213 v250) _ _ _ _ (arg13.view.read (Elt F) f13) h8 h9 h11 h12
  rw [h14, h15, h16]
  iintro %_ ⟨H8, H9, H11, H12, H13, ⟨%g14, H14, %e14⟩, ⟨%g15, H15, %e15⟩, ⟨%g16, H16, %e16⟩⟩
  isplitl [H8]
  · iexists _; isplitr; · ipureintro; exact h8
    iexact H8
  isplitl [H9]
  · iexists _; isplitr; · ipureintro; exact h9
    iexact H9
  isplitl [H11]
  · iexists _; isplitr; · ipureintro; exact h11
    iexact H11
  isplitl [H12]
  · iexists _; isplitr; · ipureintro; exact h12
    iexact H12
  isplitl [H13]
  · iexists _; isplitr; · ipureintro; exact rfl
    iexact H13
  isplitl [H14]
  · iexists _; isplitr; · ipureintro; exact e14.trans (congrArg St.acc hs)
    iexact H14
  isplitl [H15]
  · iexists _; isplitr; · ipureintro; exact e15.trans (congrArg St.m hs)
    iexact H15
  iexists _; isplitr; · ipureintro; exact e16.trans (congrArg St.l hs)
  iexact H16

end Cert.Proof.Bits

end
-- ==== Proof.Bits.TripC.lean ====
/- The second loop of `Kernel`'s body: one trip quantises the four heads' q tiles of rows `128 i …`, runs the softmax over
   the key tiles up to the diagonal, and stores the output tile. -/
module

public import proofs.«01_k».proof.Proof.Bits.TripB
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Four stores of one size. -/
def put4 {α : Type} {s : Shape} (x : s.Idx → α) (off : Fin 4 → Fin s.rank → ℕ) (size : Fin s.rank → ℕ) (w : Fin 4 → ((a : Fin s.rank) → Fin (size a)) → α) : s.Idx → α :=
  VecWindow.put (VecWindow.put (VecWindow.put (VecWindow.put x (off 0) size (w 0)) (off 1) size (w 1)) (off 2) size (w 2)) (off 3) size (w 3)

/-- Four stores through windows, read back. -/
theorem read_upd4 {sig : RefSig} {κ : Kind} {sp : Space} {s : Shape} {e : EltTy} {Val : EltTy → Type} (v : View sig κ sp s e) (f : v.ty.Contents Val)
    {o0 o1 o2 o3 size : Fin s.rank → ℕ} (off' : Fin 4 → Fin s.rank → ℕ)
    (i0 : ∀ a, o0 a + size a ≤ s.size a) (i1 : ∀ a, o1 a + size a ≤ s.size a) (i2 : ∀ a, o2 a + size a ≤ s.size a) (i3 : ∀ a, o3 a + size a ≤ s.size a)
    (w0 : (Rect.unit o0 size i0).shape.Idx → Val e) (w1 : (Rect.unit o1 size i1).shape.Idx → Val e)
    (w2 : (Rect.unit o2 size i2).shape.Idx → Val e) (w3 : (Rect.unit o3 size i3).shape.Idx → Val e)
    (h0 : o0 = off' 0) (h1 : o1 = off' 1) (h2 : o2 = off' 2) (h3 : o3 = off' 3)
    {w' : Fin 4 → ((a : Fin s.rank) → Fin (size a)) → Val e} (e0 : w0 = w' 0) (e1 : w1 = w' 1) (e2 : w2 = w' 2) (e3 : w3 = w' 3) :
    v.read Val (v.writes Val f [⟨Rect.unit o3 size i3, w3⟩, ⟨Rect.unit o2 size i2, w2⟩, ⟨Rect.unit o1 size i1, w1⟩, ⟨Rect.unit o0 size i0, w0⟩])
      = put4 (v.read Val f) off' size w' := by
  subst e0 e1 e2 e3
  unfold put4
  rw [View.read_writes_cons_put v f i3 _ _ h3, View.read_writes_cons_put v f i2 _ _ h2, View.read_writes_cons_put v f i1 _ _ h1,
    View.read_writes_cons_put v f i0 _ _ h0, View.writes_nil]

/-- Of four stores through windows that lie apart, each is read back. -/
theorem window_put4 {α : Type} {s : Shape} {off : Fin 4 → Fin s.rank → ℕ} {size : Fin s.rank → ℕ} (x : s.Idx → α)
    (w : Fin 4 → ((a : Fin s.rank) → Fin (size a)) → α) (inb : ∀ g a, off g a + size a ≤ s.size a)
    (sep : ∃ a, ∀ g g' : Fin 4, g ≠ g' → off g a + size a ≤ off g' a ∨ off g' a + size a ≤ off g a) (g : Fin 4) :
    VecWindow.window (put4 x off size w) (off g) size (inb g) = w g := by
  obtain ⟨b, hb⟩ := sep
  unfold put4
  match g with
  | 0 =>
    rw [VecWindow.window_put_of_disjoint _ _ _ _ _ _ _ b (hb 0 3 (by decide)), VecWindow.window_put_of_disjoint _ _ _ _ _ _ _ b (hb 0 2 (by decide)),
      VecWindow.window_put_of_disjoint _ _ _ _ _ _ _ b (hb 0 1 (by decide))]
    exact VecWindow.window_put_same _ _ _ _ _
  | 1 =>
    rw [VecWindow.window_put_of_disjoint _ _ _ _ _ _ _ b (hb 1 3 (by decide)), VecWindow.window_put_of_disjoint _ _ _ _ _ _ _ b (hb 1 2 (by decide))]
    exact VecWindow.window_put_same _ _ _ _ _
  | 2 =>
    rw [VecWindow.window_put_of_disjoint _ _ _ _ _ _ _ b (hb 2 3 (by decide))]
    exact VecWindow.window_put_same _ _ _ _ _
  | 3 => exact VecWindow.window_put_same _ _ _ _ _

/-- The windows of the first `k` query tiles are known and the four of tile `k` are put: those of the first `k + 1` are known. -/
theorem grow4 {α : Type} {s : Shape} {off : Fin 32 → Fin 4 → Fin s.rank → ℕ} {size : Fin s.rank → ℕ} {x y : s.Idx → α}
    (w : Fin 32 → Fin 4 → ((a : Fin s.rank) → Fin (size a)) → α) (inb : ∀ j g a, off j g a + size a ≤ s.size a)
    (sepi : ∃ a, ∀ (i j : Fin 32) (g g' : Fin 4), i ≠ j → off i g a + size a ≤ off j g' a ∨ off j g' a + size a ≤ off i g a)
    (sepg : ∃ a, ∀ (i j : Fin 32) (g g' : Fin 4), g ≠ g' → off i g a + size a ≤ off j g' a ∨ off j g' a + size a ≤ off i g a) (k : Fin 32)
    (e : y = put4 x (off k) size (w k)) (h : ∀ (j : Fin 32) (g : Fin 4), j.val < k.val → VecWindow.window x (off j g) size (inb j g) = w j g) :
    ∀ (j : Fin 32) (g : Fin 4), j.val < k.val + 1 → VecWindow.window y (off j g) size (inb j g) = w j g := by
  intro j g hj
  subst e
  by_cases hjk : j = k
  · subst hjk
    obtain ⟨b, hb⟩ := sepg
    exact window_put4 x (w j) (inb j) ⟨b, hb j j⟩ g
  · obtain ⟨a, ha⟩ := sepi
    unfold put4
    rw [VecWindow.window_put_of_disjoint _ _ _ _ _ _ _ a (ha j k g 3 hjk), VecWindow.window_put_of_disjoint _ _ _ _ _ _ _ a (ha j k g 2 hjk),
      VecWindow.window_put_of_disjoint _ _ _ _ _ _ _ a (ha j k g 1 hjk), VecWindow.window_put_of_disjoint _ _ _ _ _ _ _ a (ha j k g 0 hjk)]
    exact h j g (by have : j.val ≠ k.val := fun e => hjk (Fin.ext e); omega)

/-- Distinct query tiles lie apart. -/
theorem sepQi : ∀ (i j : Fin 32) (g g' : Fin 4), i ≠ j → (![0, 128 * i.val, 128 * g.val] : Fin 3 → ℕ) 1 + S1x128x128.size 1 ≤ (![0, 128 * j.val, 128 * g'.val] : Fin 3 → ℕ) 1
    ∨ (![0, 128 * j.val, 128 * g'.val] : Fin 3 → ℕ) 1 + S1x128x128.size 1 ≤ (![0, 128 * i.val, 128 * g.val] : Fin 3 → ℕ) 1 := fun i j _ _ h => sepK i j h
/-- Distinct heads lie apart. -/
theorem sepQg : ∀ (i j : Fin 32) (g g' : Fin 4), g ≠ g' → (![0, 128 * i.val, 128 * g.val] : Fin 3 → ℕ) 2 + S1x128x128.size 2 ≤ (![0, 128 * j.val, 128 * g'.val] : Fin 3 → ℕ) 2
    ∨ (![0, 128 * j.val, 128 * g'.val] : Fin 3 → ℕ) 2 + S1x128x128.size 2 ≤ (![0, 128 * i.val, 128 * g.val] : Fin 3 → ℕ) 2 := by
  intro i j g g' h
  show 128 * g.val + 128 ≤ 128 * g'.val ∨ 128 * g'.val + 128 ≤ 128 * g.val
  have : g.val ≠ g'.val := fun e => h (Fin.ext e)
  omega
/-- Distinct scale rows lie apart. -/
theorem sepRi : ∀ (i j : Fin 32) (g g' : Fin 4), i ≠ j → (![0, 0, g.val, i.val, 0] : Fin 5 → ℕ) 3 + S1x1x1x1x128.size 3 ≤ (![0, 0, g'.val, j.val, 0] : Fin 5 → ℕ) 3
    ∨ (![0, 0, g'.val, j.val, 0] : Fin 5 → ℕ) 3 + S1x1x1x1x128.size 3 ≤ (![0, 0, g.val, i.val, 0] : Fin 5 → ℕ) 3 := by
  intro i j g g' h
  show i.val + 1 ≤ j.val ∨ j.val + 1 ≤ i.val
  have : i.val ≠ j.val := fun e => h (Fin.ext e)
  omega
/-- Distinct heads' scale rows lie apart. -/
theorem sepRg : ∀ (i j : Fin 32) (g g' : Fin 4), g ≠ g' → (![0, 0, g.val, i.val, 0] : Fin 5 → ℕ) 2 + S1x1x1x1x128.size 2 ≤ (![0, 0, g'.val, j.val, 0] : Fin 5 → ℕ) 2
    ∨ (![0, 0, g'.val, j.val, 0] : Fin 5 → ℕ) 2 + S1x1x1x1x128.size 2 ≤ (![0, 0, g.val, i.val, 0] : Fin 5 → ℕ) 2 := by
  intro i j g g' h
  show g.val + 1 ≤ g'.val ∨ g'.val + 1 ≤ g.val
  have : g.val ≠ g'.val := fun e => h (Fin.ext e)
  omega

/-- Head `g`'s columns of the transposed q codes lie inside the scratch. -/
theorem inbG : ∀ (g : Fin 4) (a : Fin 2), (![0, 128 * g.val] : Fin 2 → ℕ) a + S128x128.size a ≤ S128x512.size a := by decide +kernel

/-- The four heads' transposed codes stored side by side fill the scratch. -/
theorem put4_qtAll (x : FVec F S128x512 .fp8e4m3) (b : Fin 4 → FVec F S1x128x128 .bf16) :
    put4 x (fun g => ![0, 128 * g.val]) S128x128.size (fun g => qt g (b g)) = qtAll b := by
  have key : ∀ g, VecWindow.window (put4 x (fun g => ![0, 128 * g.val]) S128x128.size (fun g => qt g (b g))) ![0, 128 * g.val] S128x128.size (inbG g) = qt g (b g) := by
    intro g
    have sep : ∀ g g' : Fin 4, g ≠ g' → (![0, 128 * g.val] : Fin 2 → ℕ) 1 + S128x128.size 1 ≤ (![0, 128 * g'.val] : Fin 2 → ℕ) 1
        ∨ (![0, 128 * g'.val] : Fin 2 → ℕ) 1 + S128x128.size 1 ≤ (![0, 128 * g.val] : Fin 2 → ℕ) 1 := by
      intro g g' h
      show 128 * g.val + 128 ≤ 128 * g'.val ∨ 128 * g'.val + 128 ≤ 128 * g.val
      have : g.val ≠ g'.val := fun e => h (Fin.ext e)
      omega
    exact window_put4 (off := fun g => ![0, 128 * g.val]) x (fun g => qt g (b g)) inbG ⟨1, sep⟩ g
  funext y
  refine Eq.trans ?_ (congrFun (key ⟨(y 1).val / 128, d512 y⟩) (colIn y))
  refine congrArg (put4 x (fun g => ![0, 128 * g.val]) S128x128.size (fun g => qt g (b g))) (funext fun a => Fin.ext ?_)
  match a with
  | ⟨0, _⟩ => show (y 0).val = 0 + 1 * (y 0).val; omega
  | ⟨1, _⟩ => show (y 1).val = 128 * ((y 1).val / 128) + 1 * ((y 1).val % 128); omega

variable (𝒱 : Variants) (c : Dev nD) (bd : Option 𝒱.V) (E : Set ℕ) (i : grid0.Coords)
  (arg2 : Memref sig .tc .vmem S1x4096x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x4096x512 .bf16) (harg5 : arg5.IsWhole)
  (arg6 : Memref sig .tc .vmem S1x4096x512 .fp8e4m3) (harg6 : arg6.IsWhole) (arg7 : Memref sig .tc .vmem S1x1x4x32x128 .f32) (harg7 : arg7.IsWhole)
  (arg8 : Memref sig .tc .vmem S1x4096x128 .fp8e4m3) (harg8 : arg8.IsWhole) (arg9 : Memref sig .tc .vmem S1x1x32x128 .f32) (harg9 : arg9.IsWhole)
  (arg10 : Memref sig .tc .vmem S1x4096x128 .fp8e4m3) (harg10 : arg10.IsWhole) (arg11 : Memref sig .tc .vmem S1x1x32x128 .f32) (harg11 : arg11.IsWhole)
  (arg12 : Memref sig .tc .vmem S32x128x128 .fp8e4m3) (harg12 : arg12.IsWhole) (arg13 : Memref sig .tc .vmem S128x512 .fp8e4m3) (harg13 : arg13.IsWhole)
  (arg14 : Memref sig .tc .vmem S128x512 .f32) (harg14 : arg14.IsWhole) (arg15 : Memref sig .tc .vmem S1x512 .f32) (harg15 : arg15.IsWhole)
  (arg16 : Memref sig .tc .vmem S1x512 .f32) (harg16 : arg16.IsWhole)

  (t : Fin k0_t2_loop.trips)

/-- The diagonal step at equal tiles. -/
theorem stepD_congr (C : FVec F S1x512 .f32) (Q : FVec F S128x512 .fp8e4m3) {K K' V V' : FVec F S1x128x128 .fp8e4m3} {kS kS' vS vS' : FVec F S1x1x1x128 .f32}
    (hK : K = K') (hk : kS = kS') (hV : V = V') (hv : vS = vS') (s : St F) : stepD C Q K kS V vS s = stepD C Q K' kS' V' vS' s := by
  subst hK hk hV hv; rfl

/-- The final state of the query tile, from what the buffers read. -/
abbrev finAt (f2 : BufTy.Contents (Elt F) arg2.view.ty) (X3 X4 : FVec F S1x4096x128 .bf16) : St F := fin (arg2.view.read (Elt F) f2) X3 X4 (n2 t)

/-- One trip: query tile `t` of the output, of the q codes and of the q scales. -/
theorem trip2 (X3 X4 : FVec F S1x4096x128 .bf16) (f2 f5 f6 f7 f13 f14 f15 f16) :
    (iprop(pt c arg2 f2 ∗ pt c arg5 f5 ∗ pt c arg6 f6 ∗ pt c arg7 f7
      ∗ held c arg8 (fun x => ∀ j : Fin 32, tK x j = kc (tK X3 j)) ∗ held c arg9 (fun x => ∀ j : Fin 32, tS x j = ks (tK X3 j))
      ∗ held c arg11 (fun x => ∀ j : Fin 32, tS x j = vs (tK X4 j)) ∗ held c arg12 (fun x => ∀ j : Fin 32, tT x j = vt (tK X4 j))
      ∗ pt c arg13 f13 ∗ pt c arg14 f14 ∗ pt c arg15 f15 ∗ pt c arg16 f16) : sProp 𝕄G)
      ⊢ wp frame (wpE (defs₀ (F := F)) 𝒱 (c : Thread nD τ) bd) E
        (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 t PUnit.unit)
        (fun _ => iprop(pt c arg2 f2
          ∗ (∃ g5, pt c arg5 g5 ∗ ⌜arg5.view.read (Elt F) g5 = put4 (arg5.view.read (Elt F) f5) (fun g => ![0, 128 * (n2 t).val, 128 * g.val]) S1x128x128.size (fun g => yOf (finAt arg2 t f2 X3 X4) g)⌝)
          ∗ (∃ g6, pt c arg6 g6 ∗ ⌜arg6.view.read (Elt F) g6 = put4 (arg6.view.read (Elt F) f6) (fun g => ![0, 128 * (n2 t).val, 128 * g.val]) S1x128x128.size (fun g => qc g (tQ (arg2.view.read (Elt F) f2) (n2 t) g))⌝)
          ∗ (∃ g7, pt c arg7 g7 ∗ ⌜arg7.view.read (Elt F) g7 = put4 (arg7.view.read (Elt F) f7) (fun g => ![0, 0, g.val, (n2 t).val, 0]) S1x1x1x1x128.size (fun g => qs g (tQ (arg2.view.read (Elt F) f2) (n2 t) g))⌝)
          ∗ held c arg8 (fun x => ∀ j : Fin 32, tK x j = kc (tK X3 j)) ∗ held c arg9 (fun x => ∀ j : Fin 32, tS x j = ks (tK X3 j))
          ∗ held c arg11 (fun x => ∀ j : Fin 32, tS x j = vs (tK X4 j)) ∗ held c arg12 (fun x => ∀ j : Fin 32, tT x j = vt (tK X4 j))
          ∗ held c arg13 (fun _ => True) ∗ held c arg14 (fun _ => True) ∗ held c arg15 (fun _ => True) ∗ held c arg16 (fun _ => True))) := by
  have ht : t.val < 32 := (n2 t).isLt
  unfold k0_t2_body
  iintro ⟨H2, H5, H6, H7, H8, H9, H11, H12, H13, H14, H15, H16⟩
  sl_exec
  have e0 := View.readAt_unit arg2.view f2 (k0_off4_inb t) ((k0_off4_eq t).trans rfl) (inbQ (n2 t) 0)
  have e1 := View.readAt_unit arg2.view f2 (k0_off6_inb t) ((k0_off6_eq t).trans rfl) (inbQ (n2 t) 1)
  have e2 := View.readAt_unit arg2.view f2 (k0_off8_inb t) ((k0_off8_eq t).trans rfl) (inbQ (n2 t) 2)
  have e3 := View.readAt_unit arg2.view f2 (k0_off10_inb t) ((k0_off10_eq t).trans rfl) (inbQ (n2 t) 3)
  have hb : (![arg2.view.readAt (Elt F) (Rect.unit (s := S1x4096x512) (k0_off4 t) S1x128x128.size (k0_off4_inb t)).toLoadRect f2,
      arg2.view.readAt (Elt F) (Rect.unit (s := S1x4096x512) (k0_off6 t) S1x128x128.size (k0_off6_inb t)).toLoadRect f2,
      arg2.view.readAt (Elt F) (Rect.unit (s := S1x4096x512) (k0_off8 t) S1x128x128.size (k0_off8_inb t)).toLoadRect f2,
      arg2.view.readAt (Elt F) (Rect.unit (s := S1x4096x512) (k0_off10 t) S1x128x128.size (k0_off10_inb t)).toLoadRect f2]
        : Fin 4 → FVec F S1x128x128 .bf16) = tQ (arg2.view.read (Elt F) f2) (n2 t) := by
    funext g
    match g with
    | 0 => exact e0
    | 1 => exact e1
    | 2 => exact e2
    | 3 => exact e3
  sl_for (inv3 (F := F) c arg8 arg9 arg11 arg12 arg13 arg14 arg15 arg16 X3 X4 (qrow (tQ (arg2.view.read (Elt F) f2) (n2 t))) (qtAll (tQ (arg2.view.read (Elt F) f2) (n2 t)))) $$ [H8 H9 H11 H12 H13 H14 H15 H16]
  case region =>
    intro k u
    exact step3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 t _ _ _ _ _ _ X3 X4 _ (Eq.trans rfl (congrArg qrow hb)) _ k u
  · unfold inv3
    isplitl [H8]; · iexact H8
    isplitl [H9]; · iexact H9
    isplitl [H11]; · iexact H11
    isplitl [H12]; · iexact H12
    unfold held
    isplitl [H13]
    · iexists _; isplitr; swap; · iexact H13
      ipureintro
      exact (read_upd4 arg13.view arg13.view.junk (fun g => ![0, 128 * g.val]) inb_S128x512_S128x128_0_0 inb_S128x512_S128x128_0_128
        inb_S128x512_S128x128_0_256 inb_S128x512_S128x128_0_384 _ _ _ _ rfl rfl rfl rfl
        (w' := fun g => qt g (tQ (arg2.view.read (Elt F) f2) (n2 t) g)) (Eq.trans rfl (congrArg (qt 0) e0)) (Eq.trans rfl (congrArg (qt 1) e1))
        (Eq.trans rfl (congrArg (qt 2) e2)) (Eq.trans rfl (congrArg (qt 3) e3))).trans (put4_qtAll _ _)
    isplitl [H14]
    · iexists _; isplitr; swap; · iexact H14
      ipureintro; exact View.read_writes_full arg14.view _ inb_S128x512_S128x512_0_0 _ []
    isplitl [H15]
    · iexists _; isplitr; swap; · iexact H15
      ipureintro; exact View.read_writes_full arg15.view _ inb_S1x512_S1x512_0_0 _ []
    iexists _; isplitr; swap; · iexact H16
    ipureintro; exact View.read_writes_full arg16.view _ inb_S1x512_S1x512_0_0 _ []
  iintro %_ HI
  unfold inv3 held
  icases HI with ⟨⟨%f8, %h8, H8⟩, ⟨%f9, %h9, H9⟩, ⟨%f11, %h11, H11⟩, ⟨%f12, %h12, H12⟩, ⟨%g13, %h13, H13⟩, ⟨%g14, %h14, H14⟩, ⟨%g15, %h15, H15⟩, ⟨%g16, %h16, H16⟩⟩
  sl_for0 (Nat.le_zero.mp (k0_t4_abs t).2.1)
  sl_exec
  sl_step
  have e8 := View.readAt_unit arg8.view f8 (k0_off18_inb t) (k0_off18_eq t) (inbK (n2 t))
  have e9 := View.readAt_unit arg9.view f9 (k0_off19_inb t) (k0_off19_eq t) (inbS (n2 t))
  have e11 := View.readAt_unit arg11.view f11 (k0_off19_inb t) (k0_off19_eq t) (inbS (n2 t))
  have e12 := View.readAt_unit arg12.view f12 (k0_off20_inb t) (k0_off20_eq t) (inbT (n2 t))
  have e13 := View.readAt_full arg13.view g13 inb_S128x512_S128x512_0_0
  have e14 := View.readAt_full arg14.view g14 inb_S128x512_S128x512_0_0
  have e15 := View.readAt_full arg15.view g15 inb_S1x512_S1x512_0_0
  have e16 := View.readAt_full arg16.view g16 inb_S1x512_S1x512_0_0
  have htr : Scf.trips (k0_t3_loop t).lb (k0_t3_loop t).ub (k0_t3_loop t).st = t.val := t3_trips t
  rw [htr] at h14 h15 h16
  have eS : stepD (qrow (![arg2.view.readAt (Elt F) (Rect.unit (s := S1x4096x512) (k0_off4 t) S1x128x128.size (k0_off4_inb t)).toLoadRect f2,
      arg2.view.readAt (Elt F) (Rect.unit (s := S1x4096x512) (k0_off6 t) S1x128x128.size (k0_off6_inb t)).toLoadRect f2,
      arg2.view.readAt (Elt F) (Rect.unit (s := S1x4096x512) (k0_off8 t) S1x128x128.size (k0_off8_inb t)).toLoadRect f2,
      arg2.view.readAt (Elt F) (Rect.unit (s := S1x4096x512) (k0_off10 t) S1x128x128.size (k0_off10_inb t)).toLoadRect f2]
        : Fin 4 → FVec F S1x128x128 .bf16))
      (arg13.view.readAt (Elt F) (Rect.unit (s := S128x512) ![0, 0] S128x512.size inb_S128x512_S128x512_0_0).toLoadRect g13)
      (arg8.view.readAt (Elt F) (Rect.unit (s := S1x4096x128) (k0_off18 t) S1x128x128.size (k0_off18_inb t)).toLoadRect f8)
      (arg9.view.readAt (Elt F) (Rect.unit (s := S1x1x32x128) (k0_off19 t) S1x1x1x128.size (k0_off19_inb t)).toLoadRect f9)
      (arg12.view.readAt (Elt F) (Rect.unit (s := S32x128x128) (k0_off20 t) S1x128x128.size (k0_off20_inb t)).toLoadRect f12)
      (arg11.view.readAt (Elt F) (Rect.unit (s := S1x1x32x128) (k0_off19 t) S1x1x1x128.size (k0_off19_inb t)).toLoadRect f11)
      ⟨(arg14.view.readAt (Elt F) (Rect.unit (s := S128x512) ![0, 0] S128x512.size inb_S128x512_S128x512_0_0).toLoadRect g14),
        (arg15.view.readAt (Elt F) (Rect.unit (s := S1x512) ![0, 0] S1x512.size inb_S1x512_S1x512_0_0).toLoadRect g15),
        (arg16.view.readAt (Elt F) (Rect.unit (s := S1x512) ![0, 0] S1x512.size inb_S1x512_S1x512_0_0).toLoadRect g16)⟩
      = finAt arg2 t f2 X3 X4 := by
    rw [hb, e8, e9, e11, e12, e13, e14, e15, e16, h13, h14, h15, h16]
    exact stepD_congr _ _ (h8 (n2 t)) (h9 (n2 t)) (h12 (n2 t)) (h11 (n2 t)) _
  have hA : trip2.sl.v358 arg2 arg8 arg9 arg11 arg12 arg13 arg14 arg15 t f2 f8 f9 f11 f12 g13 g14 g15 = (finAt arg2 t f2 X3 X4).acc :=
    (View.readCov_full arg14.view inb_S128x512_S128x512_0_0 inb_S128x512_S128x512_0_0 _ []).trans (Eq.trans rfl (congrArg St.acc eS))
  have hL : trip2.sl.v359 arg2 arg8 arg9 arg13 arg15 arg16 t f2 f8 f9 g13 g15 g16 = (finAt arg2 t f2 X3 X4).l :=
    (View.readCov_full arg16.view inb_S1x512_S1x512_0_0 inb_S1x512_S1x512_0_0 _ []).trans (Eq.trans rfl (congrArg St.l eS))
  isplitl [H2]; · iexact H2
  isplitl [H5]
  · iexists _; isplitl [H5]; · iexact H5
    ipureintro
    exact read_upd4 arg5.view f5 (fun g => ![0, 128 * (n2 t).val, 128 * g.val]) (k0_off4_inb t) (k0_off6_inb t) (k0_off8_inb t) (k0_off10_inb t) _ _ _ _
      ((k0_off4_eq t).trans rfl) ((k0_off6_eq t).trans rfl) ((k0_off8_eq t).trans rfl) ((k0_off10_eq t).trans rfl)
      (w' := fun g => yOf (finAt arg2 t f2 X3 X4) g)
      (Eq.trans rfl (congrArg₂ (fun a l => k0_pay99 a l) hA hL)) (Eq.trans rfl (congrArg₂ (fun a l => k0_pay7 (k0_pay100 a l)) hA hL))
      (Eq.trans rfl (congrArg₂ (fun a l => k0_pay8 (k0_pay98 a l)) hA hL)) (Eq.trans rfl (congrArg₂ (fun a l => k0_pay9 (k0_pay98 a l)) hA hL))
  isplitl [H6]
  · iexists _; isplitl [H6]; · iexact H6
    ipureintro
    exact read_upd4 arg6.view f6 (fun g => ![0, 128 * (n2 t).val, 128 * g.val]) (k0_off4_inb t) (k0_off6_inb t) (k0_off8_inb t) (k0_off10_inb t) _ _ _ _
      ((k0_off4_eq t).trans rfl) ((k0_off6_eq t).trans rfl) ((k0_off8_eq t).trans rfl) ((k0_off10_eq t).trans rfl)
      (w' := fun g => qc g (tQ (arg2.view.read (Elt F) f2) (n2 t) g))
      (Eq.trans rfl (congrArg (qc 0) e0)) (Eq.trans rfl (congrArg (qc 1) e1)) (Eq.trans rfl (congrArg (qc 2) e2)) (Eq.trans rfl (congrArg (qc 3) e3))
  isplitl [H7]
  · iexists _; isplitl [H7]; · iexact H7
    ipureintro
    exact read_upd4 arg7.view f7 (fun g => ![0, 0, g.val, (n2 t).val, 0]) (k0_off5_inb t) (k0_off7_inb t) (k0_off9_inb t) (k0_off11_inb t) _ _ _ _
      ((k0_off5_eq t).trans rfl) ((k0_off7_eq t).trans rfl) ((k0_off9_eq t).trans rfl) ((k0_off11_eq t).trans rfl)
      (w' := fun g => qs g (tQ (arg2.view.read (Elt F) f2) (n2 t) g))
      (Eq.trans rfl (congrArg (qs 0) e0)) (Eq.trans rfl (congrArg (qs 1) e1)) (Eq.trans rfl (congrArg (qs 2) e2)) (Eq.trans rfl (congrArg (qs 3) e3))
  isplitl [H8]
  · iexists _; isplitr; · ipureintro; exact h8
    iexact H8
  isplitl [H9]
  · iexists _; isplitr; · ipureintro; exact h9
    iexact H9
  isplitl [H11]
  · iexists _; isplitr; · ipureintro; exact h11
    iexact H11
  isplitl [H12]
  · iexists _; isplitr; · ipureintro; exact h12
    iexact H12
  isplitl [H13]
  · iexists _; isplitr; swap; · iexact H13
    ipureintro; exact trivial
  isplitl [H14]
  · iexists _; isplitr; swap; · iexact H14
    ipureintro; exact trivial
  isplitl [H15]
  · iexists _; isplitr; swap; · iexact H15
    ipureintro; exact trivial
  iexists _; isplitr; swap; · iexact H16
  ipureintro; exact trivial

end Cert.Proof.Bits

end
-- ==== Proof.Bits.TripD.lean ====
/- The body of `Kernel`: after the two loops the seven result blocks are the assembled tiles of the model, whatever the
   scratches held. -/
module

public import proofs.«01_k».proof.Proof.Bits.TripC
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The first loop's trip count. -/
theorem t1_trips : 32 ≤ Scf.trips k0_t1_loop.lb k0_t1_loop.ub k0_t1_loop.st := by decide +kernel
/-- The second loop's trip count. -/
theorem t2_trips : 32 ≤ Scf.trips k0_t2_loop.lb k0_t2_loop.ub k0_t2_loop.st := by decide +kernel

/-- `held`, spelt out. -/
theorem held_def (c : Dev nD) {s : Shape} {e : EltTy} (a : Memref sig .tc .vmem s e) (P : (s.Idx → Elt F e) → Prop) :
    held (F := F) c a P = iprop(∃ f, ⌜P (a.view.read (Elt F) f)⌝ ∗ pt c a f) := rfl

/-- `held` with a weaker property. -/
theorem held_mono (c : Dev nD) {s : Shape} {e : EltTy} (a : Memref sig .tc .vmem s e) {P Q : (s.Idx → Elt F e) → Prop} (h : ∀ x, P x → Q x) :
    held (F := F) c a P ⊢ held c a Q := by
  unfold held
  iintro ⟨%f, %hf, H⟩
  iexists f; isplitr
  · ipureintro; exact h _ hf
  · iexact H

variable (𝒱 : Variants) (c : Dev nD) (bd : Option 𝒱.V) (E : Set ℕ) (i : grid0.Coords)
  (arg2 : Memref sig .tc .vmem S1x4096x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x4096x512 .bf16) (harg5 : arg5.IsWhole)
  (arg6 : Memref sig .tc .vmem S1x4096x512 .fp8e4m3) (harg6 : arg6.IsWhole) (arg7 : Memref sig .tc .vmem S1x1x4x32x128 .f32) (harg7 : arg7.IsWhole)
  (arg8 : Memref sig .tc .vmem S1x4096x128 .fp8e4m3) (harg8 : arg8.IsWhole) (arg9 : Memref sig .tc .vmem S1x1x32x128 .f32) (harg9 : arg9.IsWhole)
  (arg10 : Memref sig .tc .vmem S1x4096x128 .fp8e4m3) (harg10 : arg10.IsWhole) (arg11 : Memref sig .tc .vmem S1x1x32x128 .f32) (harg11 : arg11.IsWhole)
  (arg12 : Memref sig .tc .vmem S32x128x128 .fp8e4m3) (harg12 : arg12.IsWhole) (arg13 : Memref sig .tc .vmem S128x512 .fp8e4m3) (harg13 : arg13.IsWhole)
  (arg14 : Memref sig .tc .vmem S128x512 .f32) (harg14 : arg14.IsWhole) (arg15 : Memref sig .tc .vmem S1x512 .f32) (harg15 : arg15.IsWhole)
  (arg16 : Memref sig .tc .vmem S1x512 .f32) (harg16 : arg16.IsWhole)

/-- The second loop's invariant: the first `k` query tiles of the three query results are done, the quantised k and v
    blocks are known, the working scratches hold anything. -/
def inv2 (X2 : FVec F S1x4096x512 .bf16) (X3 X4 : FVec F S1x4096x128 .bf16) (k : ℕ) (_ : PUnit) : sProp 𝕄G :=
  iprop(held c arg2 (fun x => x = X2)
    ∗ held c arg5 (fun x => ∀ (j : Fin 32) (g : Fin 4), j.val < k → tQ x j g = yOf (fin X2 X3 X4 j) g)
    ∗ held c arg6 (fun x => ∀ (j : Fin 32) (g : Fin 4), j.val < k → tQ x j g = qc g (tQ X2 j g))
    ∗ held c arg7 (fun x => ∀ (j : Fin 32) (g : Fin 4), j.val < k → tR x j g = qs g (tQ X2 j g))
    ∗ held c arg8 (fun x => ∀ j : Fin 32, tK x j = kc (tK X3 j)) ∗ held c arg9 (fun x => ∀ j : Fin 32, tS x j = ks (tK X3 j))
    ∗ held c arg11 (fun x => ∀ j : Fin 32, tS x j = vs (tK X4 j)) ∗ held c arg12 (fun x => ∀ j : Fin 32, tT x j = vt (tK X4 j))
    ∗ held c arg13 (fun _ => True) ∗ held c arg14 (fun _ => True) ∗ held c arg15 (fun _ => True) ∗ held c arg16 (fun _ => True))

/-- The invariant is kept by a trip. -/
theorem step2 (X2 : FVec F S1x4096x512 .bf16) (X3 X4 : FVec F S1x4096x128 .bf16) (k : Fin k0_t2_loop.trips) (u : PUnit) :
    inv2 (F := F) c arg2 arg5 arg6 arg7 arg8 arg9 arg11 arg12 arg13 arg14 arg15 arg16 X2 X3 X4 k.val u
      ⊢ wp frame (wpE (defs₀ (F := F)) 𝒱 (c : Thread nD τ) bd) E
        (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k u)
        (inv2 (F := F) c arg2 arg5 arg6 arg7 arg8 arg9 arg11 arg12 arg13 arg14 arg15 arg16 X2 X3 X4 (k.val + 1)) := by
  unfold inv2
  iintro ⟨H2, H5, H6, H7, H8, H9, H11, H12, H13, H14, H15, H16⟩
  ihave H2' := (Entails.of_eq (held_def c arg2 _)) $$ H2
  ihave H5' := (Entails.of_eq (held_def c arg5 _)) $$ H5
  ihave H6' := (Entails.of_eq (held_def c arg6 _)) $$ H6
  ihave H7' := (Entails.of_eq (held_def c arg7 _)) $$ H7
  ihave H13' := (Entails.of_eq (held_def c arg13 _)) $$ H13
  ihave H14' := (Entails.of_eq (held_def c arg14 _)) $$ H14
  ihave H15' := (Entails.of_eq (held_def c arg15 _)) $$ H15
  ihave H16' := (Entails.of_eq (held_def c arg16 _)) $$ H16
  icases H2' with ⟨%f2, %h2, H2⟩
  icases H5' with ⟨%f5, %h5, H5⟩
  icases H6' with ⟨%f6, %h6, H6⟩
  icases H7' with ⟨%f7, %h7, H7⟩
  icases H13' with ⟨%f13, -, H13⟩
  icases H14' with ⟨%f14, -, H14⟩
  icases H15' with ⟨%f15, -, H15⟩
  icases H16' with ⟨%f16, -, H16⟩
  subst h2
  iapply (wp_wand_r Idealize.ShloMosaic.frame (wpE (defs₀ (F := F)) 𝒱 (c : Thread nD τ) bd) E)
  isplitl [H2 H5 H6 H7 H8 H9 H11 H12 H13 H14 H15 H16]
  · iapply (trip2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 k X3 X4 f2 f5 f6 f7 f13 f14 f15 f16)
    isplitl [H2]; · iexact H2
    isplitl [H5]; · iexact H5
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [H14]; · iexact H14
    isplitl [H15]; · iexact H15
    iexact H16
  iintro %_ ⟨H2, ⟨%g5, H5, %e5⟩, ⟨%g6, H6, %e6⟩, ⟨%g7, H7, %e7⟩, H⟩
  isplitl [H2]
  · unfold held; iexists _; isplitr; swap; · iexact H2
    ipureintro; rfl
  isplitl [H5]
  · unfold held; iexists _; isplitr; swap; · iexact H5
    ipureintro
    exact grow4 (s := S1x4096x512) (off := fun j g => ![0, 128 * j.val, 128 * g.val]) (size := S1x128x128.size) (x := arg5.view.read (Elt F) f5) (fun j g => yOf (fin (arg2.view.read (Elt F) f2) X3 X4 j) g) inbQ ⟨1, sepQi⟩ ⟨2, sepQg⟩ (n2 k) e5 h5
  isplitl [H6]
  · unfold held; iexists _; isplitr; swap; · iexact H6
    ipureintro
    exact grow4 (s := S1x4096x512) (off := fun j g => ![0, 128 * j.val, 128 * g.val]) (size := S1x128x128.size) (x := arg6.view.read (Elt F) f6) (fun j g => qc g (tQ (arg2.view.read (Elt F) f2) j g)) inbQ ⟨1, sepQi⟩ ⟨2, sepQg⟩ (n2 k) e6 h6
  isplitl [H7]
  · unfold held; iexists _; isplitr; swap; · iexact H7
    ipureintro
    exact grow4 (s := S1x1x4x32x128) (off := fun j g => ![0, 0, g.val, j.val, 0]) (size := S1x1x1x1x128.size) (x := arg7.view.read (Elt F) f7) (fun j g => qs g (tQ (arg2.view.read (Elt F) f2) j g)) inbR ⟨3, sepRi⟩ ⟨2, sepRg⟩ (n2 k) e7 h7
  iexact H

/-- The body, from the three input blocks. -/
theorem body_run (X2 : FVec F S1x4096x512 .bf16) (X3 X4 : FVec F S1x4096x128 .bf16) :
    (iprop(held c arg2 (fun x => x = X2) ∗ held c arg3 (fun x => x = X3) ∗ held c arg4 (fun x => x = X4)
      ∗ held c arg5 (fun _ => True) ∗ held c arg6 (fun _ => True) ∗ held c arg7 (fun _ => True) ∗ held c arg8 (fun _ => True) ∗ held c arg9 (fun _ => True) ∗ held c arg10 (fun _ => True) ∗ held c arg11 (fun _ => True) ∗ held c arg12 (fun _ => True) ∗ held c arg13 (fun _ => True) ∗ held c arg14 (fun _ => True) ∗ held c arg15 (fun _ => True) ∗ held c arg16 (fun _ => True)) : sProp 𝕄G)
      ⊢ wp frame (wpE (defs₀ (F := F)) 𝒱 (c : Thread nD τ) bd) E
        (cc0_fp8_causal_gqa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(held c arg2 (fun x => x = X2) ∗ held c arg3 (fun x => x = X3) ∗ held c arg4 (fun x => x = X4)
          ∗ held c arg5 (fun x => x = asmQ (fun j g => yOf (fin X2 X3 X4 j) g)) ∗ held c arg6 (fun x => x = asmQ (fun j g => qc g (tQ X2 j g)))
          ∗ held c arg7 (fun x => x = asmR (fun j g => qs g (tQ X2 j g)))
          ∗ held c arg8 (fun x => x = asmK (fun j => kc (tK X3 j))) ∗ held c arg9 (fun x => x = asmS (fun j => ks (tK X3 j)))
          ∗ held c arg10 (fun x => x = asmK (fun j => vc (tK X4 j))) ∗ held c arg11 (fun x => x = asmS (fun j => vs (tK X4 j)))
          ∗ held c arg12 (fun _ => True) ∗ held c arg13 (fun _ => True) ∗ held c arg14 (fun _ => True) ∗ held c arg15 (fun _ => True) ∗ held c arg16 (fun _ => True))) := by
  simp only [cc0_fp8_causal_gqa_eq_skeleton]; unfold cc0_fp8_causal_gqa_skel
  iintro ⟨H2, H3, H4, H5, H6, H7, H8, H9, H10, H11, H12, H13, H14, H15, H16⟩
  sl_exec
  sl_for (inv1 (F := F) c arg3 arg4 arg8 arg9 arg10 arg11 arg12 X3 X4) $$ [H3 H4 H8 H9 H10 H11 H12]
  case region =>
    intro k u
    exact step1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 k u
  · unfold inv1
    isplitl [H3]; · iexact H3
    isplitl [H4]; · iexact H4
    isplitl [H8]; · iapply (held_mono c arg8 (fun _ _ j hj => absurd hj (Nat.not_lt_zero _))); iexact H8
    isplitl [H9]; · iapply (held_mono c arg9 (fun _ _ j hj => absurd hj (Nat.not_lt_zero _))); iexact H9
    isplitl [H10]; · iapply (held_mono c arg10 (fun _ _ j hj => absurd hj (Nat.not_lt_zero _))); iexact H10
    isplitl [H11]; · iapply (held_mono c arg11 (fun _ _ j hj => absurd hj (Nat.not_lt_zero _))); iexact H11
    iapply (held_mono c arg12 (fun _ _ j hj => absurd hj (Nat.not_lt_zero _))); iexact H12
  iintro %_ HI
  unfold inv1
  icases HI with ⟨H3, H4, H8, H9, H10, H11, H12⟩
  sl_for (inv2 (F := F) c arg2 arg5 arg6 arg7 arg8 arg9 arg11 arg12 arg13 arg14 arg15 arg16 X2 X3 X4) $$ [H2 H5 H6 H7 H8 H9 H11 H12 H13 H14 H15 H16]
  case region =>
    intro k u
    exact step2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 k u
  · unfold inv2
    isplitl [H2]; · iexact H2
    isplitl [H5]; · iapply (held_mono c arg5 (fun _ _ j g hj => absurd hj (Nat.not_lt_zero _))); iexact H5
    isplitl [H6]; · iapply (held_mono c arg6 (fun _ _ j g hj => absurd hj (Nat.not_lt_zero _))); iexact H6
    isplitl [H7]; · iapply (held_mono c arg7 (fun _ _ j g hj => absurd hj (Nat.not_lt_zero _))); iexact H7
    isplitl [H8]; · iapply (held_mono c arg8 (P := fun x => ∀ j : Fin 32, j.val < _ → tK x j = kc (tK X3 j)) (fun _ h j => h j (Nat.lt_of_lt_of_le j.isLt t1_trips))); iexact H8
    isplitl [H9]; · iapply (held_mono c arg9 (P := fun x => ∀ j : Fin 32, j.val < _ → tS x j = ks (tK X3 j)) (fun _ h j => h j (Nat.lt_of_lt_of_le j.isLt t1_trips))); iexact H9
    isplitl [H11]; · iapply (held_mono c arg11 (P := fun x => ∀ j : Fin 32, j.val < _ → tS x j = vs (tK X4 j)) (fun _ h j => h j (Nat.lt_of_lt_of_le j.isLt t1_trips))); iexact H11
    isplitl [H12]; · iapply (held_mono c arg12 (P := fun x => ∀ j : Fin 32, j.val < _ → tT x j = vt (tK X4 j)) (fun _ h j => h j (Nat.lt_of_lt_of_le j.isLt t1_trips))); iexact H12
    isplitl [H13]; · iexact H13
    isplitl [H14]; · iexact H14
    isplitl [H15]; · iexact H15
    iexact H16
  iintro %_ HI
  unfold inv2
  icases HI with ⟨H2, H5, H6, H7, H8, H9, H11, H12, H13, H14, H15, H16⟩
  sl_step
  isplitl [H2]; · iexact H2
  isplitl [H3]; · iexact H3
  isplitl [H4]; · iexact H4
  isplitl [H5]; · iapply (held_mono c arg5 (P := fun x => ∀ (j : Fin 32) (g : Fin 4), j.val < _ → tQ x j g = yOf (fin X2 X3 X4 j) g) (fun _ h => eq_asmQ _ _ fun j g => h j g (Nat.lt_of_lt_of_le j.isLt t2_trips))); iexact H5
  isplitl [H6]; · iapply (held_mono c arg6 (P := fun x => ∀ (j : Fin 32) (g : Fin 4), j.val < _ → tQ x j g = qc g (tQ X2 j g)) (fun _ h => eq_asmQ _ _ fun j g => h j g (Nat.lt_of_lt_of_le j.isLt t2_trips))); iexact H6
  isplitl [H7]; · iapply (held_mono c arg7 (P := fun x => ∀ (j : Fin 32) (g : Fin 4), j.val < _ → tR x j g = qs g (tQ X2 j g)) (fun _ h => eq_asmR _ _ fun j g => h j g (Nat.lt_of_lt_of_le j.isLt t2_trips))); iexact H7
  isplitl [H8]; · iapply (held_mono c arg8 (P := fun x => ∀ j : Fin 32, tK x j = kc (tK X3 j)) (fun _ h => eq_asmK _ _ h)); iexact H8
  isplitl [H9]; · iapply (held_mono c arg9 (P := fun x => ∀ j : Fin 32, tS x j = ks (tK X3 j)) (fun _ h => eq_asmS _ _ h)); iexact H9
  isplitl [H10]; · iapply (held_mono c arg10 (P := fun x => ∀ j : Fin 32, j.val < _ → tK x j = vc (tK X4 j)) (fun _ h => eq_asmK _ _ fun j => h j (Nat.lt_of_lt_of_le j.isLt t1_trips))); iexact H10
  isplitl [H11]; · iapply (held_mono c arg11 (P := fun x => ∀ j : Fin 32, tS x j = vs (tK X4 j)) (fun _ h => eq_asmS _ _ h)); iexact H11
  isplitl [H12]; · iapply (held_mono c arg12 (fun _ _ => trivial)); iexact H12
  isplitl [H13]; · iexact H13
  isplitl [H14]; · iexact H14
  isplitl [H15]; · iexact H15
  iexact H16

end Cert.Proof.Bits

end
-- ==== Proof.Bits.Run.lean ====
/- The run of `Kernel`: the body obligation at every grid point, the pipeline's run, and the frame — the program terminates
   without fault, leaves its arguments as they were and every counter at zero. The arrays the run leaves are those the
   proof data names: each point's result blocks are the model's tiles. -/
module

public import proofs.«01_k».proof.Proof.Gen.Kernel.Frame
public import proofs.«01_k».proof.Proof.Bits.TripD
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf ΦA)

local notation "𝕄G" => MT nD τ sig Unit (Elt F) ℕ (UR sig nD τ) ℕ

/-- No variants: every loop is counted. -/
abbrev 𝒱₀ : Variants := Variants.none

/-- A memref owned at `x` is held at exactly `x`. -/
theorem held_of_owns (c : Dev nD) {s : Shape} {e : EltTy} (a : Memref sig .tc .vmem s e) (x : s.Idx → Elt F e) :
    (owns (c : Thread nD τ) a fullShare x : sProp 𝕄G) ⊢ held c a (fun y => y = x) := by
  unfold owns held; iintro ⟨%f, %h, H⟩; iexists f; isplitr
  · ipureintro; exact h
  · iexact H

/-- A memref held at exactly `x` is owned at `x`. -/
theorem owns_of_held (c : Dev nD) {s : Shape} {e : EltTy} (a : Memref sig .tc .vmem s e) (x : s.Idx → Elt F e) :
    (held c a (fun y => y = x) : sProp 𝕄G) ⊢ owns (c : Thread nD τ) a fullShare x := by
  unfold owns held; iintro ⟨%f, %h, H⟩; iexists f; isplitr
  · ipureintro; exact h
  · iexact H

/-- A memref owned at anything is held. -/
theorem held_of_any (c : Dev nD) {s : Shape} {e : EltTy} (a : Memref sig .tc .vmem s e) (x : s.Idx → Elt F e) :
    (owns (c : Thread nD τ) a fullShare x : sProp 𝕄G) ⊢ held c a (fun _ => True) := by
  unfold owns held; iintro ⟨%f, %h, H⟩; iexists f; isplitr
  · ipureintro; trivial
  · iexact H

/-- A memref held is owned at something. -/
theorem any_of_held (c : Dev nD) {s : Shape} {e : EltTy} (a : Memref sig .tc .vmem s e) :
    (held c a (fun _ => True) : sProp 𝕄G) ⊢ iprop(∃ x, owns (c : Thread nD τ) a fullShare x) := by
  unfold owns held; iintro ⟨%f, %h, H⟩; iexists (a.view.read (Elt F) f); iexists f; isplitr
  · ipureintro; rfl
  · iexact H

variable (m : (ℓ : Loc nD τ sig) → Buf (Elt F) ℓ) (ρ : Dev nD → PrngReg)

/-! ## The blocks -/

/-- The q block of a point. -/
abbrev xq (c : Dev nD) (t : Fin cfg0.N) : FVec F S1x4096x512 .bf16 := iblk m c 0 t
/-- The k block of a point. -/
abbrev xk (c : Dev nD) (t : Fin cfg0.N) : FVec F S1x4096x128 .bf16 := iblk m c 1 t
/-- The v block of a point. -/
abbrev xv (c : Dev nD) (t : Fin cfg0.N) : FVec F S1x4096x128 .bf16 := iblk m c 2 t

/-- The attention output's block. -/
def out3 (c : Dev nD) (t : Fin cfg0.N) : FVec F S1x4096x512 .bf16 := asmQ (fun j g => yOf (fin (xq m c t) (xk m c t) (xv m c t) j) g)
/-- The q codes' block. -/
def out4 (c : Dev nD) (t : Fin cfg0.N) : FVec F S1x4096x512 .fp8e4m3 := asmQ (fun j g => qc g (tQ (xq m c t) j g))
/-- The q scales' block. -/
def out5 (c : Dev nD) (t : Fin cfg0.N) : FVec F S1x1x4x32x128 .f32 := asmR (fun j g => qs g (tQ (xq m c t) j g))
/-- The k codes' block. -/
def out6 (c : Dev nD) (t : Fin cfg0.N) : FVec F S1x4096x128 .fp8e4m3 := asmK (fun j => kc (tK (xk m c t) j))
/-- The k scales' block. -/
def out7 (c : Dev nD) (t : Fin cfg0.N) : FVec F S1x1x32x128 .f32 := asmS (fun j => ks (tK (xk m c t) j))
/-- The v codes' block. -/
def out8 (c : Dev nD) (t : Fin cfg0.N) : FVec F S1x4096x128 .fp8e4m3 := asmK (fun j => vc (tK (xv m c t) j))
/-- The v scales' block. -/
def out9 (c : Dev nD) (t : Fin cfg0.N) : FVec F S1x1x32x128 .f32 := asmS (fun j => vs (tK (xv m c t) j))

/-! ## The pipeline's proof data -/

/-- The arrays as the region finds them; after the body each input's buffer at its block and each result's at the
    model's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨5, _⟩ => out5 m c t
    | ⟨6, _⟩ => out6 m c t
    | ⟨7, _⟩ => out7 m c t
    | ⟨8, _⟩ => out8 m c t
    | ⟨9, _⟩ => out9 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
/-- Input window 0's staging buffer holds its block when the body runs. -/
theorem before0_0 (c : Dev nD) (t : Fin cfg0.N) (d) : (dats m 0 c).before 0 t d = iblk m c 0 t :=
  before0_0_of m (dats m 0 c) (A_eq m c 0) (after0_0 m c) t d
/-- Input window 1's staging buffer holds its block when the body runs. -/
theorem before0_1 (c : Dev nD) (t : Fin cfg0.N) (d) : (dats m 0 c).before 1 t d = iblk m c 1 t :=
  before0_1_of m (dats m 0 c) (A_eq m c 1) (after0_1 m c) t d
/-- Input window 2's staging buffer holds its block when the body runs. -/
theorem before0_2 (c : Dev nD) (t : Fin cfg0.N) (d) : (dats m 0 c).before 2 t d = iblk m c 2 t :=
  before0_2_of m (dats m 0 c) (A_eq m c 2) (after0_2 m c) t d

/-- The region's scoped rest: the five scratches, each held at anything. -/
theorem scoped_held (c : Dev nD) :
    (Pipeline.scopedRest (Ix := Unit) (Name := ℕ) (U := UR sig nD τ) (Lvl := ℕ) (Val := Elt F) spec0 c : sProp 𝕄G)
      = iprop((∃ x, owns (c : Thread nD τ) (Memref.whole cc0_scratch0) fullShare x) ∗ (∃ x, owns (c : Thread nD τ) (Memref.whole cc0_scratch1) fullShare x) ∗ (∃ x, owns (c : Thread nD τ) (Memref.whole cc0_scratch2) fullShare x) ∗ (∃ x, owns (c : Thread nD τ) (Memref.whole cc0_scratch3) fullShare x) ∗ (∃ x, owns (c : Thread nD τ) (Memref.whole cc0_scratch4) fullShare x)) := by
  rw [scopedRest0_eq]
  simp only [owns_whole]; try rfl

/-- The body obligation at every point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9]
  rw [show (dats m 0 c).Φ t.castSucc = Pipeline.ΦA spec0 c from rfl]
  unfold Pipeline.ΦA
  rw [scoped_held]
  iintro ⟨⟨⟨⟨%y0, S0⟩, ⟨%y1, S1⟩, ⟨%y2, S2⟩, ⟨%y3, S3⟩, ⟨%y4, S4⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r Idealize.ShloMosaic.frame (wpE (defs₀ (F := F)) 𝒱₀ (c : Thread nD τ) none) Set.univ)
  isplitl [H0 H1 H2 H3 H4 H5 H6 H7 H8 H9 S0 S1 S2 S3 S4]
  · iapply (body_run 𝒱₀ c none Set.univ (grid0.coords t) _ _ _ _ _ _ _ _ _ _ _ _ _ _ _ _ _ _ _ _ _ _ _ _ _ _ _ _ _ _ (xq m c t) (xk m c t) (xv m c t))
    isplitl [H0]; · iapply (held_of_owns c _ _); iexact H0
    isplitl [H1]; · iapply (held_of_owns c _ _); iexact H1
    isplitl [H2]; · iapply (held_of_owns c _ _); iexact H2
    isplitl [H3]; · iapply (held_of_any c _ _); iexact H3
    isplitl [H4]; · iapply (held_of_any c _ _); iexact H4
    isplitl [H5]; · iapply (held_of_any c _ _); iexact H5
    isplitl [H6]; · iapply (held_of_any c _ _); iexact H6
    isplitl [H7]; · iapply (held_of_any c _ _); iexact H7
    isplitl [H8]; · iapply (held_of_any c _ _); iexact H8
    isplitl [H9]; · iapply (held_of_any c _ _); iexact H9
    isplitl [S0]; · iapply (held_of_any c _ _); iexact S0
    isplitl [S1]; · iapply (held_of_any c _ _); iexact S1
    isplitl [S2]; · iapply (held_of_any c _ _); iexact S2
    isplitl [S3]; · iapply (held_of_any c _ _); iexact S3
    iapply (held_of_any c _ _); iexact S4
  iintro %_ ⟨H0, H1, H2, H3, H4, H5, H6, H7, H8, H9, S0, S1, S2, S3, S4⟩
  isplitl [S0 S1 S2 S3 S4 HP]
  · isplitr [HP]
    · isplitl [S0]; · iapply (any_of_held c _); iexact S0
      isplitl [S1]; · iapply (any_of_held c _); iexact S1
      isplitl [S2]; · iapply (any_of_held c _); iexact S2
      isplitl [S3]; · iapply (any_of_held c _); iexact S3
      iapply (any_of_held c _); iexact S4
    · iexact HP
  isplitl [Ho]; · iexact Ho
  isplitl [H0]; · iapply (owns_of_held c _ _); iexact H0
  isplitl [H1]; · iapply (owns_of_held c _ _); iexact H1
  isplitl [H2]; · iapply (owns_of_held c _ _); iexact H2
  isplitl [H3]; · iapply (owns_of_held c _ _); iexact H3
  isplitl [H4]; · iapply (owns_of_held c _ _); iexact H4
  isplitl [H5]; · iapply (owns_of_held c _ _); iexact H5
  isplitl [H6]; · iapply (owns_of_held c _ _); iexact H6
  isplitl [H7]; · iapply (owns_of_held c _ _); iexact H7
  isplitl [H8]; · iapply (owns_of_held c _ _); iexact H8
  iapply (owns_of_held c _ _); iexact H9

set_option backward.isDefEq.respectTransparency.types false in
/-- Every weakly fair execution of @main terminates, and every final state has each array of the pipeline at what the
    proof data says and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the arguments are left unchanged and every counter is zero. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

end Cert.Proof.Bits

end
-- ==== Proof.Ideal.Model.lean ====
/- What one grid point of `KernelIdeal` computes, as functions of its three input blocks: the quantised blocks and scales of
   q, k and v, the running (accumulator, maximum, sum) of one query tile over the key tiles, and the output tile. Every
   pure value is a payload of the generated skeleton; a tile of a buffer is a window of 128 rows. -/
module

public import proofs.«01_k».proof.Proof.Gen.KernelIdeal.Skeleton
public import Idealize.ShloMosaic.Lib.VecWindow

@[expose] public section

set_option maxRecDepth 16384

noncomputable section

namespace Cert.Proof.Ideal

open Cert.KernelIdeal Cert.KernelIdeal.Gen Idealize.ShloMosaic Idealize.SL.Sem

variable {F : FTy → Type} [FloatOps F] [Named F]

/-! ## Windows -/

/-- Tile `j` of a [1, 4096, 128] block lies inside it. -/
theorem inbK : ∀ (j : Fin 32) (a : Fin 3), (![0, 128 * j.val, 0] : Fin 3 → ℕ) a + S1x128x128.size a ≤ S1x4096x128.size a := by decide +kernel

/-- Tile `i`, head `g` of a [1, 4096, 512] block lies inside it. -/
theorem inbQ : ∀ (i : Fin 32) (g : Fin 4) (a : Fin 3), (![0, 128 * i.val, 128 * g.val] : Fin 3 → ℕ) a + S1x128x128.size a ≤ S1x4096x512.size a := by decide +kernel

/-- Row `j` of a [1, 1, 32, 128] scale block lies inside it. -/
theorem inbS : ∀ (j : Fin 32) (a : Fin 4), (![0, 0, j.val, 0] : Fin 4 → ℕ) a + S1x1x1x128.size a ≤ S1x1x32x128.size a := by decide +kernel

/-- Row `i` of head `g` of a [1, 1, 4, 32, 128] scale block lies inside it. -/
theorem inbR : ∀ (i : Fin 32) (g : Fin 4) (a : Fin 5), (![0, 0, g.val, i.val, 0] : Fin 5 → ℕ) a + S1x1x1x1x128.size a ≤ S1x1x4x32x128.size a := by decide +kernel

/-- Slab `j` of the [32, 128, 128] scratch lies inside it. -/
theorem inbT : ∀ (j : Fin 32) (a : Fin 3), (![j.val, 0, 0] : Fin 3 → ℕ) a + S1x128x128.size a ≤ S32x128x128.size a := by decide +kernel

/-- Tile `j` of a [1, 4096, 128] block. -/
abbrev tK {α : Type} (x : S1x4096x128.Idx → α) (j : Fin 32) : S1x128x128.Idx → α := VecWindow.window x ![0, 128 * j.val, 0] S1x128x128.size (inbK j)

/-- Tile `i`, head `g` of a [1, 4096, 512] block. -/
abbrev tQ {α : Type} (x : S1x4096x512.Idx → α) (i : Fin 32) (g : Fin 4) : S1x128x128.Idx → α :=
  VecWindow.window x ![0, 128 * i.val, 128 * g.val] S1x128x128.size (inbQ i g)

/-- Row `j` of a scale block. -/
abbrev tS {α : Type} (x : S1x1x32x128.Idx → α) (j : Fin 32) : S1x1x1x128.Idx → α := VecWindow.window x ![0, 0, j.val, 0] S1x1x1x128.size (inbS j)

/-- Row `i` of head `g` of a q-scale block. -/
abbrev tR {α : Type} (x : S1x1x4x32x128.Idx → α) (i : Fin 32) (g : Fin 4) : S1x1x1x1x128.Idx → α :=
  VecWindow.window x ![0, 0, g.val, i.val, 0] S1x1x1x1x128.size (inbR i g)

/-- Slab `j` of the transposed v codes. -/
abbrev tT {α : Type} (x : S32x128x128.Idx → α) (j : Fin 32) : S1x128x128.Idx → α := VecWindow.window x ![j.val, 0, 0] S1x128x128.size (inbT j)

/-! ## The quantised tiles -/

/-- The codes of a k tile. -/
def kc (b : FVec F S1x128x128 .bf16) : FVec F S1x128x128 .fp8e4m3 := k0_pay14 (k0_pay13 b)
/-- The scale row of a k tile. -/
def ks (b : FVec F S1x128x128 .bf16) : FVec F S1x1x1x128 .f32 := k0_pay15 (k0_pay12 b)
/-- The codes of a v tile. -/
def vc (b : FVec F S1x128x128 .bf16) : FVec F S1x128x128 .fp8e4m3 := k0_pay3 (k0_pay16 b) (k0_pay17 b) (k0_pay19 b) (k0_pay20 b) (k0_pay21 b)
/-- The transposed codes of a v tile. -/
def vt (b : FVec F S1x128x128 .bf16) : FVec F S1x128x128 .fp8e4m3 := k0_pay4 (k0_pay16 b) (k0_pay17 b) (k0_pay19 b) (k0_pay20 b) (k0_pay21 b)
/-- The scale row of a v tile. -/
def vs (b : FVec F S1x128x128 .bf16) : FVec F S1x1x1x128 .f32 := k0_pay5 (k0_pay17 b) (k0_pay19 b) (k0_pay20 b) (k0_pay21 b)

/-- The codes of a q tile of head `g`. -/
def qc (g : Fin 4) (b : FVec F S1x128x128 .bf16) : FVec F S1x128x128 .fp8e4m3 :=
  match g with
  | 0 => k0_pay41 (k0_pay39 b)
  | 1 => k0_pay52 (k0_pay46 b) (k0_pay47 b) (k0_pay48 b) (k0_pay49 b)
  | 2 => k0_pay61 (k0_pay57 b) (k0_pay58 b)
  | 3 => k0_pay73 (k0_pay66 b) (k0_pay67 b) (k0_pay68 b) (k0_pay69 b) (Named.named κ "log2e" 0x3FB8AA3B#32)
/-- The transposed codes of a q tile of head `g`. -/
def qt (g : Fin 4) (b : FVec F S1x128x128 .bf16) : FVec F S128x128 .fp8e4m3 :=
  match g with
  | 0 => k0_pay42 (k0_pay39 b)
  | 1 => k0_pay53 (k0_pay46 b) (k0_pay47 b) (k0_pay48 b) (k0_pay49 b)
  | 2 => k0_pay62 (k0_pay57 b) (k0_pay58 b)
  | 3 => k0_pay74 (k0_pay66 b) (k0_pay67 b) (k0_pay68 b) (k0_pay69 b) (Named.named κ "log2e" 0x3FB8AA3B#32)
/-- The scale row of a q tile of head `g`. -/
def qs (g : Fin 4) (b : FVec F S1x128x128 .bf16) : FVec F S1x1x1x1x128 .f32 :=
  match g with
  | 0 => k0_pay44 (k0_pay38 b)
  | 1 => k0_pay55 (k0_pay54 (k0_pay47 b) (k0_pay48 b) (k0_pay49 b))
  | 2 => k0_pay64 (k0_pay59 b)
  | 3 => k0_pay76 (k0_pay71 (k0_pay67 b) (k0_pay68 b) (k0_pay69 b) (Named.named κ "log2e" 0x3FB8AA3B#32))

/-- The four heads' q scales times 1/√128, side by side. -/
def qrow (b : Fin 4 → FVec F S1x128x128 .bf16) : FVec F S1x512 .f32 :=
  k0_pay77 (k0_pay45 (k0_pay38 (b 0))) (k0_pay56 (k0_pay54 (k0_pay47 (b 1)) (k0_pay48 (b 1)) (k0_pay49 (b 1)))) (k0_pay65 (k0_pay59 (b 2)))
    (k0_pay71 (k0_pay67 (b 3)) (k0_pay68 (b 3)) (k0_pay69 (b 3)) (Named.named κ "log2e" 0x3FB8AA3B#32))

/-- The head of a column of [128, 512]. -/
theorem d512 (y : S128x512.Idx) : (y 1).val / 128 < 4 := by have h : (y 1).val < 512 := (y 1).isLt; omega

/-- A column of [128, 512] inside its head: `(row, column mod 128)`. -/
def colIn (y : S128x512.Idx) : S128x128.Idx := fun a => match a with
  | ⟨0, _⟩ => ⟨(y 0).val, (y 0).isLt⟩
  | ⟨1, _⟩ => ⟨(y 1).val % 128, Nat.mod_lt _ (by decide)⟩

/-- The four heads' transposed q codes, side by side. -/
def qtAll (b : Fin 4 → FVec F S1x128x128 .bf16) : FVec F S128x512 .fp8e4m3 :=
  fun y => qt ⟨(y 1).val / 128, d512 y⟩ (b ⟨(y 1).val / 128, d512 y⟩) (colIn y)

/-! ## The running softmax of one query tile -/

/-- The running state of one query tile: accumulator, maximum, sum. -/
structure St (F : FTy → Type) where
  /-- the weighted sum of the v codes -/
  acc : FVec F S128x512 .f32
  /-- the running maximum -/
  m : FVec F S1x512 .f32
  /-- the running sum -/
  l : FVec F S1x512 .f32

/-- The state before any key tile. -/
def st0 : St F := ⟨k0_pay80, k0_pay78, k0_pay79⟩

/-- One key tile below the diagonal: its k codes and scale, its transposed v codes and v scale. -/
def stepU (c : FVec F S1x512 .f32) (q : FVec F S128x512 .fp8e4m3) (K : FVec F S1x128x128 .fp8e4m3) (kS : FVec F S1x1x1x128 .f32)
    (V : FVec F S1x128x128 .fp8e4m3) (vS : FVec F S1x1x1x128 .f32) (s : St F) : St F :=
  ⟨k0_pay82 (k0_pay23 vS) (k0_pay26 c K q kS s.m) (k0_pay27 c K q kS s.m) V s.acc, k0_pay83 (k0_pay25 c K q kS s.m),
    k0_pay81 (k0_pay28 c K q kS s.m s.l)⟩

/-- The key tile on the diagonal, masked above it. -/
def stepD (c : FVec F S1x512 .f32) (q : FVec F S128x512 .fp8e4m3) (K : FVec F S1x128x128 .fp8e4m3) (kS : FVec F S1x1x1x128 .f32)
    (V : FVec F S1x128x128 .fp8e4m3) (vS : FVec F S1x1x1x128 .f32) (s : St F) : St F :=
  ⟨k0_pay96 (k0_pay89 vS) (k0_pay92 k0_pay6 c (k0_pay87 K) q kS s.m) (k0_pay93 k0_pay6 c (k0_pay87 K) q kS s.m)
      (Scalar.ofBits .f32 0x43E00000#32) k0_pay95 V s.acc,
    k0_pay97 (k0_pay91 k0_pay6 c (k0_pay87 K) q kS s.m), k0_pay94 k0_pay6 c (k0_pay87 K) q kS s.m s.l⟩

/-- The state after the first `n` key tiles below the diagonal. -/
def iter (c : FVec F S1x512 .f32) (q : FVec F S128x512 .fp8e4m3) (xk xv : FVec F S1x4096x128 .bf16) : ℕ → St F
  | 0 => st0
  | n + 1 => if h : n < 32 then
      stepU c q (kc (tK xk ⟨n, h⟩)) (ks (tK xk ⟨n, h⟩)) (vt (tK xv ⟨n, h⟩)) (vs (tK xv ⟨n, h⟩)) (iter c q xk xv n)
    else iter c q xk xv n

/-- The final state of query tile `i`. -/
def fin (xq : FVec F S1x4096x512 .bf16) (xk xv : FVec F S1x4096x128 .bf16) (i : Fin 32) : St F :=
  stepD (qrow (tQ xq i)) (qtAll (tQ xq i)) (kc (tK xk i)) (ks (tK xk i)) (vt (tK xv i)) (vs (tK xv i))
    (iter (qrow (tQ xq i)) (qtAll (tQ xq i)) xk xv i.val)

/-- Head `g` of the output tile of a final state. -/
def yOf (s : St F) (g : Fin 4) : FVec F S1x128x128 .bf16 :=
  match g with
  | 0 => k0_pay99 s.acc s.l
  | 1 => k0_pay7 (k0_pay100 s.acc s.l)
  | 2 => k0_pay8 (k0_pay98 s.acc s.l)
  | 3 => k0_pay9 (k0_pay98 s.acc s.l)

/-! ## Blocks assembled from their tiles -/

/-- A place inside a 128×128 tile. -/
def cell (r c : ℕ) (hr : r < 128) (hc : c < 128) : S1x128x128.Idx := fun a => match a with
  | ⟨0, _⟩ => ⟨0, Nat.zero_lt_one⟩
  | ⟨1, _⟩ => ⟨r, hr⟩
  | ⟨2, _⟩ => ⟨c, hc⟩

/-- The tile of a row of [1, 4096, 128]. -/
theorem dK (y : S1x4096x128.Idx) : (y 1).val / 128 < 32 := by have h : (y 1).val < 4096 := (y 1).isLt; omega
/-- The tile of a row of [1, 4096, 512]. -/
theorem dQ1 (y : S1x4096x512.Idx) : (y 1).val / 128 < 32 := by have h : (y 1).val < 4096 := (y 1).isLt; omega
/-- The head of a column of [1, 4096, 512]. -/
theorem dQ2 (y : S1x4096x512.Idx) : (y 2).val / 128 < 4 := by have h : (y 2).val < 512 := (y 2).isLt; omega

/-- A [1, 4096, 128] block from its tiles. -/
def asmK {α : Type} (w : Fin 32 → S1x128x128.Idx → α) : S1x4096x128.Idx → α := fun y =>
  w ⟨(y 1).val / 128, dK y⟩ (cell ((y 1).val % 128) (y 2).val (Nat.mod_lt _ (by decide)) (y 2).isLt)

/-- A [1, 4096, 512] block from its tiles. -/
def asmQ {α : Type} (w : Fin 32 → Fin 4 → S1x128x128.Idx → α) : S1x4096x512.Idx → α := fun y =>
  w ⟨(y 1).val / 128, dQ1 y⟩ ⟨(y 2).val / 128, dQ2 y⟩
    (cell ((y 1).val % 128) ((y 2).val % 128) (Nat.mod_lt _ (by decide)) (Nat.mod_lt _ (by decide)))

/-- A [1, 1, 32, 128] scale block from its rows. -/
def asmS {α : Type} (w : Fin 32 → S1x1x1x128.Idx → α) : S1x1x32x128.Idx → α := fun y =>
  w ⟨(y 2).val, (y 2).isLt⟩ (fun a => match a with
    | ⟨0, _⟩ => ⟨0, Nat.zero_lt_one⟩
    | ⟨1, _⟩ => ⟨0, Nat.zero_lt_one⟩
    | ⟨2, _⟩ => ⟨0, Nat.zero_lt_one⟩
    | ⟨3, _⟩ => ⟨(y 3).val, (y 3).isLt⟩)

/-- A [1, 1, 4, 32, 128] scale block from its rows. -/
def asmR {α : Type} (w : Fin 32 → Fin 4 → S1x1x1x1x128.Idx → α) : S1x1x4x32x128.Idx → α := fun y =>
  w ⟨(y 3).val, (y 3).isLt⟩ ⟨(y 2).val, (y 2).isLt⟩ (fun a => match a with
    | ⟨0, _⟩ => ⟨0, Nat.zero_lt_one⟩
    | ⟨1, _⟩ => ⟨0, Nat.zero_lt_one⟩
    | ⟨2, _⟩ => ⟨0, Nat.zero_lt_one⟩
    | ⟨3, _⟩ => ⟨0, Nat.zero_lt_one⟩
    | ⟨4, _⟩ => ⟨(y 4).val, (y 4).isLt⟩)

/-- A block whose tiles are `w` is the block assembled from `w`. -/
theorem eq_asmK {α : Type} (x : S1x4096x128.Idx → α) (w : Fin 32 → S1x128x128.Idx → α) (h : ∀ j, tK x j = w j) : x = asmK w := by
  funext y
  refine Eq.trans ?_ (congrFun (h _) _)
  refine congrArg x (funext fun a => Fin.ext ?_)
  have h0 : (y 0).val < 1 := (y 0).isLt
  match a with
  | ⟨0, _⟩ => show (y 0).val = 0 + 1 * 0; omega
  | ⟨1, _⟩ => show (y 1).val = 128 * ((y 1).val / 128) + 1 * ((y 1).val % 128); omega
  | ⟨2, _⟩ => show (y 2).val = 0 + 1 * (y 2).val; omega

/-- A block whose tiles are `w` is the block assembled from `w`. -/
theorem eq_asmQ {α : Type} (x : S1x4096x512.Idx → α) (w : Fin 32 → Fin 4 → S1x128x128.Idx → α) (h : ∀ i g, tQ x i g = w i g) : x = asmQ w := by
  funext y
  refine Eq.trans ?_ (congrFun (h _ _) _)
  refine congrArg x (funext fun a => Fin.ext ?_)
  have h0 : (y 0).val < 1 := (y 0).isLt
  match a with
  | ⟨0, _⟩ => show (y 0).val = 0 + 1 * 0; omega
  | ⟨1, _⟩ => show (y 1).val = 128 * ((y 1).val / 128) + 1 * ((y 1).val % 128); omega
  | ⟨2, _⟩ => show (y 2).val = 128 * ((y 2).val / 128) + 1 * ((y 2).val % 128); omega

/-- A scale block whose rows are `w` is the block assembled from `w`. -/
theorem eq_asmS {α : Type} (x : S1x1x32x128.Idx → α) (w : Fin 32 → S1x1x1x128.Idx → α) (h : ∀ j, tS x j = w j) : x = asmS w := by
  funext y
  refine Eq.trans ?_ (congrFun (h _) _)
  refine congrArg x (funext fun a => Fin.ext ?_)
  have h0 : (y 0).val < 1 := (y 0).isLt
  have h1 : (y 1).val < 1 := (y 1).isLt
  match a with
  | ⟨0, _⟩ => show (y 0).val = 0 + 1 * 0; omega
  | ⟨1, _⟩ => show (y 1).val = 0 + 1 * 0; omega
  | ⟨2, _⟩ => show (y 2).val = (y 2).val + 1 * 0; omega
  | ⟨3, _⟩ => show (y 3).val = 0 + 1 * (y 3).val; omega

/-- A scale block whose rows are `w` is the block assembled from `w`. -/
theorem eq_asmR {α : Type} (x : S1x1x4x32x128.Idx → α) (w : Fin 32 → Fin 4 → S1x1x1x1x128.Idx → α) (h : ∀ i g, tR x i g = w i g) : x = asmR w := by
  funext y
  refine Eq.trans ?_ (congrFun (h _ _) _)
  refine congrArg x (funext fun a => Fin.ext ?_)
  have h0 : (y 0).val < 1 := (y 0).isLt
  have h1 : (y 1).val < 1 := (y 1).isLt
  match a with
  | ⟨0, _⟩ => show (y 0).val = 0 + 1 * 0; omega
  | ⟨1, _⟩ => show (y 1).val = 0 + 1 * 0; omega
  | ⟨2, _⟩ => show (y 2).val = (y 2).val + 1 * 0; omega
  | ⟨3, _⟩ => show (y 3).val = (y 3).val + 1 * 0; omega
  | ⟨4, _⟩ => show (y 4).val = 0 + 1 * (y 4).val; omega

end Cert.Proof.Ideal

end
-- ==== Proof.Ideal.TripA.lean ====
/- The first loop of `KernelIdeal`'s body: one trip quantises tile `k` of k and v, and after the 32 trips every tile of the
   code, scale and transposed-code buffers holds its quantised tile. -/
module

public import proofs.«01_k».proof.Proof.Ideal.Model
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- A memref's elements in full. -/
abbrev pt (c : Dev nD) {s : Shape} {e : EltTy} (a : Memref sig .tc .vmem s e) (f : BufTy.Contents (Elt F) a.view.ty) : sProp 𝕄G :=
  iprop(a.view.loc (c : Thread nD τ) ↦[a.view.set]{fullShare} f)

/-- A memref's elements in full, what it reads satisfying `P`. -/
def held (c : Dev nD) {s : Shape} {e : EltTy} (a : Memref sig .tc .vmem s e) (P : (s.Idx → Elt F e) → Prop) : sProp 𝕄G :=
  iprop(∃ f, ⌜P (a.view.read (Elt F) f)⌝ ∗ pt c a f)

/-- One store through a window, read back. -/
theorem read_upd {sig : RefSig} {κ : Kind} {sp : Space} {s : Shape} {e : EltTy} {Val : EltTy → Type} (v : View sig κ sp s e) (f : v.ty.Contents Val)
    {off off' size : Fin s.rank → ℕ} (inb : ∀ a, off a + size a ≤ s.size a) (w : (Rect.unit off size inb).shape.Idx → Val e) (h : off = off')
    {w' : ((a : Fin s.rank) → Fin (size a)) → Val e} (hw : w = w') :
    v.read Val (v.writes Val f [⟨Rect.unit off size inb, w⟩]) = VecWindow.put (v.read Val f) off' size w' := by
  subst hw; exact View.read_writes_cons_put v f inb w [] h

/-- The first `k` windows are known and window `k` is put: the first `k + 1` are known. -/
theorem grow {α : Type} {s : Shape} {off : Fin 32 → Fin s.rank → ℕ} {size : Fin s.rank → ℕ} {x y : s.Idx → α}
    (w : Fin 32 → ((a : Fin s.rank) → Fin (size a)) → α) (inb : ∀ j a, off j a + size a ≤ s.size a)
    (sep : ∃ a, ∀ i j : Fin 32, i ≠ j → off i a + size a ≤ off j a ∨ off j a + size a ≤ off i a) (k : Fin 32)
    (e : y = VecWindow.put x (off k) size (w k)) (h : ∀ j : Fin 32, j.val < k.val → VecWindow.window x (off j) size (inb j) = w j) :
    ∀ j : Fin 32, j.val < k.val + 1 → VecWindow.window y (off j) size (inb j) = w j := by
  intro j hj
  subst e
  by_cases hjk : j = k
  · subst hjk; exact VecWindow.window_put_same _ _ _ _ _
  · obtain ⟨a, ha⟩ := sep
    rw [VecWindow.window_put_of_disjoint _ _ _ _ _ _ _ a (ha j k hjk)]
    exact h j (by have : j.val ≠ k.val := fun e => hjk (Fin.ext e); omega)

/-- Distinct tiles lie apart. -/
theorem sepK : ∀ i j : Fin 32, i ≠ j → (![0, 128 * i.val, 0] : Fin 3 → ℕ) 1 + S1x128x128.size 1 ≤ (![0, 128 * j.val, 0] : Fin 3 → ℕ) 1
    ∨ (![0, 128 * j.val, 0] : Fin 3 → ℕ) 1 + S1x128x128.size 1 ≤ (![0, 128 * i.val, 0] : Fin 3 → ℕ) 1 := by decide +kernel
/-- Distinct rows lie apart. -/
theorem sepS : ∀ i j : Fin 32, i ≠ j → (![0, 0, i.val, 0] : Fin 4 → ℕ) 2 + S1x1x1x128.size 2 ≤ (![0, 0, j.val, 0] : Fin 4 → ℕ) 2
    ∨ (![0, 0, j.val, 0] : Fin 4 → ℕ) 2 + S1x1x1x128.size 2 ≤ (![0, 0, i.val, 0] : Fin 4 → ℕ) 2 := by decide +kernel
/-- Distinct slabs lie apart. -/
theorem sepT : ∀ i j : Fin 32, i ≠ j → (![i.val, 0, 0] : Fin 3 → ℕ) 0 + S1x128x128.size 0 ≤ (![j.val, 0, 0] : Fin 3 → ℕ) 0
    ∨ (![j.val, 0, 0] : Fin 3 → ℕ) 0 + S1x128x128.size 0 ≤ (![i.val, 0, 0] : Fin 3 → ℕ) 0 := by decide +kernel

/-- A trip of the first loop as a tile number. -/
abbrev n1 (k : Fin k0_t1_loop.trips) : Fin 32 := ⟨k.val, Nat.lt_of_lt_of_le k.isLt k0_t1_abs.2.1⟩

variable (𝒱 : Variants) (c : Dev nD) (bd : Option 𝒱.V) (E : Set ℕ) (i : grid0.Coords)
  (arg2 : Memref sig .tc .vmem S1x4096x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x4096x512 .bf16) (harg5 : arg5.IsWhole)
  (arg6 : Memref sig .tc .vmem S1x4096x512 .fp8e4m3) (harg6 : arg6.IsWhole) (arg7 : Memref sig .tc .vmem S1x1x4x32x128 .f32) (harg7 : arg7.IsWhole)
  (arg8 : Memref sig .tc .vmem S1x4096x128 .fp8e4m3) (harg8 : arg8.IsWhole) (arg9 : Memref sig .tc .vmem S1x1x32x128 .f32) (harg9 : arg9.IsWhole)
  (arg10 : Memref sig .tc .vmem S1x4096x128 .fp8e4m3) (harg10 : arg10.IsWhole) (arg11 : Memref sig .tc .vmem S1x1x32x128 .f32) (harg11 : arg11.IsWhole)
  (arg12 : Memref sig .tc .vmem S32x128x128 .fp8e4m3) (harg12 : arg12.IsWhole) (arg13 : Memref sig .tc .vmem S128x512 .fp8e4m3) (harg13 : arg13.IsWhole)
  (arg14 : Memref sig .tc .vmem S128x512 .f32) (harg14 : arg14.IsWhole) (arg15 : Memref sig .tc .vmem S1x512 .f32) (harg15 : arg15.IsWhole)
  (arg16 : Memref sig .tc .vmem S1x512 .f32) (harg16 : arg16.IsWhole)

/-- One trip: tile `k` of every written buffer becomes the quantised tile, nothing else changes. -/
theorem trip1 (f3 f4 f8 f9 f10 f11 f12) (k : Fin k0_t1_loop.trips) :
    (iprop(pt c arg3 f3 ∗ pt c arg4 f4 ∗ pt c arg8 f8 ∗ pt c arg9 f9 ∗ pt c arg10 f10 ∗ pt c arg11 f11 ∗ pt c arg12 f12) : sProp 𝕄G)
      ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k PUnit.unit)
        (fun _ => iprop(pt c arg3 f3 ∗ pt c arg4 f4
          ∗ (∃ g8, pt c arg8 g8 ∗ ⌜arg8.view.read (Elt F) g8 = VecWindow.put (arg8.view.read (Elt F) f8) ![0, 128 * (n1 k).val, 0] S1x128x128.size (kc (tK (arg3.view.read (Elt F) f3) (n1 k)))⌝)
          ∗ (∃ g9, pt c arg9 g9 ∗ ⌜arg9.view.read (Elt F) g9 = VecWindow.put (arg9.view.read (Elt F) f9) ![0, 0, (n1 k).val, 0] S1x1x1x128.size (ks (tK (arg3.view.read (Elt F) f3) (n1 k)))⌝)
          ∗ (∃ g10, pt c arg10 g10 ∗ ⌜arg10.view.read (Elt F) g10 = VecWindow.put (arg10.view.read (Elt F) f10) ![0, 128 * (n1 k).val, 0] S1x128x128.size (vc (tK (arg4.view.read (Elt F) f4) (n1 k)))⌝)
          ∗ (∃ g11, pt c arg11 g11 ∗ ⌜arg11.view.read (Elt F) g11 = VecWindow.put (arg11.view.read (Elt F) f11) ![0, 0, (n1 k).val, 0] S1x1x1x128.size (vs (tK (arg4.view.read (Elt F) f4) (n1 k)))⌝)
          ∗ (∃ g12, pt c arg12 g12 ∗ ⌜arg12.view.read (Elt F) g12 = VecWindow.put (arg12.view.read (Elt F) f12) ![(n1 k).val, 0, 0] S1x128x128.size (vt (tK (arg4.view.read (Elt F) f4) (n1 k)))⌝))) := by
  have hk : k.val < 32 := Nat.lt_of_lt_of_le k.isLt k0_t1_abs.2.1
  unfold k0_t1_body
  iintro ⟨H3, H4, H8, H9, H10, H11, H12⟩
  sl_exec
  sl_step
  have e3 := View.readAt_unit arg3.view f3 (k0_off1_inb k) (k0_off1_eq k) (inbK (n1 k))
  have e4 := View.readAt_unit arg4.view f4 (k0_off1_inb k) (k0_off1_eq k) (inbK (n1 k))
  isplitl [H3]; · iexact H3
  isplitl [H4]; · iexact H4
  isplitl [H8]
  · iexists _; isplitl [H8]; · iexact H8
    ipureintro; exact read_upd _ _ _ _ (k0_off1_eq k) (Eq.trans rfl (congrArg kc e3))
  isplitl [H9]
  · iexists _; isplitl [H9]; · iexact H9
    ipureintro; exact read_upd _ _ _ _ (k0_off2_eq k) (Eq.trans rfl (congrArg ks e3))
  isplitl [H10]
  · iexists _; isplitl [H10]; · iexact H10
    ipureintro; exact read_upd _ _ _ _ (k0_off1_eq k) (Eq.trans rfl (congrArg vc e4))
  isplitl [H11]
  · iexists _; isplitl [H11]; · iexact H11
    ipureintro; exact read_upd _ _ _ _ (k0_off2_eq k) (Eq.trans rfl (congrArg vs e4))
  iexists _; isplitl [H12]; · iexact H12
  ipureintro; exact read_upd _ _ _ _ (k0_off3_eq k) (Eq.trans rfl (congrArg vt e4))

/-- The invariant: before trip `k` the first `k` tiles of every written buffer are the quantised tiles. -/
def inv1 (X3 X4 : FVec F S1x4096x128 .bf16) (k : ℕ) (_ : PUnit) : sProp 𝕄G :=
  iprop(held c arg3 (fun x => x = X3) ∗ held c arg4 (fun x => x = X4)
    ∗ held c arg8 (fun x => ∀ j : Fin 32, j.val < k → tK x j = kc (tK X3 j))
    ∗ held c arg9 (fun x => ∀ j : Fin 32, j.val < k → tS x j = ks (tK X3 j))
    ∗ held c arg10 (fun x => ∀ j : Fin 32, j.val < k → tK x j = vc (tK X4 j))
    ∗ held c arg11 (fun x => ∀ j : Fin 32, j.val < k → tS x j = vs (tK X4 j))
    ∗ held c arg12 (fun x => ∀ j : Fin 32, j.val < k → tT x j = vt (tK X4 j)))

/-- The invariant is kept by a trip. -/
theorem step1 (X3 X4 : FVec F S1x4096x128 .bf16) (k : Fin k0_t1_loop.trips) (u : PUnit) :
    inv1 (F := F) c arg3 arg4 arg8 arg9 arg10 arg11 arg12 X3 X4 k.val u
      ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k u)
        (inv1 (F := F) c arg3 arg4 arg8 arg9 arg10 arg11 arg12 X3 X4 (k.val + 1)) := by
  unfold inv1 held
  iintro ⟨⟨%f3, %h3, H3⟩, ⟨%f4, %h4, H4⟩, ⟨%f8, %h8, H8⟩, ⟨%f9, %h9, H9⟩, ⟨%f10, %h10, H10⟩, ⟨%f11, %h11, H11⟩, ⟨%f12, %h12, H12⟩⟩
  iapply (wp_wand_r Idealize.ShloMosaic.frame (wpE (defs₀ (F := F)) 𝒱 (c : Thread nD τ) bd) E)
  isplitl [H3 H4 H8 H9 H10 H11 H12]
  · iapply (trip1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 f3 f4 f8 f9 f10 f11 f12 k)
    isplitl [H3]; · iexact H3
    isplitl [H4]; · iexact H4
    isplitl [H8]; · iexact H8
    isplitl [H9]; · iexact H9
    isplitl [H10]; · iexact H10
    isplitl [H11]; · iexact H11
    iexact H12
  iintro %_ ⟨H3, H4, ⟨%g8, H8, %e8⟩, ⟨%g9, H9, %e9⟩, ⟨%g10, H10, %e10⟩, ⟨%g11, H11, %e11⟩, ⟨%g12, H12, %e12⟩⟩
  subst h3 h4
  isplitl [H3]
  · iexists _; isplitr; · ipureintro; rfl
    iexact H3
  isplitl [H4]
  · iexists _; isplitr; · ipureintro; rfl
    iexact H4
  isplitl [H8]
  · iexists _; isplitr; · ipureintro; exact grow _ inbK ⟨1, sepK⟩ (n1 k) e8 h8
    iexact H8
  isplitl [H9]
  · iexists _; isplitr; · ipureintro; exact grow _ inbS ⟨2, sepS⟩ (n1 k) e9 h9
    iexact H9
  isplitl [H10]
  · iexists _; isplitr; · ipureintro; exact grow _ inbK ⟨1, sepK⟩ (n1 k) e10 h10
    iexact H10
  isplitl [H11]
  · iexists _; isplitr; · ipureintro; exact grow _ inbS ⟨2, sepS⟩ (n1 k) e11 h11
    iexact H11
  iexists _; isplitr; · ipureintro; exact grow _ inbT ⟨0, sepT⟩ (n1 k) e12 h12
  iexact H12

end Cert.Proof.Ideal

end
-- ==== Proof.Ideal.TripB.lean ====
/- The inner loop of `KernelIdeal`'s body: one trip folds one key tile below the diagonal into the running accumulator,
   maximum and sum of the query tile, so after `i` trips the three scratches hold the state `iter i`. -/
module

public import proofs.«01_k».proof.Proof.Ideal.TripA
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The inner loop of query tile `i` makes `i` trips. -/
theorem t3_trips : ∀ k : Fin k0_t2_loop.trips, (k0_t3_loop k).trips = k.val := by decide +kernel

/-- A trip of the second loop as a tile number. -/
abbrev n2 (k : Fin k0_t2_loop.trips) : Fin 32 := ⟨k.val, Nat.lt_of_lt_of_le k.isLt k0_t2_abs.2.1⟩

/-- A trip of the inner loop as a tile number. -/
abbrev n3 (t : Fin k0_t2_loop.trips) (k : Fin (k0_t3_loop t).trips) : Fin 32 :=
  ⟨k.val, Nat.lt_of_lt_of_le k.isLt (Nat.le_trans (k0_t3_abs t).2.1 (by decide))⟩

variable (𝒱 : Variants) (c : Dev nD) (bd : Option 𝒱.V) (E : Set ℕ) (i : grid0.Coords)
  (arg2 : Memref sig .tc .vmem S1x4096x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x4096x512 .bf16) (harg5 : arg5.IsWhole)
  (arg6 : Memref sig .tc .vmem S1x4096x512 .fp8e4m3) (harg6 : arg6.IsWhole) (arg7 : Memref sig .tc .vmem S1x1x4x32x128 .f32) (harg7 : arg7.IsWhole)
  (arg8 : Memref sig .tc .vmem S1x4096x128 .fp8e4m3) (harg8 : arg8.IsWhole) (arg9 : Memref sig .tc .vmem S1x1x32x128 .f32) (harg9 : arg9.IsWhole)
  (arg10 : Memref sig .tc .vmem S1x4096x128 .fp8e4m3) (harg10 : arg10.IsWhole) (arg11 : Memref sig .tc .vmem S1x1x32x128 .f32) (harg11 : arg11.IsWhole)
  (arg12 : Memref sig .tc .vmem S32x128x128 .fp8e4m3) (harg12 : arg12.IsWhole) (arg13 : Memref sig .tc .vmem S128x512 .fp8e4m3) (harg13 : arg13.IsWhole)
  (arg14 : Memref sig .tc .vmem S128x512 .f32) (harg14 : arg14.IsWhole) (arg15 : Memref sig .tc .vmem S1x512 .f32) (harg15 : arg15.IsWhole)
  (arg16 : Memref sig .tc .vmem S1x512 .f32) (harg16 : arg16.IsWhole)

  (t : Fin k0_t2_loop.trips) (arg17 : BitVec 32) (v85 v149 v213 : FVec F S1x128 .f32) (v250 : FVec F S1x1 .f32) (v269 : FVec F S128x128 .fp8e4m3)

/-- The step of one key tile, from what the buffers read. -/
def stepAt (n : Fin 32) (C : FVec F S1x512 .f32) (x8 : FVec F S1x4096x128 .fp8e4m3) (x9 x11 : FVec F S1x1x32x128 .f32) (x12 : FVec F S32x128x128 .fp8e4m3)
    (x13 : FVec F S128x512 .fp8e4m3) (s : St F) : St F := stepU C x13 (tK x8 n) (tS x9 n) (tT x12 n) (tS x11 n) s

/-- One trip: the three running scratches take one step, nothing else changes. -/
theorem trip3 (f8 f9 f11 f12 f13 f14 f15 f16) (k : Fin (k0_t3_loop t).trips) :
    (iprop(pt c arg8 f8 ∗ pt c arg9 f9 ∗ pt c arg11 f11 ∗ pt c arg12 f12 ∗ pt c arg13 f13 ∗ pt c arg14 f14 ∗ pt c arg15 f15 ∗ pt c arg16 f16) : sProp 𝕄G)
      ⊢ wp frame (wpE (defs₀ (F := F)) 𝒱 (c : Thread nD τ) bd) E
        (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 t arg17 v85 v149 v213 v250 v269 k PUnit.unit)
        (fun _ => iprop(pt c arg8 f8 ∗ pt c arg9 f9 ∗ pt c arg11 f11 ∗ pt c arg12 f12 ∗ pt c arg13 f13
          ∗ (∃ g14, pt c arg14 g14 ∗ ⌜arg14.view.read (Elt F) g14 = (stepAt (n3 t k) (k0_pay77 v85 v149 v213 v250) (arg8.view.read (Elt F) f8) (arg9.view.read (Elt F) f9) (arg11.view.read (Elt F) f11) (arg12.view.read (Elt F) f12) (arg13.view.read (Elt F) f13) ⟨arg14.view.read (Elt F) f14, arg15.view.read (Elt F) f15, arg16.view.read (Elt F) f16⟩).acc⌝)
          ∗ (∃ g15, pt c arg15 g15 ∗ ⌜arg15.view.read (Elt F) g15 = (stepAt (n3 t k) (k0_pay77 v85 v149 v213 v250) (arg8.view.read (Elt F) f8) (arg9.view.read (Elt F) f9) (arg11.view.read (Elt F) f11) (arg12.view.read (Elt F) f12) (arg13.view.read (Elt F) f13) ⟨arg14.view.read (Elt F) f14, arg15.view.read (Elt F) f15, arg16.view.read (Elt F) f16⟩).m⌝)
          ∗ (∃ g16, pt c arg16 g16 ∗ ⌜arg16.view.read (Elt F) g16 = (stepAt (n3 t k) (k0_pay77 v85 v149 v213 v250) (arg8.view.read (Elt F) f8) (arg9.view.read (Elt F) f9) (arg11.view.read (Elt F) f11) (arg12.view.read (Elt F) f12) (arg13.view.read (Elt F) f13) ⟨arg14.view.read (Elt F) f14, arg15.view.read (Elt F) f15, arg16.view.read (Elt F) f16⟩).l⌝))) := by
  have hk : k.val < 32 := (n3 t k).isLt
  unfold k0_t3_body
  iintro ⟨H8, H9, H11, H12, H13, H14, H15, H16⟩
  sl_exec
  sl_step
  have e8 := View.readAt_unit arg8.view f8 (k0_off12_inb t k) (k0_off12_eq t k) (inbK (n3 t k))
  have e9 := View.readAt_unit arg9.view f9 (k0_off13_inb t k) (k0_off13_eq t k) (inbS (n3 t k))
  have e11 := View.readAt_unit arg11.view f11 (k0_off13_inb t k) (k0_off13_eq t k) (inbS (n3 t k))
  have e12 := View.readAt_unit arg12.view f12 (k0_off14_inb t k) (k0_off14_eq t k) (inbT (n3 t k))
  have e13 := View.readAt_full arg13.view f13 inb_S128x512_S128x512_0_0
  have e14 := View.readAt_full arg14.view f14 inb_S128x512_S128x512_0_0
  have e15 := View.readAt_full arg15.view f15 inb_S1x512_S1x512_0_0
  have e16 := View.readAt_full arg16.view f16 inb_S1x512_S1x512_0_0
  have eS : stepU (k0_pay77 v85 v149 v213 v250)
      (arg13.view.readAt (Elt F) (Rect.unit (s := S128x512) ![0, 0] S128x512.size inb_S128x512_S128x512_0_0).toLoadRect f13)
      (arg8.view.readAt (Elt F) (Rect.unit (s := S1x4096x128) (k0_off12 t k) S1x128x128.size (k0_off12_inb t k)).toLoadRect f8)
      (arg9.view.readAt (Elt F) (Rect.unit (s := S1x1x32x128) (k0_off13 t k) S1x1x1x128.size (k0_off13_inb t k)).toLoadRect f9)
      (arg12.view.readAt (Elt F) (Rect.unit (s := S32x128x128) (k0_off14 t k) S1x128x128.size (k0_off14_inb t k)).toLoadRect f12)
      (arg11.view.readAt (Elt F) (Rect.unit (s := S1x1x32x128) (k0_off13 t k) S1x1x1x128.size (k0_off13_inb t k)).toLoadRect f11)
      ⟨arg14.view.readAt (Elt F) (Rect.unit (s := S128x512) ![0, 0] S128x512.size inb_S128x512_S128x512_0_0).toLoadRect f14,
        arg15.view.readAt (Elt F) (Rect.unit (s := S1x512) ![0, 0] S1x512.size inb_S1x512_S1x512_0_0).toLoadRect f15,
        arg16.view.readAt (Elt F) (Rect.unit (s := S1x512) ![0, 0] S1x512.size inb_S1x512_S1x512_0_0).toLoadRect f16⟩
      = stepAt (n3 t k) (k0_pay77 v85 v149 v213 v250) (arg8.view.read (Elt F) f8) (arg9.view.read (Elt F) f9) (arg11.view.read (Elt F) f11)
          (arg12.view.read (Elt F) f12) (arg13.view.read (Elt F) f13)
          ⟨arg14.view.read (Elt F) f14, arg15.view.read (Elt F) f15, arg16.view.read (Elt F) f16⟩ := by
    unfold stepAt
    simp only [e8, e9, e11, e12, e13, e14, e15, e16]
  isplitl [H8]; · iexact H8
  isplitl [H9]; · iexact H9
  isplitl [H11]; · iexact H11
  isplitl [H12]; · iexact H12
  isplitl [H13]; · iexact H13
  isplitl [H14]
  · iexists _; isplitl [H14]; · iexact H14
    ipureintro; exact (View.read_writes_full arg14.view f14 inb_S128x512_S128x512_0_0 _ []).trans (Eq.trans rfl (congrArg St.acc eS))
  isplitl [H15]
  · iexists _; isplitl [H15]; · iexact H15
    ipureintro; exact (View.read_writes_full arg15.view f15 inb_S1x512_S1x512_0_0 _ []).trans (Eq.trans rfl (congrArg St.m eS))
  iexists _; isplitl [H16]; · iexact H16
  ipureintro; exact (View.read_writes_full arg16.view f16 inb_S1x512_S1x512_0_0 _ []).trans (Eq.trans rfl (congrArg St.l eS))

/-- The invariant: every key tile of the quantised buffers is known, and the running scratches hold the state after
    `k` key tiles. -/
def inv3 (X3 X4 : FVec F S1x4096x128 .bf16) (C : FVec F S1x512 .f32) (Q : FVec F S128x512 .fp8e4m3) (k : ℕ) (_ : PUnit) : sProp 𝕄G :=
  iprop(held c arg8 (fun x => ∀ j : Fin 32, tK x j = kc (tK X3 j)) ∗ held c arg9 (fun x => ∀ j : Fin 32, tS x j = ks (tK X3 j))
    ∗ held c arg11 (fun x => ∀ j : Fin 32, tS x j = vs (tK X4 j)) ∗ held c arg12 (fun x => ∀ j : Fin 32, tT x j = vt (tK X4 j))
    ∗ held c arg13 (fun x => x = Q)
    ∗ held c arg14 (fun x => x = (iter C Q X3 X4 k).acc) ∗ held c arg15 (fun x => x = (iter C Q X3 X4 k).m) ∗ held c arg16 (fun x => x = (iter C Q X3 X4 k).l))

/-- One step from known buffers is one step of `iter`. -/
theorem stepAt_iter (n : Fin 32) (X3 X4 : FVec F S1x4096x128 .bf16) (C : FVec F S1x512 .f32) (x8 : FVec F S1x4096x128 .fp8e4m3)
    (x9 x11 : FVec F S1x1x32x128 .f32) (x12 : FVec F S32x128x128 .fp8e4m3) (x13 : FVec F S128x512 .fp8e4m3)
    (h8 : ∀ j : Fin 32, tK x8 j = kc (tK X3 j)) (h9 : ∀ j : Fin 32, tS x9 j = ks (tK X3 j)) (h11 : ∀ j : Fin 32, tS x11 j = vs (tK X4 j))
    (h12 : ∀ j : Fin 32, tT x12 j = vt (tK X4 j)) :
    stepAt n C x8 x9 x11 x12 x13 (iter C x13 X3 X4 n.val) = iter C x13 X3 X4 (n.val + 1) := by
  show _ = (if h : n.val < 32 then _ else _)
  rw [dif_pos n.isLt]
  unfold stepAt
  rw [h8 n, h9 n, h11 n, h12 n]

/-- The invariant is kept by a trip. -/
theorem step3 (X3 X4 : FVec F S1x4096x128 .bf16) (C : FVec F S1x512 .f32) (hC : k0_pay77 v85 v149 v213 v250 = C) (Q : FVec F S128x512 .fp8e4m3)
    (k : Fin (k0_t3_loop t).trips) (u : PUnit) :
    inv3 (F := F) c arg8 arg9 arg11 arg12 arg13 arg14 arg15 arg16 X3 X4 C Q k.val u
      ⊢ wp frame (wpE (defs₀ (F := F)) 𝒱 (c : Thread nD τ) bd) E
        (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 t arg17 v85 v149 v213 v250 v269 k u)
        (inv3 (F := F) c arg8 arg9 arg11 arg12 arg13 arg14 arg15 arg16 X3 X4 C Q (k.val + 1)) := by
  subst hC
  unfold inv3 held
  iintro ⟨⟨%f8, %h8, H8⟩, ⟨%f9, %h9, H9⟩, ⟨%f11, %h11, H11⟩, ⟨%f12, %h12, H12⟩, ⟨%f13, %h13, H13⟩, ⟨%f14, %h14, H14⟩, ⟨%f15, %h15, H15⟩, ⟨%f16, %h16, H16⟩⟩
  iapply (wp_wand_r Idealize.ShloMosaic.frame (wpE (defs₀ (F := F)) 𝒱 (c : Thread nD τ) bd) E)
  isplitl [H8 H9 H11 H12 H13 H14 H15 H16]
  · iapply (trip3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 t arg17 v85 v149 v213 v250 v269 f8 f9 f11 f12 f13 f14 f15 f16 k)
    isplitl [H8]; · iexact H8
    isplitl [H9]; · iexact H9
    isplitl [H11]; · iexact H11
    isplitl [H12]; · iexact H12
    isplitl [H13]; · iexact H13
    isplitl [H14]; · iexact H14
    isplitl [H15]; · iexact H15
    iexact H16
  subst h13
  have hs := stepAt_iter (n3 t k) X3 X4 (k0_pay77 v85 v149 v213 v250) _ _ _ _ (arg13.view.read (Elt F) f13) h8 h9 h11 h12
  rw [h14, h15, h16]
  iintro %_ ⟨H8, H9, H11, H12, H13, ⟨%g14, H14, %e14⟩, ⟨%g15, H15, %e15⟩, ⟨%g16, H16, %e16⟩⟩
  isplitl [H8]
  · iexists _; isplitr; · ipureintro; exact h8
    iexact H8
  isplitl [H9]
  · iexists _; isplitr; · ipureintro; exact h9
    iexact H9
  isplitl [H11]
  · iexists _; isplitr; · ipureintro; exact h11
    iexact H11
  isplitl [H12]
  · iexists _; isplitr; · ipureintro; exact h12
    iexact H12
  isplitl [H13]
  · iexists _; isplitr; · ipureintro; exact rfl
    iexact H13
  isplitl [H14]
  · iexists _; isplitr; · ipureintro; exact e14.trans (congrArg St.acc hs)
    iexact H14
  isplitl [H15]
  · iexists _; isplitr; · ipureintro; exact e15.trans (congrArg St.m hs)
    iexact H15
  iexists _; isplitr; · ipureintro; exact e16.trans (congrArg St.l hs)
  iexact H16

end Cert.Proof.Ideal

end
-- ==== Proof.Ideal.TripC.lean ====
/- The second loop of `KernelIdeal`'s body: one trip quantises the four heads' q tiles of rows `128 i …`, runs the softmax over
   the key tiles up to the diagonal, and stores the output tile. -/
module

public import proofs.«01_k».proof.Proof.Ideal.TripB
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- Four stores of one size. -/
def put4 {α : Type} {s : Shape} (x : s.Idx → α) (off : Fin 4 → Fin s.rank → ℕ) (size : Fin s.rank → ℕ) (w : Fin 4 → ((a : Fin s.rank) → Fin (size a)) → α) : s.Idx → α :=
  VecWindow.put (VecWindow.put (VecWindow.put (VecWindow.put x (off 0) size (w 0)) (off 1) size (w 1)) (off 2) size (w 2)) (off 3) size (w 3)

/-- Four stores through windows, read back. -/
theorem read_upd4 {sig : RefSig} {κ : Kind} {sp : Space} {s : Shape} {e : EltTy} {Val : EltTy → Type} (v : View sig κ sp s e) (f : v.ty.Contents Val)
    {o0 o1 o2 o3 size : Fin s.rank → ℕ} (off' : Fin 4 → Fin s.rank → ℕ)
    (i0 : ∀ a, o0 a + size a ≤ s.size a) (i1 : ∀ a, o1 a + size a ≤ s.size a) (i2 : ∀ a, o2 a + size a ≤ s.size a) (i3 : ∀ a, o3 a + size a ≤ s.size a)
    (w0 : (Rect.unit o0 size i0).shape.Idx → Val e) (w1 : (Rect.unit o1 size i1).shape.Idx → Val e)
    (w2 : (Rect.unit o2 size i2).shape.Idx → Val e) (w3 : (Rect.unit o3 size i3).shape.Idx → Val e)
    (h0 : o0 = off' 0) (h1 : o1 = off' 1) (h2 : o2 = off' 2) (h3 : o3 = off' 3)
    {w' : Fin 4 → ((a : Fin s.rank) → Fin (size a)) → Val e} (e0 : w0 = w' 0) (e1 : w1 = w' 1) (e2 : w2 = w' 2) (e3 : w3 = w' 3) :
    v.read Val (v.writes Val f [⟨Rect.unit o3 size i3, w3⟩, ⟨Rect.unit o2 size i2, w2⟩, ⟨Rect.unit o1 size i1, w1⟩, ⟨Rect.unit o0 size i0, w0⟩])
      = put4 (v.read Val f) off' size w' := by
  subst e0 e1 e2 e3
  unfold put4
  rw [View.read_writes_cons_put v f i3 _ _ h3, View.read_writes_cons_put v f i2 _ _ h2, View.read_writes_cons_put v f i1 _ _ h1,
    View.read_writes_cons_put v f i0 _ _ h0, View.writes_nil]

/-- Of four stores through windows that lie apart, each is read back. -/
theorem window_put4 {α : Type} {s : Shape} {off : Fin 4 → Fin s.rank → ℕ} {size : Fin s.rank → ℕ} (x : s.Idx → α)
    (w : Fin 4 → ((a : Fin s.rank) → Fin (size a)) → α) (inb : ∀ g a, off g a + size a ≤ s.size a)
    (sep : ∃ a, ∀ g g' : Fin 4, g ≠ g' → off g a + size a ≤ off g' a ∨ off g' a + size a ≤ off g a) (g : Fin 4) :
    VecWindow.window (put4 x off size w) (off g) size (inb g) = w g := by
  obtain ⟨b, hb⟩ := sep
  unfold put4
  match g with
  | 0 =>
    rw [VecWindow.window_put_of_disjoint _ _ _ _ _ _ _ b (hb 0 3 (by decide)), VecWindow.window_put_of_disjoint _ _ _ _ _ _ _ b (hb 0 2 (by decide)),
      VecWindow.window_put_of_disjoint _ _ _ _ _ _ _ b (hb 0 1 (by decide))]
    exact VecWindow.window_put_same _ _ _ _ _
  | 1 =>
    rw [VecWindow.window_put_of_disjoint _ _ _ _ _ _ _ b (hb 1 3 (by decide)), VecWindow.window_put_of_disjoint _ _ _ _ _ _ _ b (hb 1 2 (by decide))]
    exact VecWindow.window_put_same _ _ _ _ _
  | 2 =>
    rw [VecWindow.window_put_of_disjoint _ _ _ _ _ _ _ b (hb 2 3 (by decide))]
    exact VecWindow.window_put_same _ _ _ _ _
  | 3 => exact VecWindow.window_put_same _ _ _ _ _

/-- The windows of the first `k` query tiles are known and the four of tile `k` are put: those of the first `k + 1` are known. -/
theorem grow4 {α : Type} {s : Shape} {off : Fin 32 → Fin 4 → Fin s.rank → ℕ} {size : Fin s.rank → ℕ} {x y : s.Idx → α}
    (w : Fin 32 → Fin 4 → ((a : Fin s.rank) → Fin (size a)) → α) (inb : ∀ j g a, off j g a + size a ≤ s.size a)
    (sepi : ∃ a, ∀ (i j : Fin 32) (g g' : Fin 4), i ≠ j → off i g a + size a ≤ off j g' a ∨ off j g' a + size a ≤ off i g a)
    (sepg : ∃ a, ∀ (i j : Fin 32) (g g' : Fin 4), g ≠ g' → off i g a + size a ≤ off j g' a ∨ off j g' a + size a ≤ off i g a) (k : Fin 32)
    (e : y = put4 x (off k) size (w k)) (h : ∀ (j : Fin 32) (g : Fin 4), j.val < k.val → VecWindow.window x (off j g) size (inb j g) = w j g) :
    ∀ (j : Fin 32) (g : Fin 4), j.val < k.val + 1 → VecWindow.window y (off j g) size (inb j g) = w j g := by
  intro j g hj
  subst e
  by_cases hjk : j = k
  · subst hjk
    obtain ⟨b, hb⟩ := sepg
    exact window_put4 x (w j) (inb j) ⟨b, hb j j⟩ g
  · obtain ⟨a, ha⟩ := sepi
    unfold put4
    rw [VecWindow.window_put_of_disjoint _ _ _ _ _ _ _ a (ha j k g 3 hjk), VecWindow.window_put_of_disjoint _ _ _ _ _ _ _ a (ha j k g 2 hjk),
      VecWindow.window_put_of_disjoint _ _ _ _ _ _ _ a (ha j k g 1 hjk), VecWindow.window_put_of_disjoint _ _ _ _ _ _ _ a (ha j k g 0 hjk)]
    exact h j g (by have : j.val ≠ k.val := fun e => hjk (Fin.ext e); omega)

/-- Distinct query tiles lie apart. -/
theorem sepQi : ∀ (i j : Fin 32) (g g' : Fin 4), i ≠ j → (![0, 128 * i.val, 128 * g.val] : Fin 3 → ℕ) 1 + S1x128x128.size 1 ≤ (![0, 128 * j.val, 128 * g'.val] : Fin 3 → ℕ) 1
    ∨ (![0, 128 * j.val, 128 * g'.val] : Fin 3 → ℕ) 1 + S1x128x128.size 1 ≤ (![0, 128 * i.val, 128 * g.val] : Fin 3 → ℕ) 1 := fun i j _ _ h => sepK i j h
/-- Distinct heads lie apart. -/
theorem sepQg : ∀ (i j : Fin 32) (g g' : Fin 4), g ≠ g' → (![0, 128 * i.val, 128 * g.val] : Fin 3 → ℕ) 2 + S1x128x128.size 2 ≤ (![0, 128 * j.val, 128 * g'.val] : Fin 3 → ℕ) 2
    ∨ (![0, 128 * j.val, 128 * g'.val] : Fin 3 → ℕ) 2 + S1x128x128.size 2 ≤ (![0, 128 * i.val, 128 * g.val] : Fin 3 → ℕ) 2 := by
  intro i j g g' h
  show 128 * g.val + 128 ≤ 128 * g'.val ∨ 128 * g'.val + 128 ≤ 128 * g.val
  have : g.val ≠ g'.val := fun e => h (Fin.ext e)
  omega
/-- Distinct scale rows lie apart. -/
theorem sepRi : ∀ (i j : Fin 32) (g g' : Fin 4), i ≠ j → (![0, 0, g.val, i.val, 0] : Fin 5 → ℕ) 3 + S1x1x1x1x128.size 3 ≤ (![0, 0, g'.val, j.val, 0] : Fin 5 → ℕ) 3
    ∨ (![0, 0, g'.val, j.val, 0] : Fin 5 → ℕ) 3 + S1x1x1x1x128.size 3 ≤ (![0, 0, g.val, i.val, 0] : Fin 5 → ℕ) 3 := by
  intro i j g g' h
  show i.val + 1 ≤ j.val ∨ j.val + 1 ≤ i.val
  have : i.val ≠ j.val := fun e => h (Fin.ext e)
  omega
/-- Distinct heads' scale rows lie apart. -/
theorem sepRg : ∀ (i j : Fin 32) (g g' : Fin 4), g ≠ g' → (![0, 0, g.val, i.val, 0] : Fin 5 → ℕ) 2 + S1x1x1x1x128.size 2 ≤ (![0, 0, g'.val, j.val, 0] : Fin 5 → ℕ) 2
    ∨ (![0, 0, g'.val, j.val, 0] : Fin 5 → ℕ) 2 + S1x1x1x1x128.size 2 ≤ (![0, 0, g.val, i.val, 0] : Fin 5 → ℕ) 2 := by
  intro i j g g' h
  show g.val + 1 ≤ g'.val ∨ g'.val + 1 ≤ g.val
  have : g.val ≠ g'.val := fun e => h (Fin.ext e)
  omega

/-- Head `g`'s columns of the transposed q codes lie inside the scratch. -/
theorem inbG : ∀ (g : Fin 4) (a : Fin 2), (![0, 128 * g.val] : Fin 2 → ℕ) a + S128x128.size a ≤ S128x512.size a := by decide +kernel

/-- The four heads' transposed codes stored side by side fill the scratch. -/
theorem put4_qtAll (x : FVec F S128x512 .fp8e4m3) (b : Fin 4 → FVec F S1x128x128 .bf16) :
    put4 x (fun g => ![0, 128 * g.val]) S128x128.size (fun g => qt g (b g)) = qtAll b := by
  have key : ∀ g, VecWindow.window (put4 x (fun g => ![0, 128 * g.val]) S128x128.size (fun g => qt g (b g))) ![0, 128 * g.val] S128x128.size (inbG g) = qt g (b g) := by
    intro g
    have sep : ∀ g g' : Fin 4, g ≠ g' → (![0, 128 * g.val] : Fin 2 → ℕ) 1 + S128x128.size 1 ≤ (![0, 128 * g'.val] : Fin 2 → ℕ) 1
        ∨ (![0, 128 * g'.val] : Fin 2 → ℕ) 1 + S128x128.size 1 ≤ (![0, 128 * g.val] : Fin 2 → ℕ) 1 := by
      intro g g' h
      show 128 * g.val + 128 ≤ 128 * g'.val ∨ 128 * g'.val + 128 ≤ 128 * g.val
      have : g.val ≠ g'.val := fun e => h (Fin.ext e)
      omega
    exact window_put4 (off := fun g => ![0, 128 * g.val]) x (fun g => qt g (b g)) inbG ⟨1, sep⟩ g
  funext y
  refine Eq.trans ?_ (congrFun (key ⟨(y 1).val / 128, d512 y⟩) (colIn y))
  refine congrArg (put4 x (fun g => ![0, 128 * g.val]) S128x128.size (fun g => qt g (b g))) (funext fun a => Fin.ext ?_)
  match a with
  | ⟨0, _⟩ => show (y 0).val = 0 + 1 * (y 0).val; omega
  | ⟨1, _⟩ => show (y 1).val = 128 * ((y 1).val / 128) + 1 * ((y 1).val % 128); omega

variable (𝒱 : Variants) (c : Dev nD) (bd : Option 𝒱.V) (E : Set ℕ) (i : grid0.Coords)
  (arg2 : Memref sig .tc .vmem S1x4096x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x4096x512 .bf16) (harg5 : arg5.IsWhole)
  (arg6 : Memref sig .tc .vmem S1x4096x512 .fp8e4m3) (harg6 : arg6.IsWhole) (arg7 : Memref sig .tc .vmem S1x1x4x32x128 .f32) (harg7 : arg7.IsWhole)
  (arg8 : Memref sig .tc .vmem S1x4096x128 .fp8e4m3) (harg8 : arg8.IsWhole) (arg9 : Memref sig .tc .vmem S1x1x32x128 .f32) (harg9 : arg9.IsWhole)
  (arg10 : Memref sig .tc .vmem S1x4096x128 .fp8e4m3) (harg10 : arg10.IsWhole) (arg11 : Memref sig .tc .vmem S1x1x32x128 .f32) (harg11 : arg11.IsWhole)
  (arg12 : Memref sig .tc .vmem S32x128x128 .fp8e4m3) (harg12 : arg12.IsWhole) (arg13 : Memref sig .tc .vmem S128x512 .fp8e4m3) (harg13 : arg13.IsWhole)
  (arg14 : Memref sig .tc .vmem S128x512 .f32) (harg14 : arg14.IsWhole) (arg15 : Memref sig .tc .vmem S1x512 .f32) (harg15 : arg15.IsWhole)
  (arg16 : Memref sig .tc .vmem S1x512 .f32) (harg16 : arg16.IsWhole)

  (t : Fin k0_t2_loop.trips)

/-- The diagonal step at equal tiles. -/
theorem stepD_congr (C : FVec F S1x512 .f32) (Q : FVec F S128x512 .fp8e4m3) {K K' V V' : FVec F S1x128x128 .fp8e4m3} {kS kS' vS vS' : FVec F S1x1x1x128 .f32}
    (hK : K = K') (hk : kS = kS') (hV : V = V') (hv : vS = vS') (s : St F) : stepD C Q K kS V vS s = stepD C Q K' kS' V' vS' s := by
  subst hK hk hV hv; rfl

/-- The final state of the query tile, from what the buffers read. -/
abbrev finAt (f2 : BufTy.Contents (Elt F) arg2.view.ty) (X3 X4 : FVec F S1x4096x128 .bf16) : St F := fin (arg2.view.read (Elt F) f2) X3 X4 (n2 t)

/-- One trip: query tile `t` of the output, of the q codes and of the q scales. -/
theorem trip2 (X3 X4 : FVec F S1x4096x128 .bf16) (f2 f5 f6 f7 f13 f14 f15 f16) :
    (iprop(pt c arg2 f2 ∗ pt c arg5 f5 ∗ pt c arg6 f6 ∗ pt c arg7 f7
      ∗ held c arg8 (fun x => ∀ j : Fin 32, tK x j = kc (tK X3 j)) ∗ held c arg9 (fun x => ∀ j : Fin 32, tS x j = ks (tK X3 j))
      ∗ held c arg11 (fun x => ∀ j : Fin 32, tS x j = vs (tK X4 j)) ∗ held c arg12 (fun x => ∀ j : Fin 32, tT x j = vt (tK X4 j))
      ∗ pt c arg13 f13 ∗ pt c arg14 f14 ∗ pt c arg15 f15 ∗ pt c arg16 f16) : sProp 𝕄G)
      ⊢ wp frame (wpE (defs₀ (F := F)) 𝒱 (c : Thread nD τ) bd) E
        (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 t PUnit.unit)
        (fun _ => iprop(pt c arg2 f2
          ∗ (∃ g5, pt c arg5 g5 ∗ ⌜arg5.view.read (Elt F) g5 = put4 (arg5.view.read (Elt F) f5) (fun g => ![0, 128 * (n2 t).val, 128 * g.val]) S1x128x128.size (fun g => yOf (finAt arg2 t f2 X3 X4) g)⌝)
          ∗ (∃ g6, pt c arg6 g6 ∗ ⌜arg6.view.read (Elt F) g6 = put4 (arg6.view.read (Elt F) f6) (fun g => ![0, 128 * (n2 t).val, 128 * g.val]) S1x128x128.size (fun g => qc g (tQ (arg2.view.read (Elt F) f2) (n2 t) g))⌝)
          ∗ (∃ g7, pt c arg7 g7 ∗ ⌜arg7.view.read (Elt F) g7 = put4 (arg7.view.read (Elt F) f7) (fun g => ![0, 0, g.val, (n2 t).val, 0]) S1x1x1x1x128.size (fun g => qs g (tQ (arg2.view.read (Elt F) f2) (n2 t) g))⌝)
          ∗ held c arg8 (fun x => ∀ j : Fin 32, tK x j = kc (tK X3 j)) ∗ held c arg9 (fun x => ∀ j : Fin 32, tS x j = ks (tK X3 j))
          ∗ held c arg11 (fun x => ∀ j : Fin 32, tS x j = vs (tK X4 j)) ∗ held c arg12 (fun x => ∀ j : Fin 32, tT x j = vt (tK X4 j))
          ∗ held c arg13 (fun _ => True) ∗ held c arg14 (fun _ => True) ∗ held c arg15 (fun _ => True) ∗ held c arg16 (fun _ => True))) := by
  have ht : t.val < 32 := (n2 t).isLt
  unfold k0_t2_body
  iintro ⟨H2, H5, H6, H7, H8, H9, H11, H12, H13, H14, H15, H16⟩
  sl_exec
  have e0 := View.readAt_unit arg2.view f2 (k0_off4_inb t) ((k0_off4_eq t).trans rfl) (inbQ (n2 t) 0)
  have e1 := View.readAt_unit arg2.view f2 (k0_off6_inb t) ((k0_off6_eq t).trans rfl) (inbQ (n2 t) 1)
  have e2 := View.readAt_unit arg2.view f2 (k0_off8_inb t) ((k0_off8_eq t).trans rfl) (inbQ (n2 t) 2)
  have e3 := View.readAt_unit arg2.view f2 (k0_off10_inb t) ((k0_off10_eq t).trans rfl) (inbQ (n2 t) 3)
  have hb : (![arg2.view.readAt (Elt F) (Rect.unit (s := S1x4096x512) (k0_off4 t) S1x128x128.size (k0_off4_inb t)).toLoadRect f2,
      arg2.view.readAt (Elt F) (Rect.unit (s := S1x4096x512) (k0_off6 t) S1x128x128.size (k0_off6_inb t)).toLoadRect f2,
      arg2.view.readAt (Elt F) (Rect.unit (s := S1x4096x512) (k0_off8 t) S1x128x128.size (k0_off8_inb t)).toLoadRect f2,
      arg2.view.readAt (Elt F) (Rect.unit (s := S1x4096x512) (k0_off10 t) S1x128x128.size (k0_off10_inb t)).toLoadRect f2]
        : Fin 4 → FVec F S1x128x128 .bf16) = tQ (arg2.view.read (Elt F) f2) (n2 t) := by
    funext g
    match g with
    | 0 => exact e0
    | 1 => exact e1
    | 2 => exact e2
    | 3 => exact e3
  sl_for (inv3 (F := F) c arg8 arg9 arg11 arg12 arg13 arg14 arg15 arg16 X3 X4 (qrow (tQ (arg2.view.read (Elt F) f2) (n2 t))) (qtAll (tQ (arg2.view.read (Elt F) f2) (n2 t)))) $$ [H8 H9 H11 H12 H13 H14 H15 H16]
  case region =>
    intro k u
    exact step3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 t _ _ _ _ _ _ X3 X4 _ (Eq.trans rfl (congrArg qrow hb)) _ k u
  · unfold inv3
    isplitl [H8]; · iexact H8
    isplitl [H9]; · iexact H9
    isplitl [H11]; · iexact H11
    isplitl [H12]; · iexact H12
    unfold held
    isplitl [H13]
    · iexists _; isplitr; swap; · iexact H13
      ipureintro
      exact (read_upd4 arg13.view arg13.view.junk (fun g => ![0, 128 * g.val]) inb_S128x512_S128x128_0_0 inb_S128x512_S128x128_0_128
        inb_S128x512_S128x128_0_256 inb_S128x512_S128x128_0_384 _ _ _ _ rfl rfl rfl rfl
        (w' := fun g => qt g (tQ (arg2.view.read (Elt F) f2) (n2 t) g)) (Eq.trans rfl (congrArg (qt 0) e0)) (Eq.trans rfl (congrArg (qt 1) e1))
        (Eq.trans rfl (congrArg (qt 2) e2)) (Eq.trans rfl (congrArg (qt 3) e3))).trans (put4_qtAll _ _)
    isplitl [H14]
    · iexists _; isplitr; swap; · iexact H14
      ipureintro; exact View.read_writes_full arg14.view _ inb_S128x512_S128x512_0_0 _ []
    isplitl [H15]
    · iexists _; isplitr; swap; · iexact H15
      ipureintro; exact View.read_writes_full arg15.view _ inb_S1x512_S1x512_0_0 _ []
    iexists _; isplitr; swap; · iexact H16
    ipureintro; exact View.read_writes_full arg16.view _ inb_S1x512_S1x512_0_0 _ []
  iintro %_ HI
  unfold inv3 held
  icases HI with ⟨⟨%f8, %h8, H8⟩, ⟨%f9, %h9, H9⟩, ⟨%f11, %h11, H11⟩, ⟨%f12, %h12, H12⟩, ⟨%g13, %h13, H13⟩, ⟨%g14, %h14, H14⟩, ⟨%g15, %h15, H15⟩, ⟨%g16, %h16, H16⟩⟩
  sl_for0 (Nat.le_zero.mp (k0_t4_abs t).2.1)
  sl_exec
  sl_step
  have e8 := View.readAt_unit arg8.view f8 (k0_off18_inb t) (k0_off18_eq t) (inbK (n2 t))
  have e9 := View.readAt_unit arg9.view f9 (k0_off19_inb t) (k0_off19_eq t) (inbS (n2 t))
  have e11 := View.readAt_unit arg11.view f11 (k0_off19_inb t) (k0_off19_eq t) (inbS (n2 t))
  have e12 := View.readAt_unit arg12.view f12 (k0_off20_inb t) (k0_off20_eq t) (inbT (n2 t))
  have e13 := View.readAt_full arg13.view g13 inb_S128x512_S128x512_0_0
  have e14 := View.readAt_full arg14.view g14 inb_S128x512_S128x512_0_0
  have e15 := View.readAt_full arg15.view g15 inb_S1x512_S1x512_0_0
  have e16 := View.readAt_full arg16.view g16 inb_S1x512_S1x512_0_0
  have htr : Scf.trips (k0_t3_loop t).lb (k0_t3_loop t).ub (k0_t3_loop t).st = t.val := t3_trips t
  rw [htr] at h14 h15 h16
  have eS : stepD (qrow (![arg2.view.readAt (Elt F) (Rect.unit (s := S1x4096x512) (k0_off4 t) S1x128x128.size (k0_off4_inb t)).toLoadRect f2,
      arg2.view.readAt (Elt F) (Rect.unit (s := S1x4096x512) (k0_off6 t) S1x128x128.size (k0_off6_inb t)).toLoadRect f2,
      arg2.view.readAt (Elt F) (Rect.unit (s := S1x4096x512) (k0_off8 t) S1x128x128.size (k0_off8_inb t)).toLoadRect f2,
      arg2.view.readAt (Elt F) (Rect.unit (s := S1x4096x512) (k0_off10 t) S1x128x128.size (k0_off10_inb t)).toLoadRect f2]
        : Fin 4 → FVec F S1x128x128 .bf16))
      (arg13.view.readAt (Elt F) (Rect.unit (s := S128x512) ![0, 0] S128x512.size inb_S128x512_S128x512_0_0).toLoadRect g13)
      (arg8.view.readAt (Elt F) (Rect.unit (s := S1x4096x128) (k0_off18 t) S1x128x128.size (k0_off18_inb t)).toLoadRect f8)
      (arg9.view.readAt (Elt F) (Rect.unit (s := S1x1x32x128) (k0_off19 t) S1x1x1x128.size (k0_off19_inb t)).toLoadRect f9)
      (arg12.view.readAt (Elt F) (Rect.unit (s := S32x128x128) (k0_off20 t) S1x128x128.size (k0_off20_inb t)).toLoadRect f12)
      (arg11.view.readAt (Elt F) (Rect.unit (s := S1x1x32x128) (k0_off19 t) S1x1x1x128.size (k0_off19_inb t)).toLoadRect f11)
      ⟨(arg14.view.readAt (Elt F) (Rect.unit (s := S128x512) ![0, 0] S128x512.size inb_S128x512_S128x512_0_0).toLoadRect g14),
        (arg15.view.readAt (Elt F) (Rect.unit (s := S1x512) ![0, 0] S1x512.size inb_S1x512_S1x512_0_0).toLoadRect g15),
        (arg16.view.readAt (Elt F) (Rect.unit (s := S1x512) ![0, 0] S1x512.size inb_S1x512_S1x512_0_0).toLoadRect g16)⟩
      = finAt arg2 t f2 X3 X4 := by
    rw [hb, e8, e9, e11, e12, e13, e14, e15, e16, h13, h14, h15, h16]
    exact stepD_congr _ _ (h8 (n2 t)) (h9 (n2 t)) (h12 (n2 t)) (h11 (n2 t)) _
  have hA : trip2.sl.v358 arg2 arg8 arg9 arg11 arg12 arg13 arg14 arg15 t f2 f8 f9 f11 f12 g13 g14 g15 = (finAt arg2 t f2 X3 X4).acc :=
    (View.readCov_full arg14.view inb_S128x512_S128x512_0_0 inb_S128x512_S128x512_0_0 _ []).trans (Eq.trans rfl (congrArg St.acc eS))
  have hL : trip2.sl.v359 arg2 arg8 arg9 arg13 arg15 arg16 t f2 f8 f9 g13 g15 g16 = (finAt arg2 t f2 X3 X4).l :=
    (View.readCov_full arg16.view inb_S1x512_S1x512_0_0 inb_S1x512_S1x512_0_0 _ []).trans (Eq.trans rfl (congrArg St.l eS))
  isplitl [H2]; · iexact H2
  isplitl [H5]
  · iexists _; isplitl [H5]; · iexact H5
    ipureintro
    exact read_upd4 arg5.view f5 (fun g => ![0, 128 * (n2 t).val, 128 * g.val]) (k0_off4_inb t) (k0_off6_inb t) (k0_off8_inb t) (k0_off10_inb t) _ _ _ _
      ((k0_off4_eq t).trans rfl) ((k0_off6_eq t).trans rfl) ((k0_off8_eq t).trans rfl) ((k0_off10_eq t).trans rfl)
      (w' := fun g => yOf (finAt arg2 t f2 X3 X4) g)
      (Eq.trans rfl (congrArg₂ (fun a l => k0_pay99 a l) hA hL)) (Eq.trans rfl (congrArg₂ (fun a l => k0_pay7 (k0_pay100 a l)) hA hL))
      (Eq.trans rfl (congrArg₂ (fun a l => k0_pay8 (k0_pay98 a l)) hA hL)) (Eq.trans rfl (congrArg₂ (fun a l => k0_pay9 (k0_pay98 a l)) hA hL))
  isplitl [H6]
  · iexists _; isplitl [H6]; · iexact H6
    ipureintro
    exact read_upd4 arg6.view f6 (fun g => ![0, 128 * (n2 t).val, 128 * g.val]) (k0_off4_inb t) (k0_off6_inb t) (k0_off8_inb t) (k0_off10_inb t) _ _ _ _
      ((k0_off4_eq t).trans rfl) ((k0_off6_eq t).trans rfl) ((k0_off8_eq t).trans rfl) ((k0_off10_eq t).trans rfl)
      (w' := fun g => qc g (tQ (arg2.view.read (Elt F) f2) (n2 t) g))
      (Eq.trans rfl (congrArg (qc 0) e0)) (Eq.trans rfl (congrArg (qc 1) e1)) (Eq.trans rfl (congrArg (qc 2) e2)) (Eq.trans rfl (congrArg (qc 3) e3))
  isplitl [H7]
  · iexists _; isplitl [H7]; · iexact H7
    ipureintro
    exact read_upd4 arg7.view f7 (fun g => ![0, 0, g.val, (n2 t).val, 0]) (k0_off5_inb t) (k0_off7_inb t) (k0_off9_inb t) (k0_off11_inb t) _ _ _ _
      ((k0_off5_eq t).trans rfl) ((k0_off7_eq t).trans rfl) ((k0_off9_eq t).trans rfl) ((k0_off11_eq t).trans rfl)
      (w' := fun g => qs g (tQ (arg2.view.read (Elt F) f2) (n2 t) g))
      (Eq.trans rfl (congrArg (qs 0) e0)) (Eq.trans rfl (congrArg (qs 1) e1)) (Eq.trans rfl (congrArg (qs 2) e2)) (Eq.trans rfl (congrArg (qs 3) e3))
  isplitl [H8]
  · iexists _; isplitr; · ipureintro; exact h8
    iexact H8
  isplitl [H9]
  · iexists _; isplitr; · ipureintro; exact h9
    iexact H9
  isplitl [H11]
  · iexists _; isplitr; · ipureintro; exact h11
    iexact H11
  isplitl [H12]
  · iexists _; isplitr; · ipureintro; exact h12
    iexact H12
  isplitl [H13]
  · iexists _; isplitr; swap; · iexact H13
    ipureintro; exact trivial
  isplitl [H14]
  · iexists _; isplitr; swap; · iexact H14
    ipureintro; exact trivial
  isplitl [H15]
  · iexists _; isplitr; swap; · iexact H15
    ipureintro; exact trivial
  iexists _; isplitr; swap; · iexact H16
  ipureintro; exact trivial

end Cert.Proof.Ideal

end
-- ==== Proof.Ideal.TripD.lean ====
/- The body of `KernelIdeal`: after the two loops the seven result blocks are the assembled tiles of the model, whatever the
   scratches held. -/
module

public import proofs.«01_k».proof.Proof.Ideal.TripC
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The first loop's trip count. -/
theorem t1_trips : 32 ≤ Scf.trips k0_t1_loop.lb k0_t1_loop.ub k0_t1_loop.st := by decide +kernel
/-- The second loop's trip count. -/
theorem t2_trips : 32 ≤ Scf.trips k0_t2_loop.lb k0_t2_loop.ub k0_t2_loop.st := by decide +kernel

/-- `held`, spelt out. -/
theorem held_def (c : Dev nD) {s : Shape} {e : EltTy} (a : Memref sig .tc .vmem s e) (P : (s.Idx → Elt F e) → Prop) :
    held (F := F) c a P = iprop(∃ f, ⌜P (a.view.read (Elt F) f)⌝ ∗ pt c a f) := rfl

/-- `held` with a weaker property. -/
theorem held_mono (c : Dev nD) {s : Shape} {e : EltTy} (a : Memref sig .tc .vmem s e) {P Q : (s.Idx → Elt F e) → Prop} (h : ∀ x, P x → Q x) :
    held (F := F) c a P ⊢ held c a Q := by
  unfold held
  iintro ⟨%f, %hf, H⟩
  iexists f; isplitr
  · ipureintro; exact h _ hf
  · iexact H

variable (𝒱 : Variants) (c : Dev nD) (bd : Option 𝒱.V) (E : Set ℕ) (i : grid0.Coords)
  (arg2 : Memref sig .tc .vmem S1x4096x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x4096x512 .bf16) (harg5 : arg5.IsWhole)
  (arg6 : Memref sig .tc .vmem S1x4096x512 .fp8e4m3) (harg6 : arg6.IsWhole) (arg7 : Memref sig .tc .vmem S1x1x4x32x128 .f32) (harg7 : arg7.IsWhole)
  (arg8 : Memref sig .tc .vmem S1x4096x128 .fp8e4m3) (harg8 : arg8.IsWhole) (arg9 : Memref sig .tc .vmem S1x1x32x128 .f32) (harg9 : arg9.IsWhole)
  (arg10 : Memref sig .tc .vmem S1x4096x128 .fp8e4m3) (harg10 : arg10.IsWhole) (arg11 : Memref sig .tc .vmem S1x1x32x128 .f32) (harg11 : arg11.IsWhole)
  (arg12 : Memref sig .tc .vmem S32x128x128 .fp8e4m3) (harg12 : arg12.IsWhole) (arg13 : Memref sig .tc .vmem S128x512 .fp8e4m3) (harg13 : arg13.IsWhole)
  (arg14 : Memref sig .tc .vmem S128x512 .f32) (harg14 : arg14.IsWhole) (arg15 : Memref sig .tc .vmem S1x512 .f32) (harg15 : arg15.IsWhole)
  (arg16 : Memref sig .tc .vmem S1x512 .f32) (harg16 : arg16.IsWhole)

/-- The second loop's invariant: the first `k` query tiles of the three query results are done, the quantised k and v
    blocks are known, the working scratches hold anything. -/
def inv2 (X2 : FVec F S1x4096x512 .bf16) (X3 X4 : FVec F S1x4096x128 .bf16) (k : ℕ) (_ : PUnit) : sProp 𝕄G :=
  iprop(held c arg2 (fun x => x = X2)
    ∗ held c arg5 (fun x => ∀ (j : Fin 32) (g : Fin 4), j.val < k → tQ x j g = yOf (fin X2 X3 X4 j) g)
    ∗ held c arg6 (fun x => ∀ (j : Fin 32) (g : Fin 4), j.val < k → tQ x j g = qc g (tQ X2 j g))
    ∗ held c arg7 (fun x => ∀ (j : Fin 32) (g : Fin 4), j.val < k → tR x j g = qs g (tQ X2 j g))
    ∗ held c arg8 (fun x => ∀ j : Fin 32, tK x j = kc (tK X3 j)) ∗ held c arg9 (fun x => ∀ j : Fin 32, tS x j = ks (tK X3 j))
    ∗ held c arg11 (fun x => ∀ j : Fin 32, tS x j = vs (tK X4 j)) ∗ held c arg12 (fun x => ∀ j : Fin 32, tT x j = vt (tK X4 j))
    ∗ held c arg13 (fun _ => True) ∗ held c arg14 (fun _ => True) ∗ held c arg15 (fun _ => True) ∗ held c arg16 (fun _ => True))

/-- The invariant is kept by a trip. -/
theorem step2 (X2 : FVec F S1x4096x512 .bf16) (X3 X4 : FVec F S1x4096x128 .bf16) (k : Fin k0_t2_loop.trips) (u : PUnit) :
    inv2 (F := F) c arg2 arg5 arg6 arg7 arg8 arg9 arg11 arg12 arg13 arg14 arg15 arg16 X2 X3 X4 k.val u
      ⊢ wp frame (wpE (defs₀ (F := F)) 𝒱 (c : Thread nD τ) bd) E
        (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k u)
        (inv2 (F := F) c arg2 arg5 arg6 arg7 arg8 arg9 arg11 arg12 arg13 arg14 arg15 arg16 X2 X3 X4 (k.val + 1)) := by
  unfold inv2
  iintro ⟨H2, H5, H6, H7, H8, H9, H11, H12, H13, H14, H15, H16⟩
  ihave H2' := (Entails.of_eq (held_def c arg2 _)) $$ H2
  ihave H5' := (Entails.of_eq (held_def c arg5 _)) $$ H5
  ihave H6' := (Entails.of_eq (held_def c arg6 _)) $$ H6
  ihave H7' := (Entails.of_eq (held_def c arg7 _)) $$ H7
  ihave H13' := (Entails.of_eq (held_def c arg13 _)) $$ H13
  ihave H14' := (Entails.of_eq (held_def c arg14 _)) $$ H14
  ihave H15' := (Entails.of_eq (held_def c arg15 _)) $$ H15
  ihave H16' := (Entails.of_eq (held_def c arg16 _)) $$ H16
  icases H2' with ⟨%f2, %h2, H2⟩
  icases H5' with ⟨%f5, %h5, H5⟩
  icases H6' with ⟨%f6, %h6, H6⟩
  icases H7' with ⟨%f7, %h7, H7⟩
  icases H13' with ⟨%f13, -, H13⟩
  icases H14' with ⟨%f14, -, H14⟩
  icases H15' with ⟨%f15, -, H15⟩
  icases H16' with ⟨%f16, -, H16⟩
  subst h2
  iapply (wp_wand_r Idealize.ShloMosaic.frame (wpE (defs₀ (F := F)) 𝒱 (c : Thread nD τ) bd) E)
  isplitl [H2 H5 H6 H7 H8 H9 H11 H12 H13 H14 H15 H16]
  · iapply (trip2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 k X3 X4 f2 f5 f6 f7 f13 f14 f15 f16)
    isplitl [H2]; · iexact H2
    isplitl [H5]; · iexact H5
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [H14]; · iexact H14
    isplitl [H15]; · iexact H15
    iexact H16
  iintro %_ ⟨H2, ⟨%g5, H5, %e5⟩, ⟨%g6, H6, %e6⟩, ⟨%g7, H7, %e7⟩, H⟩
  isplitl [H2]
  · unfold held; iexists _; isplitr; swap; · iexact H2
    ipureintro; rfl
  isplitl [H5]
  · unfold held; iexists _; isplitr; swap; · iexact H5
    ipureintro
    exact grow4 (s := S1x4096x512) (off := fun j g => ![0, 128 * j.val, 128 * g.val]) (size := S1x128x128.size) (x := arg5.view.read (Elt F) f5) (fun j g => yOf (fin (arg2.view.read (Elt F) f2) X3 X4 j) g) inbQ ⟨1, sepQi⟩ ⟨2, sepQg⟩ (n2 k) e5 h5
  isplitl [H6]
  · unfold held; iexists _; isplitr; swap; · iexact H6
    ipureintro
    exact grow4 (s := S1x4096x512) (off := fun j g => ![0, 128 * j.val, 128 * g.val]) (size := S1x128x128.size) (x := arg6.view.read (Elt F) f6) (fun j g => qc g (tQ (arg2.view.read (Elt F) f2) j g)) inbQ ⟨1, sepQi⟩ ⟨2, sepQg⟩ (n2 k) e6 h6
  isplitl [H7]
  · unfold held; iexists _; isplitr; swap; · iexact H7
    ipureintro
    exact grow4 (s := S1x1x4x32x128) (off := fun j g => ![0, 0, g.val, j.val, 0]) (size := S1x1x1x1x128.size) (x := arg7.view.read (Elt F) f7) (fun j g => qs g (tQ (arg2.view.read (Elt F) f2) j g)) inbR ⟨3, sepRi⟩ ⟨2, sepRg⟩ (n2 k) e7 h7
  iexact H

/-- The body, from the three input blocks. -/
theorem body_run (X2 : FVec F S1x4096x512 .bf16) (X3 X4 : FVec F S1x4096x128 .bf16) :
    (iprop(held c arg2 (fun x => x = X2) ∗ held c arg3 (fun x => x = X3) ∗ held c arg4 (fun x => x = X4)
      ∗ held c arg5 (fun _ => True) ∗ held c arg6 (fun _ => True) ∗ held c arg7 (fun _ => True) ∗ held c arg8 (fun _ => True) ∗ held c arg9 (fun _ => True) ∗ held c arg10 (fun _ => True) ∗ held c arg11 (fun _ => True) ∗ held c arg12 (fun _ => True) ∗ held c arg13 (fun _ => True) ∗ held c arg14 (fun _ => True) ∗ held c arg15 (fun _ => True) ∗ held c arg16 (fun _ => True)) : sProp 𝕄G)
      ⊢ wp frame (wpE (defs₀ (F := F)) 𝒱 (c : Thread nD τ) bd) E
        (cc0_fp8_causal_gqa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(held c arg2 (fun x => x = X2) ∗ held c arg3 (fun x => x = X3) ∗ held c arg4 (fun x => x = X4)
          ∗ held c arg5 (fun x => x = asmQ (fun j g => yOf (fin X2 X3 X4 j) g)) ∗ held c arg6 (fun x => x = asmQ (fun j g => qc g (tQ X2 j g)))
          ∗ held c arg7 (fun x => x = asmR (fun j g => qs g (tQ X2 j g)))
          ∗ held c arg8 (fun x => x = asmK (fun j => kc (tK X3 j))) ∗ held c arg9 (fun x => x = asmS (fun j => ks (tK X3 j)))
          ∗ held c arg10 (fun x => x = asmK (fun j => vc (tK X4 j))) ∗ held c arg11 (fun x => x = asmS (fun j => vs (tK X4 j)))
          ∗ held c arg12 (fun _ => True) ∗ held c arg13 (fun _ => True) ∗ held c arg14 (fun _ => True) ∗ held c arg15 (fun _ => True) ∗ held c arg16 (fun _ => True))) := by
  simp only [cc0_fp8_causal_gqa_eq_skeleton]; unfold cc0_fp8_causal_gqa_skel
  iintro ⟨H2, H3, H4, H5, H6, H7, H8, H9, H10, H11, H12, H13, H14, H15, H16⟩
  sl_exec
  sl_for (inv1 (F := F) c arg3 arg4 arg8 arg9 arg10 arg11 arg12 X3 X4) $$ [H3 H4 H8 H9 H10 H11 H12]
  case region =>
    intro k u
    exact step1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 k u
  · unfold inv1
    isplitl [H3]; · iexact H3
    isplitl [H4]; · iexact H4
    isplitl [H8]; · iapply (held_mono c arg8 (fun _ _ j hj => absurd hj (Nat.not_lt_zero _))); iexact H8
    isplitl [H9]; · iapply (held_mono c arg9 (fun _ _ j hj => absurd hj (Nat.not_lt_zero _))); iexact H9
    isplitl [H10]; · iapply (held_mono c arg10 (fun _ _ j hj => absurd hj (Nat.not_lt_zero _))); iexact H10
    isplitl [H11]; · iapply (held_mono c arg11 (fun _ _ j hj => absurd hj (Nat.not_lt_zero _))); iexact H11
    iapply (held_mono c arg12 (fun _ _ j hj => absurd hj (Nat.not_lt_zero _))); iexact H12
  iintro %_ HI
  unfold inv1
  icases HI with ⟨H3, H4, H8, H9, H10, H11, H12⟩
  sl_for (inv2 (F := F) c arg2 arg5 arg6 arg7 arg8 arg9 arg11 arg12 arg13 arg14 arg15 arg16 X2 X3 X4) $$ [H2 H5 H6 H7 H8 H9 H11 H12 H13 H14 H15 H16]
  case region =>
    intro k u
    exact step2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 k u
  · unfold inv2
    isplitl [H2]; · iexact H2
    isplitl [H5]; · iapply (held_mono c arg5 (fun _ _ j g hj => absurd hj (Nat.not_lt_zero _))); iexact H5
    isplitl [H6]; · iapply (held_mono c arg6 (fun _ _ j g hj => absurd hj (Nat.not_lt_zero _))); iexact H6
    isplitl [H7]; · iapply (held_mono c arg7 (fun _ _ j g hj => absurd hj (Nat.not_lt_zero _))); iexact H7
    isplitl [H8]; · iapply (held_mono c arg8 (P := fun x => ∀ j : Fin 32, j.val < _ → tK x j = kc (tK X3 j)) (fun _ h j => h j (Nat.lt_of_lt_of_le j.isLt t1_trips))); iexact H8
    isplitl [H9]; · iapply (held_mono c arg9 (P := fun x => ∀ j : Fin 32, j.val < _ → tS x j = ks (tK X3 j)) (fun _ h j => h j (Nat.lt_of_lt_of_le j.isLt t1_trips))); iexact H9
    isplitl [H11]; · iapply (held_mono c arg11 (P := fun x => ∀ j : Fin 32, j.val < _ → tS x j = vs (tK X4 j)) (fun _ h j => h j (Nat.lt_of_lt_of_le j.isLt t1_trips))); iexact H11
    isplitl [H12]; · iapply (held_mono c arg12 (P := fun x => ∀ j : Fin 32, j.val < _ → tT x j = vt (tK X4 j)) (fun _ h j => h j (Nat.lt_of_lt_of_le j.isLt t1_trips))); iexact H12
    isplitl [H13]; · iexact H13
    isplitl [H14]; · iexact H14
    isplitl [H15]; · iexact H15
    iexact H16
  iintro %_ HI
  unfold inv2
  icases HI with ⟨H2, H5, H6, H7, H8, H9, H11, H12, H13, H14, H15, H16⟩
  sl_step
  isplitl [H2]; · iexact H2
  isplitl [H3]; · iexact H3
  isplitl [H4]; · iexact H4
  isplitl [H5]; · iapply (held_mono c arg5 (P := fun x => ∀ (j : Fin 32) (g : Fin 4), j.val < _ → tQ x j g = yOf (fin X2 X3 X4 j) g) (fun _ h => eq_asmQ _ _ fun j g => h j g (Nat.lt_of_lt_of_le j.isLt t2_trips))); iexact H5
  isplitl [H6]; · iapply (held_mono c arg6 (P := fun x => ∀ (j : Fin 32) (g : Fin 4), j.val < _ → tQ x j g = qc g (tQ X2 j g)) (fun _ h => eq_asmQ _ _ fun j g => h j g (Nat.lt_of_lt_of_le j.isLt t2_trips))); iexact H6
  isplitl [H7]; · iapply (held_mono c arg7 (P := fun x => ∀ (j : Fin 32) (g : Fin 4), j.val < _ → tR x j g = qs g (tQ X2 j g)) (fun _ h => eq_asmR _ _ fun j g => h j g (Nat.lt_of_lt_of_le j.isLt t2_trips))); iexact H7
  isplitl [H8]; · iapply (held_mono c arg8 (P := fun x => ∀ j : Fin 32, tK x j = kc (tK X3 j)) (fun _ h => eq_asmK _ _ h)); iexact H8
  isplitl [H9]; · iapply (held_mono c arg9 (P := fun x => ∀ j : Fin 32, tS x j = ks (tK X3 j)) (fun _ h => eq_asmS _ _ h)); iexact H9
  isplitl [H10]; · iapply (held_mono c arg10 (P := fun x => ∀ j : Fin 32, j.val < _ → tK x j = vc (tK X4 j)) (fun _ h => eq_asmK _ _ fun j => h j (Nat.lt_of_lt_of_le j.isLt t1_trips))); iexact H10
  isplitl [H11]; · iapply (held_mono c arg11 (P := fun x => ∀ j : Fin 32, tS x j = vs (tK X4 j)) (fun _ h => eq_asmS _ _ h)); iexact H11
  isplitl [H12]; · iapply (held_mono c arg12 (fun _ _ => trivial)); iexact H12
  isplitl [H13]; · iexact H13
  isplitl [H14]; · iexact H14
  isplitl [H15]; · iexact H15
  iexact H16

end Cert.Proof.Ideal

end
-- ==== Proof.Ideal.Run.lean ====
/- The run of `KernelIdeal`: the body obligation at every grid point, the pipeline's run, and the frame — the program terminates
   without fault, leaves its arguments as they were and every counter at zero. The arrays the run leaves are those the
   proof data names: each point's result blocks are the model's tiles. -/
module

public import proofs.«01_k».proof.Proof.Gen.KernelIdeal.Frame
public import proofs.«01_k».proof.Proof.Ideal.TripD
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Pipeline (Dat Cfg Window BodyObligation cellOf ΦA)

local notation "𝕄G" => MT nD τ sig Unit (Elt F) ℕ (UR sig nD τ) ℕ

/-- No variants: every loop is counted. -/
abbrev 𝒱₀ : Variants := Variants.none

/-- A memref owned at `x` is held at exactly `x`. -/
theorem held_of_owns (c : Dev nD) {s : Shape} {e : EltTy} (a : Memref sig .tc .vmem s e) (x : s.Idx → Elt F e) :
    (owns (c : Thread nD τ) a fullShare x : sProp 𝕄G) ⊢ held c a (fun y => y = x) := by
  unfold owns held; iintro ⟨%f, %h, H⟩; iexists f; isplitr
  · ipureintro; exact h
  · iexact H

/-- A memref held at exactly `x` is owned at `x`. -/
theorem owns_of_held (c : Dev nD) {s : Shape} {e : EltTy} (a : Memref sig .tc .vmem s e) (x : s.Idx → Elt F e) :
    (held c a (fun y => y = x) : sProp 𝕄G) ⊢ owns (c : Thread nD τ) a fullShare x := by
  unfold owns held; iintro ⟨%f, %h, H⟩; iexists f; isplitr
  · ipureintro; exact h
  · iexact H

/-- A memref owned at anything is held. -/
theorem held_of_any (c : Dev nD) {s : Shape} {e : EltTy} (a : Memref sig .tc .vmem s e) (x : s.Idx → Elt F e) :
    (owns (c : Thread nD τ) a fullShare x : sProp 𝕄G) ⊢ held c a (fun _ => True) := by
  unfold owns held; iintro ⟨%f, %h, H⟩; iexists f; isplitr
  · ipureintro; trivial
  · iexact H

/-- A memref held is owned at something. -/
theorem any_of_held (c : Dev nD) {s : Shape} {e : EltTy} (a : Memref sig .tc .vmem s e) :
    (held c a (fun _ => True) : sProp 𝕄G) ⊢ iprop(∃ x, owns (c : Thread nD τ) a fullShare x) := by
  unfold owns held; iintro ⟨%f, %h, H⟩; iexists (a.view.read (Elt F) f); iexists f; isplitr
  · ipureintro; rfl
  · iexact H

variable (m : (ℓ : Loc nD τ sig) → Buf (Elt F) ℓ) (ρ : Dev nD → PrngReg)

/-! ## The blocks -/

/-- The q block of a point. -/
abbrev xq (c : Dev nD) (t : Fin cfg0.N) : FVec F S1x4096x512 .bf16 := iblk m c 0 t
/-- The k block of a point. -/
abbrev xk (c : Dev nD) (t : Fin cfg0.N) : FVec F S1x4096x128 .bf16 := iblk m c 1 t
/-- The v block of a point. -/
abbrev xv (c : Dev nD) (t : Fin cfg0.N) : FVec F S1x4096x128 .bf16 := iblk m c 2 t

/-- The attention output's block. -/
def out3 (c : Dev nD) (t : Fin cfg0.N) : FVec F S1x4096x512 .bf16 := asmQ (fun j g => yOf (fin (xq m c t) (xk m c t) (xv m c t) j) g)
/-- The q codes' block. -/
def out4 (c : Dev nD) (t : Fin cfg0.N) : FVec F S1x4096x512 .fp8e4m3 := asmQ (fun j g => qc g (tQ (xq m c t) j g))
/-- The q scales' block. -/
def out5 (c : Dev nD) (t : Fin cfg0.N) : FVec F S1x1x4x32x128 .f32 := asmR (fun j g => qs g (tQ (xq m c t) j g))
/-- The k codes' block. -/
def out6 (c : Dev nD) (t : Fin cfg0.N) : FVec F S1x4096x128 .fp8e4m3 := asmK (fun j => kc (tK (xk m c t) j))
/-- The k scales' block. -/
def out7 (c : Dev nD) (t : Fin cfg0.N) : FVec F S1x1x32x128 .f32 := asmS (fun j => ks (tK (xk m c t) j))
/-- The v codes' block. -/
def out8 (c : Dev nD) (t : Fin cfg0.N) : FVec F S1x4096x128 .fp8e4m3 := asmK (fun j => vc (tK (xv m c t) j))
/-- The v scales' block. -/
def out9 (c : Dev nD) (t : Fin cfg0.N) : FVec F S1x1x32x128 .f32 := asmS (fun j => vs (tK (xv m c t) j))

/-! ## The pipeline's proof data -/

/-- The arrays as the region finds them; after the body each input's buffer at its block and each result's at the
    model's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨5, _⟩ => out5 m c t
    | ⟨6, _⟩ => out6 m c t
    | ⟨7, _⟩ => out7 m c t
    | ⟨8, _⟩ => out8 m c t
    | ⟨9, _⟩ => out9 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
/-- Input window 0's staging buffer holds its block when the body runs. -/
theorem before0_0 (c : Dev nD) (t : Fin cfg0.N) (d) : (dats m 0 c).before 0 t d = iblk m c 0 t :=
  before0_0_of m (dats m 0 c) (A_eq m c 0) (after0_0 m c) t d
/-- Input window 1's staging buffer holds its block when the body runs. -/
theorem before0_1 (c : Dev nD) (t : Fin cfg0.N) (d) : (dats m 0 c).before 1 t d = iblk m c 1 t :=
  before0_1_of m (dats m 0 c) (A_eq m c 1) (after0_1 m c) t d
/-- Input window 2's staging buffer holds its block when the body runs. -/
theorem before0_2 (c : Dev nD) (t : Fin cfg0.N) (d) : (dats m 0 c).before 2 t d = iblk m c 2 t :=
  before0_2_of m (dats m 0 c) (A_eq m c 2) (after0_2 m c) t d

/-- The region's scoped rest: the five scratches, each held at anything. -/
theorem scoped_held (c : Dev nD) :
    (Pipeline.scopedRest (Ix := Unit) (Name := ℕ) (U := UR sig nD τ) (Lvl := ℕ) (Val := Elt F) spec0 c : sProp 𝕄G)
      = iprop((∃ x, owns (c : Thread nD τ) (Memref.whole cc0_scratch0) fullShare x) ∗ (∃ x, owns (c : Thread nD τ) (Memref.whole cc0_scratch1) fullShare x) ∗ (∃ x, owns (c : Thread nD τ) (Memref.whole cc0_scratch2) fullShare x) ∗ (∃ x, owns (c : Thread nD τ) (Memref.whole cc0_scratch3) fullShare x) ∗ (∃ x, owns (c : Thread nD τ) (Memref.whole cc0_scratch4) fullShare x)) := by
  rw [scopedRest0_eq]
  simp only [owns_whole]; try rfl

/-- The body obligation at every point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9]
  rw [show (dats m 0 c).Φ t.castSucc = Pipeline.ΦA spec0 c from rfl]
  unfold Pipeline.ΦA
  rw [scoped_held]
  iintro ⟨⟨⟨⟨%y0, S0⟩, ⟨%y1, S1⟩, ⟨%y2, S2⟩, ⟨%y3, S3⟩, ⟨%y4, S4⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r Idealize.ShloMosaic.frame (wpE (defs₀ (F := F)) 𝒱₀ (c : Thread nD τ) none) Set.univ)
  isplitl [H0 H1 H2 H3 H4 H5 H6 H7 H8 H9 S0 S1 S2 S3 S4]
  · iapply (body_run 𝒱₀ c none Set.univ (grid0.coords t) _ _ _ _ _ _ _ _ _ _ _ _ _ _ _ _ _ _ _ _ _ _ _ _ _ _ _ _ _ _ (xq m c t) (xk m c t) (xv m c t))
    isplitl [H0]; · iapply (held_of_owns c _ _); iexact H0
    isplitl [H1]; · iapply (held_of_owns c _ _); iexact H1
    isplitl [H2]; · iapply (held_of_owns c _ _); iexact H2
    isplitl [H3]; · iapply (held_of_any c _ _); iexact H3
    isplitl [H4]; · iapply (held_of_any c _ _); iexact H4
    isplitl [H5]; · iapply (held_of_any c _ _); iexact H5
    isplitl [H6]; · iapply (held_of_any c _ _); iexact H6
    isplitl [H7]; · iapply (held_of_any c _ _); iexact H7
    isplitl [H8]; · iapply (held_of_any c _ _); iexact H8
    isplitl [H9]; · iapply (held_of_any c _ _); iexact H9
    isplitl [S0]; · iapply (held_of_any c _ _); iexact S0
    isplitl [S1]; · iapply (held_of_any c _ _); iexact S1
    isplitl [S2]; · iapply (held_of_any c _ _); iexact S2
    isplitl [S3]; · iapply (held_of_any c _ _); iexact S3
    iapply (held_of_any c _ _); iexact S4
  iintro %_ ⟨H0, H1, H2, H3, H4, H5, H6, H7, H8, H9, S0, S1, S2, S3, S4⟩
  isplitl [S0 S1 S2 S3 S4 HP]
  · isplitr [HP]
    · isplitl [S0]; · iapply (any_of_held c _); iexact S0
      isplitl [S1]; · iapply (any_of_held c _); iexact S1
      isplitl [S2]; · iapply (any_of_held c _); iexact S2
      isplitl [S3]; · iapply (any_of_held c _); iexact S3
      iapply (any_of_held c _); iexact S4
    · iexact HP
  isplitl [Ho]; · iexact Ho
  isplitl [H0]; · iapply (owns_of_held c _ _); iexact H0
  isplitl [H1]; · iapply (owns_of_held c _ _); iexact H1
  isplitl [H2]; · iapply (owns_of_held c _ _); iexact H2
  isplitl [H3]; · iapply (owns_of_held c _ _); iexact H3
  isplitl [H4]; · iapply (owns_of_held c _ _); iexact H4
  isplitl [H5]; · iapply (owns_of_held c _ _); iexact H5
  isplitl [H6]; · iapply (owns_of_held c _ _); iexact H6
  isplitl [H7]; · iapply (owns_of_held c _ _); iexact H7
  isplitl [H8]; · iapply (owns_of_held c _ _); iexact H8
  iapply (owns_of_held c _ _); iexact H9

set_option backward.isDefEq.respectTransparency.types false in
/-- Every weakly fair execution of @main terminates, and every final state has each array of the pipeline at what the
    proof data says and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the arguments are left unchanged and every counter is zero. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

end Cert.Proof.Ideal

end
-- ==== Proof.Frames.lean ====
/-
  The claims about runs: each of the three programs runs to its end, leaves its arguments unchanged and leaves every
  counter at zero; and the constant that the idealized kernel names is the one the kernel computes with.
-/
module

public import proofs.«01_k».proof.Defs
public import proofs.«01_k».proof.Proof.Bits.Run
public import proofs.«01_k».proof.Proof.Ideal.Run
public import proofs.«01_k».proof.Proof.Gen.ReferenceIdeal.Run
public import Idealize.ShloMosaic.Lib.Quiescent

@[expose] public section

noncomputable section

namespace Cert.Proof

open Idealize.ShloMosaic Idealize.SL.Sem

/-- The kernel, at machine floats: from the proof of the body at every grid point. -/
theorem frame_p : Cert.quiescent_Kernel := fun m ρ _ => Bits.frame_run (F := Idealize.ShloMosaic.Bits) m ρ

/-- The idealized kernel, at extended reals. -/
theorem frame_pi : Cert.quiescent_KernelIdeal := fun m ρ _ => Ideal.frame_run (F := Idealize.ShloMosaic.Ideal) m ρ

/-- The reference: its generated run leaves the arguments, and it declares no counter. -/
theorem frame_ri : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Idealize.ShloMosaic.Ideal) m ρ)

/-- The literal that stands for `log2 e` is named, and the name's value is `1 / log 2`. -/
theorem preserves : Cert.preserves_Kernel_KernelIdeal :=
  IdealRules.named_const.statement Cert.KernelIdeal.κ "log2e" .f32 0x3FB8AA3B#32 (((Real.log 2)⁻¹ : ℝ) : EReal) rfl

end Cert.Proof
-- ==== Proof.Value.Scalar.lean ====
/-
  The quantiser on one number, at extended reals: the exponent of a block from its largest magnitude, the scale, its
  reciprocal, and the code. The kernel's exponent (a floor of a logarithm, then a repair of one step either way) and the
  reference's are one number, and a code is always a real.
-/
module

public import Idealize.ShloMosaic.Lib.ValueIdx
public import Idealize.ShloMosaic.PureOps.Ideal.Laws

@[expose] public section

noncomputable section

namespace Cert.Proof.Value

open Idealize.ShloMosaic

/-! ## Constants -/

/-- The f32 nearest 1/448, as a real. -/
def cinv : ℝ := 9586981 * (2 ^ 32)⁻¹
/-- `log2 e`. -/
def l2e : ℝ := (Real.log 2)⁻¹
/-- The f32 nearest 1/√128, as a real. -/
def smR : ℝ := 11863283 * (2 ^ 27)⁻¹

theorem bits_cinv : Ideal.ofBits .f32 0x3B124925#32 = ((cinv : ℝ) : EReal) := by
  simp [cinv, Ideal.ofBits, Ideal.ieee, -EReal.coe_mul]
theorem cinv_pos : 0 < cinv := by
  norm_num [cinv]
theorem bits_sm : Ideal.ofBits .f32 0x3DB504F3#32 = ((smR : ℝ) : EReal) := by
  simp [smR, Ideal.ofBits, Ideal.ieee, -EReal.coe_mul]
theorem sm_pos : 0 < smR := by
  norm_num [smR]
theorem bits_one : Ideal.ofBits .f32 0x3F800000#32 = 1 := by
  simp [Ideal.ofBits, Ideal.ieee]; norm_cast; norm_num
theorem bits_two : Ideal.ofBits .f32 0x40000000#32 = ((2 : ℝ) : EReal) := by
  simp [Ideal.ofBits, Ideal.ieee]; norm_cast; norm_num
theorem bits_bot : Ideal.ofBits .f32 0xFF800000#32 = ⊥ := by
  simp [Ideal.ofBits, Ideal.ieee]
theorem bits_448 : Ideal.ofBits .f32 0x43E00000#32 = ((448 : ℝ) : EReal) := by
  simp [Ideal.ofBits, Ideal.ieee]; norm_cast; norm_num
theorem bits_m448 : Ideal.ofBits .f32 0xC3E00000#32 = ((-448 : ℝ) : EReal) := by
  simp [Ideal.ofBits, Ideal.ieee]; norm_cast; norm_num
theorem bits_m8 : Ideal.ofBits .f32 0xC1000000#32 = ((-8 : ℝ) : EReal) := by
  simp [Ideal.ofBits, Ideal.ieee]; norm_cast; norm_num
theorem bits_256 : Ideal.ofBits .f32 0x43800000#32 = ((256 : ℝ) : EReal) := by
  simp [Ideal.ofBits, Ideal.ieee]; norm_cast; norm_num
theorem bits_inv256 : Ideal.ofBits .f32 0x3B800000#32 = ((1 / 256 : ℝ) : EReal) := by
  simp [Ideal.ofBits, Ideal.ieee]; norm_cast; norm_num

theorem log2_pos : 0 < Real.log 2 := Real.log_pos (by norm_num)
theorem l2e_pos : 0 < l2e := inv_pos.mpr log2_pos

/-- A select on a comparison is an `if`. -/
theorem select_ge (x y a b : EReal) : Scalar.select (Ideal.cmp .oge x y) a b = if y ≤ x then a else b := by
  by_cases h : y ≤ x <;> simp [Ideal.cmp, Scalar.select, h]
theorem select_lt (x y a b : EReal) : Scalar.select (Ideal.cmp .olt x y) a b = if x < y then a else b := by
  by_cases h : x < y <;> simp [Ideal.cmp, Scalar.select, h]
theorem select_eq (x y a b : EReal) : Scalar.select (Ideal.cmp .oeq x y) a b = if x = y then a else b := by
  by_cases h : x = y <;> simp [Ideal.cmp, Scalar.select, h]

/-! ## The exponent -/

/-- The exponent the reference states. -/
def expo (a : EReal) : EReal :=
  if a = 0 then 0 else Ideal.liftRound Int.floor (Ideal.div (Ideal.log (a * ((cinv : ℝ) : EReal))) (Ideal.log ((2 : ℝ) : EReal))) + 1

/-- The exponent the kernel computes. -/
def expoK (a : EReal) : EReal :=
  if a = 0 then 0 else
    (Ideal.liftRound Int.floor (Ideal.log (a * ((cinv : ℝ) : EReal)) * ((l2e : ℝ) : EReal)) + 1)
      + ((if Ideal.exp2 (Ideal.liftRound Int.floor (Ideal.log (a * ((cinv : ℝ) : EReal)) * ((l2e : ℝ) : EReal)) + 1) ≤ a * ((cinv : ℝ) : EReal) then 1 else 0)
        - (if a * ((cinv : ℝ) : EReal) < Ideal.exp2 (Ideal.liftRound Int.floor (Ideal.log (a * ((cinv : ℝ) : EReal)) * ((l2e : ℝ) : EReal)) + 1 - 1) then 1 else 0))

/-- Dividing by `log 2` is multiplying by `log2 e`. -/
theorem div_log2 (x : EReal) : Ideal.div x (Ideal.log ((2 : ℝ) : EReal)) = x * ((l2e : ℝ) : EReal) := by
  rw [Ideal.log_coe, if_neg (by norm_num), Ideal.div_coe log2_pos.ne', one_div]; rfl

/-- The power `2 ^ f` of the floor of a base-2 logarithm brackets the number. -/
theorem bracket (r : ℝ) (hr : 0 < r) :
    Real.rpow 2 ((⌊Real.log r * l2e⌋ : ℝ)) ≤ r ∧ r < Real.rpow 2 ((⌊Real.log r * l2e⌋ : ℝ) + 1) := by
  have key : Real.rpow 2 (Real.log r * l2e) = r := by
    show (2 : ℝ) ^ (Real.log r * l2e) = r
    rw [Real.rpow_def_of_pos (by norm_num), l2e]
    rw [show Real.log 2 * (Real.log r * (Real.log 2)⁻¹) = Real.log r by field_simp [log2_pos.ne']]
    exact Real.exp_log hr
  constructor
  · calc _ ≤ Real.rpow 2 (Real.log r * l2e) := Real.rpow_le_rpow_of_exponent_le (by norm_num) (Int.floor_le _)
      _ = r := key
  · calc r = Real.rpow 2 (Real.log r * l2e) := key.symm
      _ < _ := Real.rpow_lt_rpow_of_exponent_lt (by norm_num) (Int.lt_floor_add_one _)

/-- The kernel's exponent is the reference's. -/
theorem expoK_eq (a : EReal) (ha : 0 ≤ a) : expoK a = expo a := by
  unfold expoK expo
  by_cases h0 : a = 0
  · rw [if_pos h0, if_pos h0]
  rw [if_neg h0, if_neg h0, div_log2]
  have hp : 0 < a := lt_of_le_of_ne ha (Ne.symm h0)
  induction a using EReal.rec with
  | bot => exact absurd ha (by simp)
  | top =>
    rw [EReal.top_mul_coe_of_pos cinv_pos, Ideal.log_top, EReal.top_mul_coe_of_pos l2e_pos, Ideal.liftRound_top]
    have t1 : (⊤ : EReal) + 1 = ⊤ := EReal.top_add_coe 1
    simp [t1]
  | coe a =>
    have hr : 0 < a * cinv := mul_pos (by exact_mod_cast hp) cinv_pos
    rw [← EReal.coe_mul, Ideal.log_coe, if_neg (not_le.mpr hr), ← EReal.coe_mul, Ideal.liftRound_coe]
    obtain ⟨h1, h2⟩ := bracket _ hr
    generalize (⌊Real.log (a * cinv) * l2e⌋ : ℝ) = f at h1 h2 ⊢
    have e1 : ((f : ℝ) : EReal) + 1 = ((f + 1 : ℝ) : EReal) := by norm_cast
    have e2 : ((f + 1 : ℝ) : EReal) - 1 = ((f : ℝ) : EReal) := by
      rw [show (1 : EReal) = ((1 : ℝ) : EReal) from rfl, ← EReal.coe_sub]; congr 1; ring
    rw [e1, e2, Ideal.exp2_coe, Ideal.exp2_coe, if_neg (by rw [EReal.coe_le_coe_iff]; exact not_le.mpr h2),
      if_neg (by rw [EReal.coe_lt_coe_iff]; exact not_lt.mpr h1)]
    simp

/-! ## Scale, reciprocal and code -/

/-- A block's scale. -/
def sc (a : EReal) : EReal := Ideal.exp2 (expo a)
/-- What a block is multiplied by. -/
def inv (a : EReal) : EReal := Ideal.exp2 (-expo a)
/-- The code of one element. -/
def code (a t : EReal) : EReal := min ((448 : ℝ) : EReal) (max ((-448 : ℝ) : EReal) (t * inv a))

/-- The reference's power of two is `exp2`. -/
theorem pow_two (e : EReal) : Ideal.pow ((2 : ℝ) : EReal) e = Ideal.exp2 e := by
  induction e using EReal.rec with
  | bot => rw [Ideal.pow_coe_bot, Ideal.exp2_bot]; norm_num
  | top => rw [Ideal.pow_coe_top, Ideal.exp2_top]; norm_num
  | coe e => rfl

/-- A code is a real. -/
theorem code_real (a t : EReal) : ∃ x : ℝ, code a t = (x : EReal) := by
  unfold code
  generalize t * inv a = y
  induction y using EReal.rec with
  | bot => exact ⟨-448, by simp; norm_cast⟩
  | top => exact ⟨448, by simp⟩
  | coe y => exact ⟨min 448 (max (-448) y), by simp [EReal.coe_strictMono.monotone.map_min, EReal.coe_strictMono.monotone.map_max]⟩

/-- The exponent is never `⊥`. -/
theorem expo_ne_bot (a : EReal) (ha : 0 ≤ a) : expo a ≠ ⊥ := by
  unfold expo
  by_cases h0 : a = 0
  · rw [if_pos h0]; simp
  rw [if_neg h0, div_log2]
  have hp : 0 < a := lt_of_le_of_ne ha (Ne.symm h0)
  induction a using EReal.rec with
  | bot => exact absurd ha (by simp)
  | top =>
    rw [EReal.top_mul_coe_of_pos cinv_pos, Ideal.log_top, EReal.top_mul_coe_of_pos l2e_pos, Ideal.liftRound_top]
    have t1 : (⊤ : EReal) + 1 = ⊤ := EReal.top_add_coe 1
    simp [t1]
  | coe a =>
    have hr : 0 < a * cinv := mul_pos (by exact_mod_cast hp) cinv_pos
    rw [← EReal.coe_mul, Ideal.log_coe, if_neg (not_le.mpr hr), ← EReal.coe_mul, Ideal.liftRound_coe,
      show (1 : EReal) = ((1 : ℝ) : EReal) from rfl, ← EReal.coe_add]
    exact EReal.coe_ne_bot _

/-- A scale is positive. -/
theorem sc_pos (a : EReal) (ha : 0 ≤ a) : 0 < sc a := by
  unfold sc
  have h := expo_ne_bot a ha
  generalize expo a = e at h
  induction e using EReal.rec with
  | bot => exact absurd rfl h
  | top => simp
  | coe e => rw [Ideal.exp2_coe]; exact_mod_cast Real.rpow_pos_of_pos (by norm_num) e

/-- A block whose scale is infinite has zero codes. -/
theorem code_zero_of_sc_top (a : EReal) (h : sc a = ⊤) (t : EReal) : code a t = 0 := by
  unfold sc at h
  have he : expo a = ⊤ := by
    generalize expo a = e at h
    induction e using EReal.rec with
    | bot => simp at h
    | top => rfl
    | coe e => rw [Ideal.exp2_coe] at h; exact absurd h (EReal.coe_ne_top _)
  unfold code inv
  rw [he, EReal.neg_top, Ideal.exp2_bot, mul_zero]
  rw [max_eq_right (by norm_cast), min_eq_right (by norm_cast)]

/-- A code times its scale is a real. -/
theorem code_mul_sc_real (a : EReal) (ha : 0 ≤ a) (t : EReal) : ∃ x : ℝ, code a t * sc a = (x : EReal) := by
  have hp := sc_pos a ha
  by_cases h : sc a = ⊤
  · exact ⟨0, by rw [code_zero_of_sc_top a h]; simp⟩
  · obtain ⟨x, hx⟩ := code_real a t
    obtain ⟨y, hy⟩ : ∃ y : ℝ, sc a = y := ⟨(sc a).toReal, (EReal.coe_toReal h (ne_of_gt (lt_of_le_of_lt bot_le hp))).symm⟩
    exact ⟨x * y, by rw [hx, hy, EReal.coe_mul]⟩

end Cert.Proof.Value

end
-- ==== Proof.Value.Concat.lean ====
/-
  Four rows of 128 side by side, read at a column.
-/
module

public import proofs.«01_k».proof.Proof.Ideal.Model
public import proofs.«01_k».proof.Proof.Value.Scalar
public import Idealize.ShloMosaic.Lib.ValueIdx
public import Idealize.ShloMosaic.Lib.Pipeline.Value
public import Idealize.ShloMosaic.Lib.Pointwise

@[expose] public section

set_option maxRecDepth 16384

noncomputable section

namespace Cert.Proof.Value

open Cert.KernelIdeal Cert.KernelIdeal.Gen Idealize.ShloMosaic Idealize.SL.Sem

/-- Four rows side by side, read at column `128 g + c`: row `g` at `c`. -/
theorem concat4_apply (x : Fin 4 → FVec Ideal S1x128 .f32) (g : Fin 4) (c : Fin 128) :
    concatenate S1x512 1 [⟨S1x128, x 0⟩, ⟨S1x128, x 1⟩, ⟨S1x128, x 2⟩, ⟨S1x128, x 3⟩]
        concatenates_S1x128_S1x128_S1x128_S1x128_S1x512_d1 (ix2 0 ⟨128 * g.val + c.val, by omega⟩) = x g (ix2 0 c) := by
  have hlen : ∀ g : Fin 4, g.val < [(⟨S1x128, x 0⟩ : (s : Shape) × (s.Idx → EReal)), ⟨S1x128, x 1⟩, ⟨S1x128, x 2⟩, ⟨S1x128, x 3⟩].length :=
    fun g => g.isLt
  have hget : ∀ g : Fin 4, [(⟨S1x128, x 0⟩ : (s : Shape) × (s.Idx → EReal)), ⟨S1x128, x 1⟩, ⟨S1x128, x 2⟩, ⟨S1x128, x 3⟩][g.val]'(hlen g) = ⟨S1x128, x g⟩ := by
    intro g
    match g with
    | 0 => rfl
    | 1 => rfl
    | 2 => rfl
    | 3 => rfl
  refine concatenate_apply_piece (t := S1x512) (1 : Fin 2) [(⟨S1x128, x 0⟩ : (s : Shape) × (s.Idx → EReal)), ⟨S1x128, x 1⟩, ⟨S1x128, x 2⟩, ⟨S1x128, x 3⟩]
    concatenates_S1x128_S1x128_S1x128_S1x128_S1x512_d1 (ix2 0 ⟨128 * g.val + c.val, by omega⟩) g.val (hlen g) S1x128 (x g) (hget g) rfl (128 * g.val) ?_ (ix2 0 c) ?_ ?_
  · match g with
    | 0 => rfl
    | 1 => rfl
    | 2 => rfl
    | 3 => rfl
  · intro a ha
    match a with
    | ⟨0, _⟩ => rfl
    | ⟨1, _⟩ => exact absurd rfl ha
  · rfl

/-- Four copies of a row that holds one number hold that number. -/
theorem concat4_const (x : FVec Ideal S1x128 .f32) (s : EReal) (h : ∀ j, x j = s) (col : Fin 512) :
    concatenate S1x512 1 [⟨S1x128, x⟩, ⟨S1x128, x⟩, ⟨S1x128, x⟩, ⟨S1x128, x⟩]
        concatenates_S1x128_S1x128_S1x128_S1x128_S1x512_d1 (ix2 0 col) = s := by
  have e : col = ⟨128 * (col.val / 128) + col.val % 128, by omega⟩ := Fin.ext (by show col.val = 128 * (col.val / 128) + col.val % 128; omega)
  rw [e]
  exact Eq.trans (concat4_apply (fun _ => x) ⟨col.val / 128, by omega⟩ ⟨col.val % 128, by omega⟩) (h _)

end Cert.Proof.Value

end
-- ==== Proof.Value.Tile.lean ====
/-
  The kernel's quantiser on one 128×128 tile at extended reals: its largest magnitude, the scale row, the codes.
-/
module

public import proofs.«01_k».proof.Proof.Ideal.Model
public import proofs.«01_k».proof.Proof.Value.Concat
public import Idealize.ShloMosaic.Lib.ValueIdx
public import Idealize.ShloMosaic.Lib.Pipeline.Value
public import Idealize.ShloMosaic.Lib.Pointwise

@[expose] public section

set_option maxRecDepth 16384

noncomputable section

namespace Cert.Proof.Value

open Cert.KernelIdeal Cert.KernelIdeal.Gen Idealize.ShloMosaic Idealize.SL.Sem
open Cert.Proof.Ideal

/-- A tile of a bf16 array, at extended reals. -/
abbrev Tile := FVec Ideal S1x128x128 .bf16

/-- The largest magnitude of a tile. -/
def amax (b : Tile) : EReal :=
  Finset.univ.fold max ⊥ fun c : Fin 128 => Finset.univ.fold max ⊥ fun r : Fin 128 => max (b (ix3 0 r c)) (-(b (ix3 0 r c)))

/-- No element of a tile exceeds the largest magnitude. -/
theorem le_amax (b : Tile) (r c : Fin 128) : max (b (ix3 0 r c)) (-(b (ix3 0 r c))) ≤ amax b := by
  refine le_trans ?_ ((Finset.le_fold_max _).mpr (Or.inr ⟨c, Finset.mem_univ _, le_rfl⟩))
  exact (Finset.le_fold_max _).mpr (Or.inr ⟨r, Finset.mem_univ _, le_rfl⟩)

/-- What bounds every element's magnitude bounds the largest. -/
theorem amax_le (b : Tile) (B : EReal) (h : ∀ r c, max (b (ix3 0 r c)) (-(b (ix3 0 r c))) ≤ B) : amax b ≤ B :=
  (Finset.fold_max_le _).mpr ⟨bot_le, fun c _ => (Finset.fold_max_le _).mpr ⟨bot_le, fun r _ => h r c⟩⟩

/-- A magnitude is not negative. -/
theorem abs_nonneg (x : EReal) : 0 ≤ max x (-x) := by
  rcases le_total 0 x with h | h
  · exact le_max_of_le_left h
  · exact le_max_of_le_right (by simpa using EReal.neg_le_neg_iff.mpr h)

/-- The largest magnitude is not negative. -/
theorem amax_nonneg (b : Tile) : 0 ≤ amax b := le_trans (abs_nonneg _) (le_amax b 0 0)

/-- The named constant is `log2 e`. -/
theorem named_l2e : Named.named (F := Ideal) (φ := .f32) κ "log2e" 0x3FB8AA3B#32 = ((l2e : ℝ) : EReal) :=
  IdealRules.named_const.ideal_named_scalar _ _ _ _ rfl

/-- The tile's largest magnitude, as the kernel reduces it. -/
theorem pay17_apply (b : Tile) (j : S1x1.Idx) : k0_pay17 (F := Ideal) b j = amax b := by
  idx_vars j
  unfold k0_pay17 k0_pay16 amax
  pointwise
  simp only [Ideal.absf_def, bits_bot]

/-- The exponent of a tile. -/
theorem pay1_apply (b : Tile) (j : S1x1.Idx) :
    k0_pay1 (F := Ideal) (k0_pay17 (F := Ideal) b) (k0_pay19 (F := Ideal) b) (k0_pay20 (F := Ideal) b) (k0_pay21 (F := Ideal) b) j = expo (amax b) := by
  rw [← expoK_eq _ (amax_nonneg b)]
  unfold k0_pay1 k0_pay21 k0_pay20 k0_pay19 k0_pay18
  have h := pay17_apply b
  generalize k0_pay17 (F := Ideal) b = y at h
  idx_vars j
  pointwise
  simp only [h]
  generalize amax b = a
  unfold expoK
  rw [named_l2e, bits_cinv]
  have z : (((0#32).toInt : ℝ) : EReal) = 0 := by simp
  rw [z]
  rfl

/-- The codes of a tile, as a 128×128 matrix. -/
theorem pay2_apply (b : Tile) (r c : Fin 128) :
    k0_pay2 (F := Ideal) (k0_pay16 (F := Ideal) b) (k0_pay17 (F := Ideal) b) (k0_pay19 (F := Ideal) b) (k0_pay20 (F := Ideal) b)
      (k0_pay21 (F := Ideal) b) (ix2 r c) = code (amax b) (b (ix3 0 r c)) := by
  unfold k0_pay2
  have h := pay1_apply b
  generalize k0_pay1 (F := Ideal) (k0_pay17 (F := Ideal) b) (k0_pay19 (F := Ideal) b) (k0_pay20 (F := Ideal) b) (k0_pay21 (F := Ideal) b) = y at h
  unfold k0_pay16
  pointwise
  simp only [h]
  generalize amax b = a
  unfold code inv
  rw [bits_448, bits_m448, zero_sub]
  rfl

/-- The codes of a v tile. -/
theorem vc_apply (b : Tile) (r c : Fin 128) : vc (F := Ideal) b (ix3 0 r c) = code (amax b) (b (ix3 0 r c)) := by
  refine Eq.trans ?_ (pay2_apply b r c)
  unfold vc k0_pay3
  pointwise

/-- The transposed codes of a v tile. -/
theorem vt_apply (b : Tile) (r c : Fin 128) : vt (F := Ideal) b (ix3 0 r c) = code (amax b) (b (ix3 0 c r)) := by
  refine Eq.trans ?_ (pay2_apply b c r)
  unfold vt k0_pay4
  pointwise

/-- The scale row of a v tile. -/
theorem vs_apply (b : Tile) (j : S1x1x1x128.Idx) : vs (F := Ideal) b j = sc (amax b) := by
  unfold vs k0_pay5
  have h := pay1_apply b
  generalize k0_pay1 (F := Ideal) (k0_pay17 (F := Ideal) b) (k0_pay19 (F := Ideal) b) (k0_pay20 (F := Ideal) b) (k0_pay21 (F := Ideal) b) = y at h
  idx_vars j
  pointwise
  simp only [h]
  rfl

/-- A k tile's codes are computed as a v tile's. -/
theorem kc_eq (b : Tile) : kc (F := Ideal) b = vc b := rfl
/-- A k tile's scale row is computed as a v tile's. -/
theorem ks_eq (b : Tile) : ks (F := Ideal) b = vs b := rfl
/-- A q tile's codes are computed as a v tile's. -/
theorem qc_eq (g : Fin 4) (b : Tile) : qc (F := Ideal) g b = vc b := by
  match g with
  | 0 => rfl
  | 1 => rfl
  | 2 => rfl
  | 3 => rfl

/-- A tile's codes as a matrix. -/
abbrev codesM (b : Tile) : FVec Ideal S128x128 .f32 :=
  k0_pay2 (F := Ideal) (k0_pay16 (F := Ideal) b) (k0_pay17 (F := Ideal) b) (k0_pay19 (F := Ideal) b) (k0_pay20 (F := Ideal) b)
    (k0_pay21 (F := Ideal) b)

/-- A tile's exponent. -/
abbrev expoM (b : Tile) : FVec Ideal S1x1 .f32 :=
  k0_pay1 (F := Ideal) (k0_pay17 (F := Ideal) b) (k0_pay19 (F := Ideal) b) (k0_pay20 (F := Ideal) b) (k0_pay21 (F := Ideal) b)

/-- The transposed codes of a q tile are computed as a v tile's. -/
theorem qt_eq (g : Fin 4) (b : Tile) : qt (F := Ideal) g b
    = shapeCast S128x128 (truncf .fp8e4m3 (transpose S128x128 [1, 0] (codesM b) transposes_S128x128_p1_0_S128x128) bitsLt_fp8e4m3_f32)
        shapeCasts_S128x128_S128x128 := by
  match g with
  | 0 => rfl
  | 1 => rfl
  | 2 => rfl
  | 3 => rfl

/-- The transposed codes of a q tile. -/
theorem qt_apply (g : Fin 4) (b : Tile) (r c : Fin 128) : qt (F := Ideal) g b (ix2 r c) = code (amax b) (b (ix3 0 c r)) := by
  refine Eq.trans ?_ (pay2_apply b c r)
  rw [qt_eq]
  pointwise

/-- A tile's scale, along a row. -/
abbrev rowM (b : Tile) : FVec Ideal S1x128 .f32 :=
  broadcastTo S1x128 (shapeCast S1x1 (exp2 (expoM b)) shapeCasts_S1x1_S1x1) broadcasts_S1x1_S1x128

/-- The row reads as the scale. -/
theorem rowM_apply (b : Tile) (j : S1x128.Idx) : rowM b j = sc (amax b) := by
  have h := pay1_apply b
  unfold rowM expoM
  generalize k0_pay1 (F := Ideal) (k0_pay17 (F := Ideal) b) (k0_pay19 (F := Ideal) b) (k0_pay20 (F := Ideal) b) (k0_pay21 (F := Ideal) b) = y at h
  idx_vars j
  pointwise
  simp only [h]
  rfl

/-- A q tile's scale row is that row. -/
theorem qs_eq (g : Fin 4) (b : Tile) : qs (F := Ideal) g b = shapeCast S1x1x1x1x128 (rowM b) shapeCasts_S1x128_S1x1x1x1x128 := by
  match g with
  | 0 => rfl
  | 1 => rfl
  | 2 => rfl
  | 3 => rfl

/-- The scale row of a q tile. -/
theorem qs_apply (g : Fin 4) (b : Tile) (j : S1x1x1x1x128.Idx) : qs (F := Ideal) g b j = sc (amax b) := by
  rw [qs_eq]
  have h := rowM_apply b
  generalize rowM b = y at h
  idx_vars j
  pointwise
  simp only [h]

/-- A scale row times the constant 1/√128. -/
abbrev rowSM (b : Tile) : FVec Ideal S1x128 .f32 := mulf (rowM b) (broadcast S1x128 (Scalar.ofBits (F := Ideal) .f32 0x3DB504F3#32))

/-- The four heads' rows, side by side. -/
theorem qrow_eq (b : Fin 4 → Tile) : qrow (F := Ideal) b
    = concatenate S1x512 1 [⟨S1x128, rowSM (b 0)⟩, ⟨S1x128, rowSM (b 1)⟩, ⟨S1x128, rowSM (b 2)⟩, ⟨S1x128, rowSM (b 3)⟩]
        concatenates_S1x128_S1x128_S1x128_S1x128_S1x512_d1 := rfl

/-- The row of a head reads as its scale times the constant. -/
theorem rowSM_apply (b : Tile) (j : S1x128.Idx) : rowSM b j = sc (amax b) * ((smR : ℝ) : EReal) := by
  rw [← bits_sm, ← rowM_apply b j]; rfl

/-- The row of q scales at a column: its head's scale times the constant. -/
theorem qrow_apply (b : Fin 4 → Tile) (g : Fin 4) (c : Fin 128) :
    qrow (F := Ideal) b (ix2 0 ⟨128 * g.val + c.val, by omega⟩) = sc (amax (b g)) * ((smR : ℝ) : EReal) := by
  rw [qrow_eq]
  refine Eq.trans (concat4_apply (fun g => rowSM (b g)) g c) (rowSM_apply _ _)

end Cert.Proof.Value

end
-- ==== Proof.Value.RefQ.lean ====
/-
  The reference's quantiser, read at an index.
-/
module

public import proofs.«01_k».proof.Proof.Gen.ReferenceIdeal.Read
public import proofs.«01_k».proof.Proof.Value.Tile

@[expose] public section

set_option maxRecDepth 16384

noncomputable section

namespace Cert.Proof.Value

open Cert.ReferenceIdeal Cert.ReferenceIdeal.Gen Cert.ReferenceIdeal.Read Idealize.ShloMosaic Idealize.SL.Sem

/-- Rows `128 i …`, columns `128 h …` of a [4, 4096, 8192] array's batch `b`. -/
def tileQ (x : S4x4096x8192.Idx → EReal) (b : Fin 4) (i : Fin 32) (h : Fin 64) : Tile := fun y =>
  x (ix3 b ⟨i.val * 128 + (y 1).val, by have : (y 1).val < 128 := (y 1).isLt; omega⟩ ⟨h.val * 128 + (y 2).val, by have : (y 2).val < 128 := (y 2).isLt; omega⟩)

/-- Rows `128 i …`, columns `128 h …` of a [4, 4096, 2048] array's batch `b`. -/
def tileK (x : S4x4096x2048.Idx → EReal) (b : Fin 4) (i : Fin 32) (h : Fin 16) : Tile := fun y =>
  x (ix3 b ⟨i.val * 128 + (y 1).val, by have : (y 1).val < 128 := (y 1).isLt; omega⟩ ⟨h.val * 128 + (y 2).val, by have : (y 2).val < 128 := (y 2).isLt; omega⟩)

/-- A q array. -/
abbrev XQ := (⟨S4x4096x8192, .bf16⟩ : BufTy).Contents (Elt Ideal)
/-- A k or v array. -/
abbrev XK := (⟨S4x4096x2048, .bf16⟩ : BufTy).Contents (Elt Ideal)

theorem dropQ (b : Fin 4) (i : Fin 32) (r : Fin 128) (h : Fin 64) (d : Fin 128) :
    reducesTo_S4x32x128x64x128_S4x32x64_d2_4.drop (ix5 b i r h d) = ix3 b i h := by
  funext a
  match a with
  | ⟨0, _⟩ => exact Fin.ext (Shape.ReducesTo.drop_apply_val reducesTo_S4x32x128x64x128_S4x32x64_d2_4 (ix5 b i r h d) 0)
  | ⟨1, _⟩ => exact Fin.ext (Shape.ReducesTo.drop_apply_val reducesTo_S4x32x128x64x128_S4x32x64_d2_4 (ix5 b i r h d) 1)
  | ⟨2, _⟩ => exact Fin.ext (Shape.ReducesTo.drop_apply_val reducesTo_S4x32x128x64x128_S4x32x64_d2_4 (ix5 b i r h d) 2)

theorem dropK (b : Fin 4) (i : Fin 32) (r : Fin 128) (h : Fin 16) (d : Fin 128) :
    reducesTo_S4x32x128x16x128_S4x32x16_d2_4.drop (ix5 b i r h d) = ix3 b i h := by
  funext a
  match a with
  | ⟨0, _⟩ => exact Fin.ext (Shape.ReducesTo.drop_apply_val reducesTo_S4x32x128x16x128_S4x32x16_d2_4 (ix5 b i r h d) 0)
  | ⟨1, _⟩ => exact Fin.ext (Shape.ReducesTo.drop_apply_val reducesTo_S4x32x128x16x128_S4x32x16_d2_4 (ix5 b i r h d) 1)
  | ⟨2, _⟩ => exact Fin.ext (Shape.ReducesTo.drop_apply_val reducesTo_S4x32x128x16x128_S4x32x16_d2_4 (ix5 b i r h d) 2)

/-- What holds at every tuple of five holds at every index of rank five. -/
theorem all_ix5 {n0 n1 n2 n3 n4 : Nat} {P : (⟨5, ![n0, n1, n2, n3, n4]⟩ : Shape).Idx → Prop} (h : ∀ a b c d e, P (ix5 a b c d e)) : ∀ y, P y := fun y => by
  rw [eq_ix5 y]; exact h _ _ _ _ _

/-- The reference's largest magnitude of a tile. -/
theorem amaxQ (x : XQ) (b : Fin 4) (i : Fin 32) (h : Fin 64) :
    val_main_v3 (F := Ideal) x (ix3 b i h) = amax (tileQ x b i h) := by
  have e : ∀ r d, val_main_v2 (F := Ideal) x (ix5 b i r h d) = max (tileQ x b i h (ix3 0 r d)) (-(tileQ x b i h (ix3 0 r d))) := fun r d => by
    unfold val_main_v2 val_main_v1 val_main_v0
    pointwise
    rfl
  unfold val_main_v3
  pointwise
  refine le_antisymm ((Finset.fold_max_le _).mpr ⟨?_, all_ix5 fun b' i' r h' d hy => ?_⟩) (amax_le _ _ fun r d => ?_)
  · unfold val_main_cst; exact le_of_eq_of_le bits_bot bot_le
  · rw [Finset.mem_filter, dropQ] at hy
    obtain ⟨-, hy⟩ := hy
    obtain rfl : b' = b := congrFun hy 0
    obtain rfl : i' = i := congrFun hy 1
    obtain rfl : h' = h := congrFun hy 2
    rw [e]; exact le_amax _ r d
  · rw [← e]
    exact (Finset.le_fold_max _).mpr (Or.inr ⟨ix5 b i r h d, by rw [Finset.mem_filter, dropQ]; exact ⟨Finset.mem_univ _, rfl⟩, le_rfl⟩)

theorem amaxK (x : XK) (b : Fin 4) (i : Fin 32) (h : Fin 16) :
    val_main_v27 (F := Ideal) x (ix3 b i h) = amax (tileK x b i h) := by
  have e : ∀ r d, val_main_v26 (F := Ideal) x (ix5 b i r h d) = max (tileK x b i h (ix3 0 r d)) (-(tileK x b i h (ix3 0 r d))) := fun r d => by
    unfold val_main_v26 val_main_v25 val_main_v24
    pointwise
    rfl
  unfold val_main_v27
  pointwise
  refine le_antisymm ((Finset.fold_max_le _).mpr ⟨?_, all_ix5 fun b' i' r h' d hy => ?_⟩) (amax_le _ _ fun r d => ?_)
  · unfold val_main_cst_7; exact le_of_eq_of_le bits_bot bot_le
  · rw [Finset.mem_filter, dropK] at hy
    obtain ⟨-, hy⟩ := hy
    obtain rfl : b' = b := congrFun hy 0
    obtain rfl : i' = i := congrFun hy 1
    obtain rfl : h' = h := congrFun hy 2
    rw [e]; exact le_amax _ r d
  · rw [← e]
    exact (Finset.le_fold_max _).mpr (Or.inr ⟨ix5 b i r h d, by rw [Finset.mem_filter, dropK]; exact ⟨Finset.mem_univ _, rfl⟩, le_rfl⟩)

/-! ## The reference's operations on one number -/

section
variable {F : FTy → Type} [FloatOps F]

/-- The exponent as the reference's operations. -/
def expR (a : F .f32) : F .f32 :=
  Scalar.select (FloatOps.cmpf .oeq a (FloatOps.ofBits .f32 0x00000000#32)) (FloatOps.ofBits .f32 0x00000000#32)
    (FloatOps.addf (FloatOps.hostUnary .floor (FloatOps.hostDivf (FloatOps.hostUnary .log (FloatOps.mulf a (FloatOps.ofBits .f32 0x3B124925#32))) (FloatOps.hostUnary .log (FloatOps.ofBits .f32 0x40000000#32)))) (FloatOps.ofBits .f32 0x3F800000#32))

/-- The scale as the reference's operations. -/
def scR (a : F .f32) : F .f32 := FloatOps.hostPowf (FloatOps.ofBits .f32 0x40000000#32) (expR a)

/-- The inverse scale as the reference's operations. -/
def invR (a : F .f32) : F .f32 := FloatOps.hostPowf (FloatOps.ofBits .f32 0x40000000#32) (FloatOps.hostNegf (expR a))

/-- The code as the reference's operations. -/
def codR (p t : F .f32) : F .f32 :=
  FloatOps.minimumf (FloatOps.ofBits .f32 0x43E00000#32) (FloatOps.maximumf (FloatOps.ofBits .f32 0xC3E00000#32) (FloatOps.mulf t p))

theorem expQ_ops (x : (⟨S4x4096x8192, .bf16⟩ : BufTy).Contents (Elt F)) (i : S4x32x64.Idx) :
    val_main_v15 (F := F) x i = expR (val_main_v3 (F := F) x i) := by
  rw [val_main_v15_apply, val_main_v14_apply, val_main_v13_apply, val_main_v12_apply, val_main_v11_apply, val_main_v10_apply, val_main_v9_apply, val_main_v8_apply, val_main_v7_apply, val_main_v6_apply, val_main_v5_apply, val_main_v4_apply, val_main_call0_v1_apply, val_main_call0_v0_apply, val_main_cst_0_apply, val_main_cst_1_apply, val_main_cst_2_apply, val_main_cst_3_apply, val_main_cst_4_apply]
  rfl

theorem scQ_ops (x : (⟨S4x4096x8192, .bf16⟩ : BufTy).Contents (Elt F)) (i : S4x32x64.Idx) :
    val_main_v23 (F := F) x i = scR (val_main_v3 (F := F) x i) := by
  rw [val_main_v23_apply, val_main_v4_apply, val_main_cst_0_apply, expQ_ops]
  rfl

theorem invQ_ops (x : (⟨S4x4096x8192, .bf16⟩ : BufTy).Contents (Elt F)) (i : S4x32x64.Idx) :
    val_main_v17 (F := F) x i = invR (val_main_v3 (F := F) x i) := by
  rw [val_main_v17_apply, val_main_v16_apply, val_main_v4_apply, val_main_cst_0_apply, expQ_ops]
  rfl

theorem codQ_ops (x : (⟨S4x4096x8192, .bf16⟩ : BufTy).Contents (Elt F)) (i : S4x32x128x64x128.Idx) :
    val_main_v21 (F := F) x i = codR (val_main_v19 (F := F) x i) (val_main_v1 (F := F) x i) := by
  rw [val_main_v21_apply, val_main_call1_v4_apply, val_main_call1_v3_apply, val_main_call1_v2_apply, val_main_call1_v1_apply, val_main_call1_v0_apply, val_main_v20_apply, val_main_cst_5_apply, val_main_cst_6_apply]
  rfl

theorem expK_ops (x : (⟨S4x4096x2048, .bf16⟩ : BufTy).Contents (Elt F)) (i : S4x32x16.Idx) :
    val_main_v39 (F := F) x i = expR (val_main_v27 (F := F) x i) := by
  rw [val_main_v39_apply, val_main_v38_apply, val_main_v37_apply, val_main_v36_apply, val_main_v35_apply, val_main_v34_apply, val_main_v33_apply, val_main_v32_apply, val_main_v31_apply, val_main_v30_apply, val_main_v29_apply, val_main_v28_apply, val_main_call2_v1_apply, val_main_call2_v0_apply, val_main_cst_8_apply, val_main_cst_9_apply, val_main_cst_10_apply, val_main_cst_11_apply, val_main_cst_12_apply]
  rfl

theorem scK_ops (x : (⟨S4x4096x2048, .bf16⟩ : BufTy).Contents (Elt F)) (i : S4x32x16.Idx) :
    val_main_v47 (F := F) x i = scR (val_main_v27 (F := F) x i) := by
  rw [val_main_v47_apply, val_main_v28_apply, val_main_cst_8_apply, expK_ops]
  rfl

theorem invK_ops (x : (⟨S4x4096x2048, .bf16⟩ : BufTy).Contents (Elt F)) (i : S4x32x16.Idx) :
    val_main_v41 (F := F) x i = invR (val_main_v27 (F := F) x i) := by
  rw [val_main_v41_apply, val_main_v40_apply, val_main_v28_apply, val_main_cst_8_apply, expK_ops]
  rfl

theorem codK_ops (x : (⟨S4x4096x2048, .bf16⟩ : BufTy).Contents (Elt F)) (i : S4x32x128x16x128.Idx) :
    val_main_v45 (F := F) x i = codR (val_main_v43 (F := F) x i) (val_main_v25 (F := F) x i) := by
  rw [val_main_v45_apply, val_main_call3_v4_apply, val_main_call3_v3_apply, val_main_call3_v2_apply, val_main_call3_v1_apply, val_main_call3_v0_apply, val_main_v44_apply, val_main_cst_13_apply, val_main_cst_14_apply]
  rfl

/-- The reference quantises v as it quantises k. -/
theorem codV_eq (x : (⟨S4x4096x2048, .bf16⟩ : BufTy).Contents (Elt F)) : val_main_v70 (F := F) x = val_main_v46 (F := F) x := rfl
theorem scV_eq (x : (⟨S4x4096x2048, .bf16⟩ : BufTy).Contents (Elt F)) : val_main_v71 (F := F) x = val_main_v47 (F := F) x := rfl
end

theorem expR_eq (a : EReal) : expR (F := Ideal) a = expo a := by
  have e : expR (F := Ideal) a = Scalar.select (α := EReal) (Ideal.cmp .oeq a (Ideal.ofBits .f32 0x00000000#32)) (Ideal.ofBits .f32 0x00000000#32) (Ideal.liftRound Int.floor (Ideal.div (Ideal.log (a * Ideal.ofBits .f32 0x3B124925#32)) (Ideal.log (Ideal.ofBits .f32 0x40000000#32))) + Ideal.ofBits .f32 0x3F800000#32) := rfl
  rw [e, select_eq, bits_one, bits_two, bits_cinv, Ideal.ofBits_zero_f32]
  rfl

theorem scR_eq (a : EReal) : scR (F := Ideal) a = sc a := by
  have e : scR (F := Ideal) a = Ideal.pow (Ideal.ofBits .f32 0x40000000#32) (expR (F := Ideal) a) := rfl
  rw [e, bits_two, pow_two, expR_eq]
  rfl

theorem invR_eq (a : EReal) : invR (F := Ideal) a = inv a := by
  have e : invR (F := Ideal) a = Ideal.pow (Ideal.ofBits .f32 0x40000000#32) (-(expR (F := Ideal) a)) := rfl
  rw [e, bits_two, pow_two, expR_eq]
  rfl

theorem codR_eq (a t : EReal) : codR (F := Ideal) (inv a) t = code a t := by
  have e : codR (F := Ideal) (inv a) t = min (Ideal.ofBits .f32 0x43E00000#32) (max (Ideal.ofBits .f32 0xC3E00000#32) (t * inv a)) := rfl
  rw [e, bits_448, bits_m448]
  rfl

/-- The reference's scale of a tile. -/
theorem scaleQ (x : XQ) (b : Fin 4) (i : Fin 32) (h : Fin 64) :
    val_main_v23 (F := Ideal) x (ix3 b i h) = sc (amax (tileQ x b i h)) := by
  rw [scQ_ops, scR_eq, amaxQ]

/-- The reference's codes of a tile. -/
theorem codeQ (x : XQ) (b : Fin 4) (i : Fin 32) (r : Fin 128) (h : Fin 64) (d : Fin 128) :
    val_main_v22 (F := Ideal) x (ix4 b ⟨i.val * 128 + r.val, by omega⟩ h d)
      = code (amax (tileQ x b i h)) (tileQ x b i h (ix3 0 r d)) := by
  have e : val_main_v1 (F := Ideal) x (ix5 b i r h d) = tileQ x b i h (ix3 0 r d) := by
    unfold val_main_v1 val_main_v0
    pointwise
    rfl
  have e' : val_main_v19 (F := Ideal) x (ix5 b i r h d) = val_main_v17 (F := Ideal) x (ix3 b i h) := by
    unfold val_main_v19 val_main_v18
    generalize val_main_v17 (F := Ideal) x = y
    pointwise
  have e'' : val_main_v22 (F := Ideal) x (ix4 b ⟨i.val * 128 + r.val, by omega⟩ h d) = val_main_v21 (F := Ideal) x (ix5 b i r h d) := by
    unfold val_main_v22
    generalize val_main_v21 (F := Ideal) x = y
    pointwise
  rw [e'', codQ_ops, e', e, invQ_ops, invR_eq, amaxQ, codR_eq]

/-- The reference's scale of a tile. -/
theorem scaleK (x : XK) (b : Fin 4) (i : Fin 32) (h : Fin 16) :
    val_main_v47 (F := Ideal) x (ix3 b i h) = sc (amax (tileK x b i h)) := by
  rw [scK_ops, scR_eq, amaxK]

/-- The reference's codes of a tile. -/
theorem codeK (x : XK) (b : Fin 4) (i : Fin 32) (r : Fin 128) (h : Fin 16) (d : Fin 128) :
    val_main_v46 (F := Ideal) x (ix4 b ⟨i.val * 128 + r.val, by omega⟩ h d)
      = code (amax (tileK x b i h)) (tileK x b i h (ix3 0 r d)) := by
  have e : val_main_v25 (F := Ideal) x (ix5 b i r h d) = tileK x b i h (ix3 0 r d) := by
    unfold val_main_v25 val_main_v24
    pointwise
    rfl
  have e' : val_main_v43 (F := Ideal) x (ix5 b i r h d) = val_main_v41 (F := Ideal) x (ix3 b i h) := by
    unfold val_main_v43 val_main_v42
    generalize val_main_v41 (F := Ideal) x = y
    pointwise
  have e'' : val_main_v46 (F := Ideal) x (ix4 b ⟨i.val * 128 + r.val, by omega⟩ h d) = val_main_v45 (F := Ideal) x (ix5 b i r h d) := by
    unfold val_main_v46
    generalize val_main_v45 (F := Ideal) x = y
    pointwise
  rw [e'', codK_ops, e', e, invK_ops, invR_eq, amaxK, codR_eq]

end Cert.Proof.Value

end
-- ==== Proof.Value.Online.lean ====
/-
  The running softmax of one query column over key tiles, on extended reals: one step, what it keeps, and the quotient it
  ends in.
-/
module

public import proofs.«01_k».proof.Proof.Value.Scalar

@[expose] public section

noncomputable section

namespace Cert.Proof.Value

open Idealize.ShloMosaic

/-- One column of the running state: one accumulator, the maximum, the sum. -/
structure Col where
  /-- the weighted sum -/
  acc : EReal
  /-- the maximum -/
  m : EReal
  /-- the sum of weights -/
  l : EReal

/-- The maximum after a tile with raw scores `st` and scale `c2`. -/
def tmax (st : Fin 128 → EReal) (c2 m : EReal) : EReal := max m ((Finset.univ.fold max ⊥ st) * c2)
/-- A key's weight against the maximum `m`. -/
def tp (st : Fin 128 → EReal) (c2 m : EReal) (r : Fin 128) : EReal := Ideal.exp2 (st r * c2 - (m + ((-8 : ℝ) : EReal)))
/-- One key tile. -/
def tstep (st : Fin 128 → EReal) (c2 sv : EReal) (v : Fin 128 → EReal) (s : Col) : Col where
  acc := s.acc * Ideal.exp2 (s.m - tmax st c2 s.m)
    + (∑ r, v r * min ((448 : ℝ) : EReal) (max 0 (tp st c2 (tmax st c2 s.m) r))) * sv
  m := tmax st c2 s.m
  l := s.l * Ideal.exp2 (s.m - tmax st c2 s.m) + ∑ r, tp st c2 (tmax st c2 s.m) r

/-! ## Weights as reals -/

/-- The weight `2 ^ (x - m + 8)` of a score, `0` at `⊥`. -/
def wt (m : ℝ) (x : EReal) : ℝ := if x = ⊥ then 0 else Real.rpow 2 (x.toReal - m + 8)

/-- A score is `⊥` or a real. -/
def Fine (x : EReal) : Prop := x = ⊥ ∨ ∃ y : ℝ, x = (y : EReal)

/-- The kernel's weight is that weight. -/
theorem exp2_wt (m : ℝ) (x : EReal) (h : Fine x) : Ideal.exp2 (x - (((m : ℝ) : EReal) + ((-8 : ℝ) : EReal))) = ((wt m x : ℝ) : EReal) := by
  rw [← EReal.coe_add]
  rcases h with rfl | ⟨y, rfl⟩
  · rw [wt, if_pos rfl, EReal.bot_sub, Ideal.exp2_bot]; rfl
  · rw [wt, if_neg (EReal.coe_ne_bot y), ← EReal.coe_sub, Ideal.exp2_coe, EReal.toReal_coe]
    congr 2; ring

/-- A weight is not negative. -/
theorem wt_nonneg (m : ℝ) (x : EReal) : 0 ≤ wt m x := by
  unfold wt; split_ifs
  · exact le_rfl
  · exact (Real.rpow_pos_of_pos (by norm_num) _).le

/-- The weight of a real score is positive. -/
theorem wt_pos (m : ℝ) (x : EReal) (h : x ≠ ⊥) : 0 < wt m x := by
  unfold wt; rw [if_neg h]; exact Real.rpow_pos_of_pos (by norm_num) _

/-- A score at most the maximum weighs at most 256. -/
theorem wt_le (m : ℝ) (x : EReal) (hf : Fine x) (h : x ≤ ((m : ℝ) : EReal)) : wt m x ≤ 256 := by
  rcases hf with rfl | ⟨y, rfl⟩
  · rw [wt, if_pos rfl]; norm_num
  · rw [wt, if_neg (EReal.coe_ne_bot y), EReal.toReal_coe]
    have hy : y ≤ m := by exact_mod_cast h
    have e : (256 : ℝ) = Real.rpow 2 8 := by
      show (256 : ℝ) = (2 : ℝ) ^ (8 : ℝ)
      rw [show (8 : ℝ) = ((8 : ℕ) : ℝ) by norm_num, Real.rpow_natCast]; norm_num
    rw [e]
    exact Real.rpow_le_rpow_of_exponent_le (by norm_num) (by linarith)

/-- Changing the maximum scales every weight. -/
theorem wt_shift (m m' : ℝ) (x : EReal) : wt m x * Real.rpow 2 (m - m') = wt m' x := by
  unfold wt; split_ifs
  · rw [zero_mul]
  · show (2 : ℝ) ^ (x.toReal - m + 8) * (2 : ℝ) ^ (m - m') = (2 : ℝ) ^ (x.toReal - m' + 8)
    rw [← Real.rpow_add (by norm_num)]; congr 1; ring

/-! ## What the running state keeps -/

/-- After `n` tiles: the sums of weights and of weighted values against the maximum. -/
def Inv (σ : ℕ → Fin 128 → EReal) (u : ℕ → Fin 128 → ℝ) (n : ℕ) (s : Col) : Prop :=
  (n = 0 ∧ s = ⟨0, ⊥, 0⟩) ∨ ∃ m : ℝ, s.m = (m : EReal)
    ∧ s.l = ((∑ j ∈ Finset.range n, ∑ r, wt m (σ j r) : ℝ) : EReal)
    ∧ s.acc = ((∑ j ∈ Finset.range n, ∑ r, wt m (σ j r) * u j r : ℝ) : EReal)

/-- What a tile's raw scores must be: a positive factor, every scaled score `⊥` or a real, not all `⊥`. -/
def Good (st : Fin 128 → EReal) (c2 : EReal) : Prop :=
  0 < c2 ∧ (∀ r, st r = ⊥ ∨ ∃ y : ℝ, st r * c2 = (y : EReal)) ∧ ∃ r, st r ≠ ⊥

/-- A finite sum of reals, as extended reals. -/
theorem coe_sum {ι : Type*} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) f s

/-- The scaled maximum of a tile is a real that bounds every scaled score. -/
theorem good_max (st : Fin 128 → EReal) (c2 : EReal) (h : Good st c2) :
    (∀ r, Fine (st r * c2)) ∧ ∃ y : ℝ, (Finset.univ.fold max ⊥ st) * c2 = (y : EReal) ∧ ∀ r, st r * c2 ≤ (y : EReal) := by
  obtain ⟨hc, hs, r1, hr1⟩ := h
  refine ⟨fun r => ?_, ?_⟩
  · rcases hs r with e | e
    · left; rw [e, EReal.bot_mul_of_pos hc]
    · right; exact e
  obtain ⟨r0, -, h0⟩ := Finset.exists_max_image Finset.univ st ⟨r1, Finset.mem_univ _⟩
  have hM : Finset.univ.fold max ⊥ st = st r0 :=
    le_antisymm ((Finset.fold_max_le _).mpr ⟨bot_le, fun r hr => h0 r hr⟩) ((Finset.le_fold_max _).mpr (Or.inr ⟨r0, Finset.mem_univ _, le_rfl⟩))
  have hne : st r0 ≠ ⊥ := fun e => hr1 (le_bot_iff.mp (e ▸ h0 r1 (Finset.mem_univ _)))
  obtain ⟨y, hy⟩ := (hs r0).resolve_left hne
  refine ⟨y, by rw [hM, hy], fun r => ?_⟩
  rw [← hy]
  exact mul_le_mul_of_nonneg_right (h0 r (Finset.mem_univ _)) hc.le

/-- One tile keeps it. -/
theorem inv_step (σ : ℕ → Fin 128 → EReal) (u : ℕ → Fin 128 → ℝ) (n : ℕ) (s : Col) (hI : Inv σ u n s)
    (st : Fin 128 → EReal) (c2 sv : EReal) (v : Fin 128 → EReal) (hg : Good st c2) (hσ : ∀ r, σ n r = st r * c2)
    (hv : ∀ r, ∃ x : ℝ, v r = (x : EReal)) (hu : ∀ r, v r * sv = ((u n r : ℝ) : EReal)) (hs : (∃ y : ℝ, sv = (y : EReal)) ∨ ∀ r, v r = 0) :
    Inv σ u (n + 1) (tstep st c2 sv v s) := by
  obtain ⟨hf, y, hy, hle⟩ := good_max st c2 hg
  -- the new maximum and the rescaling of the old sums
  obtain ⟨m1, hm1, hym, hl, ha⟩ : ∃ m1 : ℝ, tmax st c2 s.m = (m1 : EReal) ∧ y ≤ m1
      ∧ s.l * Ideal.exp2 (s.m - (m1 : EReal)) = ((∑ j ∈ Finset.range n, ∑ r, wt m1 (σ j r) : ℝ) : EReal)
      ∧ s.acc * Ideal.exp2 (s.m - (m1 : EReal)) = ((∑ j ∈ Finset.range n, ∑ r, wt m1 (σ j r) * u j r : ℝ) : EReal) := by
    unfold tmax
    rw [hy]
    rcases hI with ⟨rfl, rfl⟩ | ⟨m, hm, hl, ha⟩
    · refine ⟨y, by simp, le_rfl, by simp, by simp⟩
    · refine ⟨max m y, by rw [hm, EReal.coe_strictMono.monotone.map_max], le_max_right _ _, ?_, ?_⟩
      · rw [hl, hm, ← EReal.coe_sub, Ideal.exp2_coe, ← EReal.coe_mul, Finset.sum_mul]
        congr 1
        exact Finset.sum_congr rfl fun j _ => by rw [Finset.sum_mul]; exact Finset.sum_congr rfl fun r _ => wt_shift _ _ _
      · rw [ha, hm, ← EReal.coe_sub, Ideal.exp2_coe, ← EReal.coe_mul, Finset.sum_mul]
        congr 1
        refine Finset.sum_congr rfl fun j _ => ?_
        rw [Finset.sum_mul]
        refine Finset.sum_congr rfl fun r _ => ?_
        rw [mul_right_comm, wt_shift]
  have hp : ∀ r, tp st c2 (m1 : EReal) r = ((wt m1 (σ n r) : ℝ) : EReal) := fun r => by
    unfold tp; rw [exp2_wt _ _ (hf r), hσ r]
  have hclip : ∀ r, min ((448 : ℝ) : EReal) (max 0 ((wt m1 (σ n r) : ℝ) : EReal)) = ((wt m1 (σ n r) : ℝ) : EReal) := fun r => by
    have h1 : wt m1 (σ n r) ≤ 256 := wt_le _ _ (by rw [hσ]; exact hf r) (by rw [hσ]; exact le_trans (hle r) (by exact_mod_cast hym))
    rw [max_eq_right (by exact_mod_cast wt_nonneg _ _), min_eq_right (by exact_mod_cast (by linarith))]
  have hnew : (∑ r, v r * min ((448 : ℝ) : EReal) (max 0 (tp st c2 (m1 : EReal) r))) * sv = ((∑ r, wt m1 (σ n r) * u n r : ℝ) : EReal) := by
    have e : ∀ r, v r * min ((448 : ℝ) : EReal) (max 0 (tp st c2 (m1 : EReal) r)) = v r * ((wt m1 (σ n r) : ℝ) : EReal) := fun r => by
      rw [hp, hclip]
    rw [Finset.sum_congr rfl fun r _ => e r]
    rcases hs with ⟨z, rfl⟩ | h0
    · choose vr hvr using hv
      have eu : ∀ r, u n r = vr r * z := fun r => by
        have := hu r; rw [hvr, ← EReal.coe_mul] at this; exact_mod_cast this.symm
      have ee : ∀ r, v r * ((wt m1 (σ n r) : ℝ) : EReal) = ((vr r * wt m1 (σ n r) : ℝ) : EReal) := fun r => by rw [hvr, EReal.coe_mul]
      rw [Finset.sum_congr rfl fun r _ => ee r, ← coe_sum, ← EReal.coe_mul, Finset.sum_mul]
      congr 1
      exact Finset.sum_congr rfl fun r _ => by rw [eu]; ring
    · have eu : ∀ r, u n r = 0 := fun r => by
        have := hu r; rw [h0, zero_mul] at this; exact_mod_cast this.symm
      simp [h0, eu]
  right
  refine ⟨m1, hm1, ?_, ?_⟩
  · show s.l * Ideal.exp2 (s.m - tmax st c2 s.m) + ∑ r, tp st c2 (tmax st c2 s.m) r = _
    rw [hm1, hl, Finset.sum_congr rfl fun r _ => hp r, ← coe_sum, ← EReal.coe_add, Finset.sum_range_succ]
  · show s.acc * Ideal.exp2 (s.m - tmax st c2 s.m) + (∑ r, v r * min ((448 : ℝ) : EReal) (max 0 (tp st c2 (tmax st c2 s.m) r))) * sv = _
    rw [hm1, ha, hnew, ← EReal.coe_add, Finset.sum_range_succ]

/-! ## The quotient -/

/-- The weight `e ^ x`, `0` at `⊥`. -/
def ew (x : EReal) : ℝ := if x = ⊥ then 0 else Real.exp x.toReal

/-- A base-2 weight of a score times `log2 e` is a multiple of its base-e weight. -/
theorem wt_ew (m : ℝ) (x : EReal) (h : Fine x) : wt m (x * ((l2e : ℝ) : EReal)) = ew x * Real.exp (Real.log 2 * (8 - m)) := by
  rcases h with rfl | ⟨y, rfl⟩
  · rw [EReal.bot_mul_coe_of_pos l2e_pos, wt, ew, if_pos rfl, if_pos rfl, zero_mul]
  · rw [← EReal.coe_mul, wt, ew, if_neg (EReal.coe_ne_bot _), if_neg (EReal.coe_ne_bot _), EReal.toReal_coe, EReal.toReal_coe]
    show (2 : ℝ) ^ (y * l2e - m + 8) = Real.exp y * Real.exp (Real.log 2 * (8 - m))
    rw [Real.rpow_def_of_pos (by norm_num), ← Real.exp_add]
    congr 1
    have : Real.log 2 * l2e = 1 := mul_inv_cancel₀ log2_pos.ne'
    linear_combination y * this

/-- The running state's quotient is the plain softmax's. -/
theorem inv_quot (sc : ℕ → Fin 128 → EReal) (u : ℕ → Fin 128 → ℝ) (n : ℕ) (s : Col)
    (hI : Inv (fun j r => sc j r * ((l2e : ℝ) : EReal)) u n s) (hn : 0 < n) (hf : ∀ j r, Fine (sc j r))
    (hpos : 0 < ∑ j ∈ Finset.range n, ∑ r, ew (sc j r)) :
    s.acc * Ideal.div 1 s.l
      = (((∑ j ∈ Finset.range n, ∑ r, ew (sc j r) * u j r) / (∑ j ∈ Finset.range n, ∑ r, ew (sc j r)) : ℝ) : EReal) := by
  rcases hI with ⟨h0, -⟩ | ⟨m, -, hl, ha⟩
  · omega
  set K := Real.exp (Real.log 2 * (8 - m)) with hK
  have hKp : 0 < K := Real.exp_pos _
  have el : ∑ j ∈ Finset.range n, ∑ r, wt m (sc j r * ((l2e : ℝ) : EReal)) = (∑ j ∈ Finset.range n, ∑ r, ew (sc j r)) * K := by
    rw [Finset.sum_mul]
    refine Finset.sum_congr rfl fun j _ => ?_
    rw [Finset.sum_mul]
    exact Finset.sum_congr rfl fun r _ => wt_ew m _ (hf j r)
  have ea : ∑ j ∈ Finset.range n, ∑ r, wt m (sc j r * ((l2e : ℝ) : EReal)) * u j r = (∑ j ∈ Finset.range n, ∑ r, ew (sc j r) * u j r) * K := by
    rw [Finset.sum_mul]
    refine Finset.sum_congr rfl fun j _ => ?_
    rw [Finset.sum_mul]
    refine Finset.sum_congr rfl fun r _ => ?_
    rw [wt_ew m _ (hf j r)]; ring
  rw [hl, ha, el, ea, Ideal.div_coe (mul_pos hpos hKp).ne', one_mul, ← EReal.coe_mul]
  congr 1
  field_simp

/-! ## The reference's softmax of one row -/

/-- Attention's value at one output element from its row of scores and values, as the reference states it. -/
def plain {N : ℕ} (sc u : Fin N → EReal) : EReal :=
  Ideal.div ((∑ k, min ((448 : ℝ) : EReal) (max 0 (Ideal.exp (sc k - Finset.univ.fold max ⊥ sc) * ((256 : ℝ) : EReal))) * u k) * ((1 / 256 : ℝ) : EReal))
    (∑ k, Ideal.exp (sc k - Finset.univ.fold max ⊥ sc))

/-- It is the quotient of the weighted sum by the sum. -/
theorem plain_eq {N : ℕ} (sc u : Fin N → EReal) (uR : Fin N → ℝ) (hu : ∀ k, u k = (uR k : EReal)) (hf : ∀ k, Fine (sc k))
    (k1 : Fin N) (h1 : sc k1 ≠ ⊥) :
    0 < ∑ k, ew (sc k) ∧ plain sc u = (((∑ k, ew (sc k) * uR k) / (∑ k, ew (sc k)) : ℝ) : EReal) := by
  have hew : ∀ k, 0 ≤ ew (sc k) := fun k => by
    unfold ew; split_ifs
    · exact le_rfl
    · exact (Real.exp_pos _).le
  have hpos : 0 < ∑ k, ew (sc k) := by
    refine Finset.sum_pos' (fun k _ => hew k) ⟨k1, Finset.mem_univ _, ?_⟩
    unfold ew; rw [if_neg h1]; exact Real.exp_pos _
  refine ⟨hpos, ?_⟩
  obtain ⟨k0, -, h0⟩ := Finset.exists_max_image Finset.univ sc ⟨k1, Finset.mem_univ _⟩
  have hM : Finset.univ.fold max ⊥ sc = sc k0 :=
    le_antisymm ((Finset.fold_max_le _).mpr ⟨bot_le, fun r hr => h0 r hr⟩) ((Finset.le_fold_max _).mpr (Or.inr ⟨k0, Finset.mem_univ _, le_rfl⟩))
  have hne : sc k0 ≠ ⊥ := fun e => h1 (le_bot_iff.mp (e ▸ h0 k1 (Finset.mem_univ _)))
  obtain ⟨M, hMr⟩ := (hf k0).resolve_left hne
  have he : ∀ k, Ideal.exp (sc k - ((M : ℝ) : EReal)) = ((ew (sc k) * Real.exp (-M) : ℝ) : EReal) := fun k => by
    rcases hf k with e | ⟨y, e⟩
    · rw [e, EReal.bot_sub, Ideal.exp_bot, ew, if_pos rfl, zero_mul]; rfl
    · rw [e, ← EReal.coe_sub, Ideal.exp_coe, ew, if_neg (EReal.coe_ne_bot _), EReal.toReal_coe, ← Real.exp_add]; rfl
  have hle : ∀ k, ew (sc k) * Real.exp (-M) ≤ 1 := fun k => by
    have hk := h0 k (Finset.mem_univ _)
    rcases hf k with e | ⟨y, e⟩
    · rw [e, ew, if_pos rfl, zero_mul]; norm_num
    · rw [e, hMr] at hk
      have : y ≤ M := by exact_mod_cast hk
      rw [e, ew, if_neg (EReal.coe_ne_bot _), EReal.toReal_coe, ← Real.exp_add]
      exact Real.exp_le_one_iff.mpr (by linarith)
  have hclip : ∀ k, min ((448 : ℝ) : EReal) (max 0 (((ew (sc k) * Real.exp (-M) : ℝ) : EReal) * ((256 : ℝ) : EReal))) * u k
      = ((ew (sc k) * Real.exp (-M) * 256 * uR k : ℝ) : EReal) := fun k => by
    have p0 : 0 ≤ ew (sc k) * Real.exp (-M) := mul_nonneg (hew k) (Real.exp_pos _).le
    rw [← EReal.coe_mul, max_eq_right (by exact_mod_cast (by positivity)), min_eq_right (by exact_mod_cast (by linarith [hle k])), hu, ← EReal.coe_mul]
  unfold plain
  rw [hM, hMr]
  simp only [he, hclip]
  rw [← coe_sum, ← coe_sum, ← EReal.coe_mul, ← Finset.sum_mul, Ideal.div_coe (mul_pos hpos (Real.exp_pos _)).ne', ← EReal.coe_mul]
  congr 1
  have ea : ∑ k, ew (sc k) * Real.exp (-M) * 256 * uR k = (∑ k, ew (sc k) * uR k) * (Real.exp (-M) * 256) := by
    rw [Finset.sum_mul]; exact Finset.sum_congr rfl fun k _ => by ring
  rw [ea]
  have := Real.exp_pos (-M)
  field_simp

/-! ## Keys by tile -/

/-- A sum over `128 n` keys, tile by tile. -/
theorem sum_tiles (f : ℕ → ℝ) (n : ℕ) : ∑ k ∈ Finset.range (128 * n), f k = ∑ j ∈ Finset.range n, ∑ r : Fin 128, f (128 * j + r.val) := by
  induction n with
  | zero => simp
  | succ n ih => rw [Nat.mul_succ, Finset.sum_range_add, ih, Finset.sum_range_succ (n := n), Finset.sum_range (n := 128)]

/-- A sum over the keys whose terms vanish past tile `n`. -/
theorem sum_keys (f : ℕ → ℝ) (n : ℕ) (hn : 128 * n ≤ 4096) (h0 : ∀ k, 128 * n ≤ k → f k = 0) :
    ∑ k : Fin 4096, f k.val = ∑ j ∈ Finset.range n, ∑ r : Fin 128, f (128 * j + r.val) := by
  rw [← sum_tiles, Finset.sum_range f |>.symm]
  refine (Finset.sum_subset (Finset.range_mono hn) fun k _ hk => h0 k ?_).symm
  rw [Finset.mem_range] at hk; omega

end Cert.Proof.Value

end
-- ==== Proof.Value.RefY.lean ====
/-
  The reference's attention, read at an index.
-/
module

public import proofs.«01_k».proof.Proof.Value.RefQ
public import proofs.«01_k».proof.Proof.Value.Online

@[expose] public section

set_option maxRecDepth 16384

noncomputable section

namespace Cert.Proof.Value

open Cert.ReferenceIdeal Cert.ReferenceIdeal.Gen Cert.ReferenceIdeal.Read Idealize.ShloMosaic Idealize.SL.Sem

/-- Comparing two small numbers as 32-bit words. -/
theorem sgt_nat (a b : ℕ) (ha : a < 4096) (hb : b < 4096) :
    IntOp.cmpi CmpIPredicate.sgt (BitVec.ofNat 32 a) (BitVec.ofNat 32 b) = BitVec.ofBool (decide (b < a)) := by
  have hx : (BitVec.ofNat 32 a).toInt = a := by
    rw [BitVec.toInt_eq_toNat_of_lt] <;> simp only [BitVec.toNat_ofNat] <;> omega
  have hy : (BitVec.ofNat 32 b).toInt = b := by
    rw [BitVec.toInt_eq_toNat_of_lt] <;> simp only [BitVec.toNat_ofNat] <;> omega
  have e : IntOp.cmpi CmpIPredicate.sgt (BitVec.ofNat 32 a) (BitVec.ofNat 32 b) = BitVec.ofBool ((BitVec.ofNat 32 b).slt (BitVec.ofNat 32 a)) := rfl
  rw [e, BitVec.slt, hx, hy]
  simp only [Int.ofNat_lt]

theorem select_bool (p : Prop) [Decidable p] (a b : EReal) : Scalar.select (BitVec.ofBool (decide p)) a b = if p then a else b := by
  by_cases h : p <;> simp [Scalar.select, h]

/-- A query row's scale with the softmax factor, as the reference lays it out. -/
theorem qscale_apply (x : XQ) (b : Fin 4) (i : Fin 32) (r : Fin 128) (h : Fin 64) :
    val_main_v75 (F := Ideal) x (ix3 b ⟨i.val * 128 + r.val, by omega⟩ h) = sc (amax (tileQ x b i h)) * ((smR : ℝ) : EReal) := by
  have e : val_main_v75 (F := Ideal) x (ix3 b ⟨i.val * 128 + r.val, by omega⟩ h) = val_main_v73 (F := Ideal) x (ix3 b i h) := by
    unfold val_main_v75 val_main_v74
    generalize val_main_v73 (F := Ideal) x = y
    pointwise
  rw [e, val_main_v73_apply, val_main_v72_apply, val_main_cst_23_apply, scaleQ, ← bits_sm]
  rfl

/-- A key row's scale, as the reference lays it out. -/
theorem kscale_apply (x : XK) (b : Fin 4) (i : Fin 32) (r : Fin 128) (h : Fin 16) :
    val_main_v78 (F := Ideal) x (ix3 b ⟨i.val * 128 + r.val, by omega⟩ h) = sc (amax (tileK x b i h)) := by
  have e : val_main_v78 (F := Ideal) x (ix3 b ⟨i.val * 128 + r.val, by omega⟩ h) = val_main_v47 (F := Ideal) x (ix3 b i h) := by
    unfold val_main_v78 val_main_v77
    generalize val_main_v47 (F := Ideal) x = y
    pointwise
  rw [e, scaleK]

/-- The scores before the mask. -/
def rawR (x0 : XQ) (x1 : XK) (b : Fin 4) (h : Fin 16) (g : Fin 4) (q k : Fin 4096) : EReal :=
  (∑ e : Fin 128, val_main_v46 (F := Ideal) x1 (ix4 b k h e) * val_main_v22 (F := Ideal) x0 (ix4 b q ⟨h.val * 4 + g.val, by omega⟩ e))
    * (val_main_v75 (F := Ideal) x0 (ix3 b q ⟨h.val * 4 + g.val, by omega⟩) * val_main_v78 (F := Ideal) x1 (ix3 b k h))

/-- The masked scores. -/
def scoreR (x0 : XQ) (x1 : XK) (b : Fin 4) (h : Fin 16) (g : Fin 4) (q k : Fin 4096) : EReal :=
  if q.val < k.val then ⊥ else rawR x0 x1 b h g q k

/-- The values. -/
def valueR (x2 : XK) (b : Fin 4) (h : Fin 16) (d : Fin 128) (k : Fin 4096) : EReal :=
  val_main_v46 (F := Ideal) x2 (ix4 b k h d) * val_main_v78 (F := Ideal) x2 (ix3 b k h)

theorem raw_apply (x0 : XQ) (x1 : XK) (b : Fin 4) (h : Fin 16) (g : Fin 4) (q k : Fin 4096) :
    val_main_v91 (F := Ideal) x0 x1 (ix5 b h g q k) = rawR x0 x1 b h g q k := by
  have e1 : val_main_v83 (F := Ideal) x0 x1 (ix5 b h g q k) = val_main_v82 (F := Ideal) x0 x1 (ix5 b h k q g) := by
    unfold val_main_v83
    generalize val_main_v82 (F := Ideal) x0 x1 = y
    pointwise
  have e2 : ∀ e, val_main_v81 (F := Ideal) x0 (ix5 b q h g e) = val_main_v22 (F := Ideal) x0 (ix4 b q ⟨h.val * 4 + g.val, by omega⟩ e) := fun e => by
    unfold val_main_v81
    generalize val_main_v22 (F := Ideal) x0 = y
    pointwise
  have e3 : val_main_v88 (F := Ideal) x0 (ix5 b h g q k) = val_main_v75 (F := Ideal) x0 (ix3 b q ⟨h.val * 4 + g.val, by omega⟩) := by
    unfold val_main_v88 val_main_v85 val_main_v84 val_main_v76
    generalize val_main_v75 (F := Ideal) x0 = y
    pointwise
  have e4 : val_main_v89 (F := Ideal) x1 (ix5 b h g q k) = val_main_v78 (F := Ideal) x1 (ix3 b k h) := by
    unfold val_main_v89 val_main_v87 val_main_v86
    generalize val_main_v78 (F := Ideal) x1 = y
    pointwise
  have e5 : val_main_v82 (F := Ideal) x0 x1 (ix5 b h k q g) = ∑ e : Fin 128, val_main_v46 (F := Ideal) x1 (ix4 b k h e) * val_main_v22 (F := Ideal) x0 (ix4 b q ⟨h.val * 4 + g.val, by omega⟩ e) := by
    rw [val_main_v82_apply]
    refine Finset.sum_congr rfl fun e _ => ?_
    rw [← e2 e]
    generalize val_main_v46 (F := Ideal) x1 = y0
    generalize val_main_v81 (F := Ideal) x0 = y1
    exact congrArg₂ (fun a b : EReal => a * b) (congrArg y0 (funext fun a => match a with | ⟨0, _⟩ => rfl | ⟨1, _⟩ => rfl | ⟨2, _⟩ => rfl | ⟨3, _⟩ => rfl)) (congrArg y1 (funext fun a => match a with | ⟨0, _⟩ => rfl | ⟨1, _⟩ => rfl | ⟨2, _⟩ => rfl | ⟨3, _⟩ => rfl | ⟨4, _⟩ => rfl))
  rw [val_main_v91_apply, val_main_v90_apply, e1, e3, e4, e5]
  rfl

theorem score_apply (x0 : XQ) (x1 : XK) (b : Fin 4) (h : Fin 16) (g : Fin 4) (q k : Fin 4096) :
    val_main_v99 (F := Ideal) x0 x1 (ix5 b h g q k) = scoreR x0 x1 b h g q k := by
  have e1 : val_main_call6_v1 (F := Ideal) (ix5 b h g q k) = BitVec.ofBool (decide (q.val < k.val)) := by
    rw [← sgt_nat k.val q.val k.isLt q.isLt]
    unfold val_main_call6_v1 val_main_v98 val_main_v97 val_main_v96 val_main_v95 val_main_v94 val_main_v93 val_main_v92
    pointwise
  rw [val_main_v99_apply, raw_apply, e1, select_bool, val_main_call6_v2_apply, val_main_call6_v0_apply, val_main_cst_24_apply, Ideal.ofBits_def, bits_bot]
  rfl

theorem max_apply (x0 : XQ) (x1 : XK) (b : Fin 4) (h : Fin 16) (g : Fin 4) (q : Fin 4096) :
    val_main_v100 (F := Ideal) x0 x1 (ix4 b h g q) = Finset.univ.fold max ⊥ (scoreR x0 x1 b h g q) := by
  have e : ∀ k, val_main_v99 (F := Ideal) x0 x1 (ix5 b h g q k) = scoreR x0 x1 b h g q k := score_apply x0 x1 b h g q
  unfold val_main_v100
  generalize val_main_v99 (F := Ideal) x0 x1 = y at e ⊢
  pointwise
  rw [val_main_cst_25_apply, Ideal.ofBits_def, bits_bot]
  exact congrArg (fun f => Finset.univ.fold max ⊥ f) (funext e)

theorem exp_apply (x0 : XQ) (x1 : XK) (b : Fin 4) (h : Fin 16) (g : Fin 4) (q k : Fin 4096) :
    val_main_v104 (F := Ideal) x0 x1 (ix5 b h g q k)
      = Ideal.exp (scoreR x0 x1 b h g q k - Finset.univ.fold max ⊥ (scoreR x0 x1 b h g q)) := by
  have e1 : val_main_v102 (F := Ideal) x0 x1 (ix5 b h g q k) = val_main_v100 (F := Ideal) x0 x1 (ix4 b h g q) := by
    unfold val_main_v102 val_main_v101
    generalize val_main_v100 (F := Ideal) x0 x1 = y
    pointwise
  rw [val_main_v104_apply, val_main_v103_apply, e1, max_apply, score_apply, Ideal.hostUnary_exp_def, Ideal.subf_def]

theorem sum_apply (x0 : XQ) (x1 : XK) (b : Fin 4) (h : Fin 16) (g : Fin 4) (q : Fin 4096) :
    val_main_v105 (F := Ideal) x0 x1 (ix4 b h g q)
      = ∑ k, Ideal.exp (scoreR x0 x1 b h g q k - Finset.univ.fold max ⊥ (scoreR x0 x1 b h g q)) := by
  rw [val_main_v105_apply, val_main_cst_26_apply, Ideal.ofBits_def, Ideal.ofBits_zero_f32, zero_add]
  refine Finset.sum_congr rfl fun k _ => ?_
  rw [← exp_apply]
  exact congrArg (val_main_v104 (F := Ideal) x0 x1) (funext fun a => match a with | ⟨0, _⟩ => rfl | ⟨1, _⟩ => rfl | ⟨2, _⟩ => rfl | ⟨3, _⟩ => rfl | ⟨4, _⟩ => rfl)

theorem weight_apply (x0 : XQ) (x1 : XK) (b : Fin 4) (h : Fin 16) (g : Fin 4) (q k : Fin 4096) :
    val_main_v109 (F := Ideal) x0 x1 (ix5 b h g q k)
      = min ((448 : ℝ) : EReal) (max 0 (Ideal.exp (scoreR x0 x1 b h g q k - Finset.univ.fold max ⊥ (scoreR x0 x1 b h g q)) * ((256 : ℝ) : EReal))) := by
  rw [val_main_v109_apply, val_main_call7_v4_apply, val_main_call7_v3_apply, val_main_call7_v2_apply, val_main_call7_v1_apply, val_main_call7_v0_apply, val_main_v108_apply, val_main_v107_apply, exp_apply,
    val_main_cst_27_apply, val_main_cst_28_apply, val_main_cst_29_apply, Ideal.ofBits_def, Ideal.ofBits_def, Ideal.ofBits_def, Ideal.ofBits_zero_f32, bits_448, bits_256, Ideal.mulf_def, Ideal.maximumf_def, Ideal.minimumf_def]

theorem value_apply (x2 : XK) (b : Fin 4) (h : Fin 16) (d : Fin 128) (k : Fin 4096) :
    val_main_v112 (F := Ideal) x2 (ix4 b k h d) = valueR x2 b h d k := by
  have e : val_main_v111 (F := Ideal) x2 (ix4 b k h d) = val_main_v80 (F := Ideal) x2 (ix3 b k h) := by
    unfold val_main_v111 val_main_v110
    generalize val_main_v80 (F := Ideal) x2 = y
    pointwise
  have e' : val_main_v80 (F := Ideal) x2 = val_main_v78 (F := Ideal) x2 := by
    unfold val_main_v80 val_main_v78 val_main_v79 val_main_v77
    rw [scV_eq]
  rw [val_main_v112_apply, e, e', codV_eq, Ideal.mulf_def]
  rfl

/-- The reference's attention output: the softmax written whole. -/
theorem att_apply (x0 : XQ) (x1 x2 : XK) (b : Fin 4) (h : Fin 16) (g : Fin 4) (q : Fin 4096) (d : Fin 128) :
    val_main_v117 (F := Ideal) x0 x1 x2 (ix5 b h g q d) = plain (scoreR x0 x1 b h g q) (valueR x2 b h d) := by
  have e1 : val_main_v116 (F := Ideal) x0 x1 (ix5 b h g q d) = val_main_v105 (F := Ideal) x0 x1 (ix4 b h g q) := by
    unfold val_main_v116 val_main_v106
    generalize val_main_v105 (F := Ideal) x0 x1 = y
    pointwise
  have e2 : val_main_v113 (F := Ideal) x0 x1 x2 (ix5 b h g q d) = ∑ k : Fin 4096, val_main_v109 (F := Ideal) x0 x1 (ix5 b h g q k) * val_main_v112 (F := Ideal) x2 (ix4 b k h d) := by
    rw [val_main_v113_apply]
    refine Finset.sum_congr rfl fun e _ => ?_
    generalize val_main_v109 (F := Ideal) x0 x1 = y0
    generalize val_main_v112 (F := Ideal) x2 = y1
    exact congrArg₂ (fun a b : EReal => a * b) (congrArg y0 (funext fun a => match a with | ⟨0, _⟩ => rfl | ⟨1, _⟩ => rfl | ⟨2, _⟩ => rfl | ⟨3, _⟩ => rfl | ⟨4, _⟩ => rfl)) (congrArg y1 (funext fun a => match a with | ⟨0, _⟩ => rfl | ⟨1, _⟩ => rfl | ⟨2, _⟩ => rfl | ⟨3, _⟩ => rfl))
  simp only [weight_apply, value_apply] at e2
  rw [val_main_v117_apply, val_main_v115_apply, e1, e2, sum_apply, val_main_v114_apply, val_main_cst_30_apply, Ideal.ofBits_def, bits_inv256, Ideal.mulf_def, Ideal.hostDivf_def]
  rfl

/-! ## The results -/

theorem res0 (x0 : XQ) (x1 x2 : XK) (b : Fin 4) (q : Fin 4096) (h : Fin 16) (g : Fin 4) (d : Fin 128) :
    val_main_v120 (F := Ideal) x0 x1 x2 (ix3 b q ⟨(h.val * 4 + g.val) * 128 + d.val, by omega⟩) = plain (scoreR x0 x1 b h g q) (valueR x2 b h d) := by
  rw [← att_apply]
  unfold val_main_v120 val_main_v119 val_main_v118
  generalize val_main_v117 (F := Ideal) x0 x1 x2 = y
  pointwise

theorem res1 (x0 : XQ) (b : Fin 4) (i : Fin 32) (r : Fin 128) (h : Fin 64) (d : Fin 128) :
    val_main_v122 (F := Ideal) x0 (ix3 b ⟨i.val * 128 + r.val, by omega⟩ ⟨h.val * 128 + d.val, by omega⟩) = code (amax (tileQ x0 b i h)) (tileQ x0 b i h (ix3 0 r d)) := by
  rw [← codeQ]
  unfold val_main_v122 val_main_v121
  generalize val_main_v22 (F := Ideal) x0 = y
  pointwise

theorem res2 (x0 : XQ) (b : Fin 4) (h : Fin 16) (g : Fin 4) (i : Fin 32) (j : Fin 128) :
    val_main_v126 (F := Ideal) x0 (ix5 b h g i j) = sc (amax (tileQ x0 b i ⟨h.val * 4 + g.val, by omega⟩)) := by
  rw [← scaleQ]
  unfold val_main_v126 val_main_v125 val_main_v124 val_main_v123
  generalize val_main_v23 (F := Ideal) x0 = y
  pointwise

theorem res3 (x1 : XK) (b : Fin 4) (i : Fin 32) (r : Fin 128) (h : Fin 16) (d : Fin 128) :
    val_main_v128 (F := Ideal) x1 (ix3 b ⟨i.val * 128 + r.val, by omega⟩ ⟨h.val * 128 + d.val, by omega⟩) = code (amax (tileK x1 b i h)) (tileK x1 b i h (ix3 0 r d)) := by
  rw [← codeK]
  unfold val_main_v128 val_main_v127
  generalize val_main_v46 (F := Ideal) x1 = y
  pointwise

theorem res4 (x1 : XK) (b : Fin 4) (h : Fin 16) (i : Fin 32) (j : Fin 128) :
    val_main_v131 (F := Ideal) x1 (ix4 b h i j) = sc (amax (tileK x1 b i h)) := by
  rw [← scaleK]
  unfold val_main_v131 val_main_v130 val_main_v129
  generalize val_main_v47 (F := Ideal) x1 = y
  pointwise

theorem res5_eq (x2 : XK) : val_main_v133 (F := Ideal) x2 = val_main_v128 (F := Ideal) x2 := by
  unfold val_main_v133 val_main_v132 val_main_v128 val_main_v127
  rw [codV_eq]

theorem res6_eq (x2 : XK) : val_main_v136 (F := Ideal) x2 = val_main_v131 (F := Ideal) x2 := by
  unfold val_main_v136 val_main_v135 val_main_v134 val_main_v131 val_main_v130 val_main_v129
  rw [scV_eq]

end Cert.Proof.Value

end
-- ==== Proof.Value.Step.lean ====
/-
  One key tile of the kernel's running softmax, read at one column: the step on extended reals.
-/
module

public import proofs.«01_k».proof.Proof.Value.Concat
public import proofs.«01_k».proof.Proof.Value.Online

@[expose] public section

set_option maxRecDepth 16384

noncomputable section

namespace Cert.Proof.Value

open Cert.KernelIdeal Cert.KernelIdeal.Gen Idealize.ShloMosaic Idealize.SL.Sem
open Cert.Proof.Ideal

/-- The column `col`, row `d`, of a running state. -/
def colOf (s : St Ideal) (d : Fin 128) (col : Fin 512) : Col := ⟨s.acc (ix2 d col), s.m (ix2 0 col), s.l (ix2 0 col)⟩

/-- The named constant is `log2 e`. -/
theorem named_log2e : Named.named (F := Ideal) (φ := .f32) κ "log2e" 0x3FB8AA3B#32 = ((l2e : ℝ) : EReal) :=
  IdealRules.named_const.ideal_named_scalar _ _ _ _ rfl

/-- The raw scores of a tile. -/
theorem pay22_apply (K : FVec Ideal S1x128x128 .fp8e4m3) (q : FVec Ideal S128x512 .fp8e4m3) (r : Fin 128) (col : Fin 512) :
    k0_pay22 (F := Ideal) K q (ix2 r col) = ∑ e : Fin 128, K (ix3 0 r e) * q (ix2 e col) := by
  unfold k0_pay22
  pointwise

/-- The factor a tile's raw scores are multiplied by. -/
theorem pay24_apply (c : FVec Ideal S1x512 .f32) (kS : FVec Ideal S1x1x1x128 .f32) (sK : EReal) (hK : ∀ j, kS j = sK) (col : Fin 512) :
    k0_pay24 (F := Ideal) c kS (ix2 0 col) = c (ix2 0 col) * sK * ((l2e : ℝ) : EReal) := by
  unfold k0_pay24
  pointwise
  rw [named_log2e]
  simp only [hK]
  split_ifs <;> rfl

/-- A row of v scales, four times. -/
theorem pay23_apply (vS : FVec Ideal S1x1x1x128 .f32) (sV : EReal) (hV : ∀ j, vS j = sV) (col : Fin 512) :
    k0_pay23 (F := Ideal) vS (ix2 0 col) = sV := by
  unfold k0_pay23
  pointwise
  simp only [hV]
  split_ifs <;> rfl

/-- The new maximum. -/
theorem pay25_apply (c : FVec Ideal S1x512 .f32) (K : FVec Ideal S1x128x128 .fp8e4m3) (q : FVec Ideal S128x512 .fp8e4m3)
    (kS : FVec Ideal S1x1x1x128 .f32) (m : FVec Ideal S1x512 .f32) (col : Fin 512) :
    k0_pay25 (F := Ideal) c K q kS m (ix2 0 col)
      = tmax (fun r => k0_pay22 (F := Ideal) K q (ix2 r col)) (k0_pay24 (F := Ideal) c kS (ix2 0 col)) (m (ix2 0 col)) := by
  unfold k0_pay25 tmax
  pointwise
  rw [bits_bot]

/-- The weights of a tile. -/
theorem pay27_apply (c : FVec Ideal S1x512 .f32) (K : FVec Ideal S1x128x128 .fp8e4m3) (q : FVec Ideal S128x512 .fp8e4m3)
    (kS : FVec Ideal S1x1x1x128 .f32) (m : FVec Ideal S1x512 .f32) (r : Fin 128) (col : Fin 512) :
    k0_pay27 (F := Ideal) c K q kS m (ix2 r col)
      = tp (fun r => k0_pay22 (F := Ideal) K q (ix2 r col)) (k0_pay24 (F := Ideal) c kS (ix2 0 col)) (k0_pay25 (F := Ideal) c K q kS m (ix2 0 col)) r := by
  unfold k0_pay27 tp
  pointwise
  rw [bits_m8]
  rfl

/-- The new sum. -/
theorem pay28_apply (c : FVec Ideal S1x512 .f32) (K : FVec Ideal S1x128x128 .fp8e4m3) (q : FVec Ideal S128x512 .fp8e4m3)
    (kS : FVec Ideal S1x1x1x128 .f32) (m l : FVec Ideal S1x512 .f32) (col : Fin 512) :
    k0_pay28 (F := Ideal) c K q kS m l (ix2 0 col)
      = l (ix2 0 col) * Ideal.exp2 (m (ix2 0 col) - k0_pay25 (F := Ideal) c K q kS m (ix2 0 col)) + ∑ r, k0_pay27 (F := Ideal) c K q kS m (ix2 r col) := by
  unfold k0_pay28 k0_pay26
  pointwise
  rfl

/-- The new accumulator. -/
theorem pay82_apply (sv a : FVec Ideal S1x512 .f32) (p : FVec Ideal S128x512 .f32) (V : FVec Ideal S1x128x128 .fp8e4m3) (acc : FVec Ideal S128x512 .f32)
    (d : Fin 128) (col : Fin 512) :
    k0_pay82 (F := Ideal) sv a p V acc (ix2 d col)
      = acc (ix2 d col) * a (ix2 0 col)
        + (∑ r : Fin 128, V (ix3 0 d r) * min ((448 : ℝ) : EReal) (max 0 (p (ix2 r col)))) * sv (ix2 0 col) := by
  unfold k0_pay82
  pointwise
  rw [bits_448]

/-- A tile below the diagonal, at a column. -/
theorem stepU_col (c : FVec Ideal S1x512 .f32) (q : FVec Ideal S128x512 .fp8e4m3) (K : FVec Ideal S1x128x128 .fp8e4m3)
    (kS : FVec Ideal S1x1x1x128 .f32) (V : FVec Ideal S1x128x128 .fp8e4m3) (vS : FVec Ideal S1x1x1x128 .f32) (s : St Ideal)
    (sK sV : EReal) (hK : ∀ j, kS j = sK) (hV : ∀ j, vS j = sV) (d : Fin 128) (col : Fin 512) :
    colOf (stepU c q K kS V vS s) d col
      = tstep (fun r => ∑ e : Fin 128, K (ix3 0 r e) * q (ix2 e col)) (c (ix2 0 col) * sK * ((l2e : ℝ) : EReal)) sV
          (fun r => V (ix3 0 d r)) (colOf s d col) := by
  have hst : (fun r => ∑ e : Fin 128, K (ix3 0 r e) * q (ix2 e col)) = fun r => k0_pay22 (F := Ideal) K q (ix2 r col) :=
    funext fun r => (pay22_apply K q r col).symm
  rw [hst, ← pay24_apply c kS sK hK col]
  unfold tstep colOf stepU
  simp only [← pay25_apply, ← pay27_apply]
  refine Col.mk.injEq .. |>.mpr ⟨?_, ?_, ?_⟩
  · rw [pay82_apply, pay23_apply vS sV hV]; rfl
  · unfold k0_pay83; pointwise
  · rw [← pay28_apply]; unfold k0_pay81; pointwise

/-! ## The diagonal tile -/

/-- The column index modulo 128, as the kernel computes it. -/
theorem col_mod : ∀ col : Fin 512, (Scalar.select
        (IntOp.andi
          (IntOp.xori
            (IntOp.cmpi CmpIPredicate.slt
              (IntOp.remsi ArithUnit.vector (BitVec.ofNat 32 col.val)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 col.val)
              (Scalar.select (Scalar.cmpi CmpIPredicate.eq 128#32 0#32) 1#32 128#32))
            0#32))
        (IntOp.addi
          (IntOp.remsi ArithUnit.vector (BitVec.ofNat 32 col.val)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 col.val)
          (Scalar.select (Scalar.cmpi CmpIPredicate.eq 128#32 0#32) 1#32 128#32))) = BitVec.ofNat 32 (col.val % 128) := by
  decide +kernel

/-- A signed comparison of two small words. -/
theorem sgt_small : ∀ a b : Fin 128, IntOp.cmpi CmpIPredicate.sgt (BitVec.ofNat 32 a.val) (BitVec.ofNat 32 b.val)
    = BitVec.ofBool (decide (b.val < a.val)) := by
  decide +kernel

/-- The causal mask of the diagonal tile. -/
theorem pay6_apply (r : Fin 128) (col : Fin 512) :
    k0_pay6 (ix2 r col) = BitVec.ofBool (decide (col.val % 128 < r.val)) := by
  unfold k0_pay6
  pointwise
  rw [col_mod]
  exact sgt_small r ⟨col.val % 128, Nat.mod_lt _ (by decide)⟩

/-- The raw scores of the diagonal tile: `⊥` above the diagonal. -/
theorem pay88_apply (K : FVec Ideal S1x128x128 .fp8e4m3) (q : FVec Ideal S128x512 .fp8e4m3) (r : Fin 128) (col : Fin 512) :
    k0_pay88 (F := Ideal) k0_pay6 (k0_pay87 (F := Ideal) K) q (ix2 r col)
      = if col.val % 128 < r.val then ⊥ else ∑ e : Fin 128, K (ix3 0 r e) * q (ix2 e col) := by
  have h := pay6_apply r col
  unfold k0_pay88 k0_pay87
  generalize k0_pay6 = M at h
  pointwise
  rw [h, bits_bot]
  by_cases hh : col.val % 128 < r.val <;> simp [hh, Scalar.select]

/-- The new maximum. -/
theorem pay91_apply (c : FVec Ideal S1x512 .f32) (M : IVec S128x512 1) (K : FVec Ideal S128x128 .fp8e4m3) (q : FVec Ideal S128x512 .fp8e4m3)
    (kS : FVec Ideal S1x1x1x128 .f32) (m : FVec Ideal S1x512 .f32) (col : Fin 512) :
    k0_pay91 (F := Ideal) M c K q kS m (ix2 0 col)
      = tmax (fun r => k0_pay88 (F := Ideal) M K q (ix2 r col)) (k0_pay24 (F := Ideal) c kS (ix2 0 col)) (m (ix2 0 col)) := by
  have e : k0_pay90 (F := Ideal) c kS = k0_pay24 (F := Ideal) c kS := rfl
  unfold k0_pay91 tmax
  pointwise
  rw [bits_bot, e]

/-- The weights of a tile. -/
theorem pay93_apply (c : FVec Ideal S1x512 .f32) (M : IVec S128x512 1) (K : FVec Ideal S128x128 .fp8e4m3) (q : FVec Ideal S128x512 .fp8e4m3)
    (kS : FVec Ideal S1x1x1x128 .f32) (m : FVec Ideal S1x512 .f32) (r : Fin 128) (col : Fin 512) :
    k0_pay93 (F := Ideal) M c K q kS m (ix2 r col)
      = tp (fun r => k0_pay88 (F := Ideal) M K q (ix2 r col)) (k0_pay24 (F := Ideal) c kS (ix2 0 col)) (k0_pay91 (F := Ideal) M c K q kS m (ix2 0 col)) r := by
  have e : k0_pay90 (F := Ideal) c kS = k0_pay24 (F := Ideal) c kS := rfl
  unfold k0_pay93 tp
  pointwise
  rw [bits_m8, e]
  rfl

/-- The new sum. -/
theorem pay94_apply (c : FVec Ideal S1x512 .f32) (M : IVec S128x512 1) (K : FVec Ideal S128x128 .fp8e4m3) (q : FVec Ideal S128x512 .fp8e4m3)
    (kS : FVec Ideal S1x1x1x128 .f32) (m l : FVec Ideal S1x512 .f32) (col : Fin 512) :
    k0_pay94 (F := Ideal) M c K q kS m l (ix2 0 col)
      = l (ix2 0 col) * Ideal.exp2 (m (ix2 0 col) - k0_pay91 (F := Ideal) M c K q kS m (ix2 0 col)) + ∑ r, k0_pay93 (F := Ideal) M c K q kS m (ix2 r col) := by
  unfold k0_pay94 k0_pay92
  pointwise
  rfl

/-- The new accumulator. -/
theorem pay96_apply (sv a : FVec Ideal S1x512 .f32) (p : FVec Ideal S128x512 .f32) (V : FVec Ideal S1x128x128 .fp8e4m3) (acc : FVec Ideal S128x512 .f32)
    (d : Fin 128) (col : Fin 512) :
    k0_pay96 (F := Ideal) sv a p (Scalar.ofBits .f32 0x43E00000#32) k0_pay95 V acc (ix2 d col)
      = acc (ix2 d col) * a (ix2 0 col)
        + (∑ r : Fin 128, V (ix3 0 d r) * min ((448 : ℝ) : EReal) (max 0 (p (ix2 r col)))) * sv (ix2 0 col) := by
  unfold k0_pay96 k0_pay95
  pointwise
  rw [bits_448]

/-- The diagonal tile, at a column. -/
theorem stepD_col (c : FVec Ideal S1x512 .f32) (q : FVec Ideal S128x512 .fp8e4m3) (K : FVec Ideal S1x128x128 .fp8e4m3)
    (kS : FVec Ideal S1x1x1x128 .f32) (V : FVec Ideal S1x128x128 .fp8e4m3) (vS : FVec Ideal S1x1x1x128 .f32) (s : St Ideal)
    (sK sV : EReal) (hK : ∀ j, kS j = sK) (hV : ∀ j, vS j = sV) (d : Fin 128) (col : Fin 512) :
    colOf (stepD c q K kS V vS s) d col
      = tstep (fun r => if col.val % 128 < r.val then ⊥ else ∑ e : Fin 128, K (ix3 0 r e) * q (ix2 e col)) (c (ix2 0 col) * sK * ((l2e : ℝ) : EReal)) sV
          (fun r => V (ix3 0 d r)) (colOf s d col) := by
  have hst : (fun r : Fin 128 => if col.val % 128 < r.val then ⊥ else ∑ e : Fin 128, K (ix3 0 r e) * q (ix2 e col))
      = fun r => k0_pay88 (F := Ideal) k0_pay6 (k0_pay87 (F := Ideal) K) q (ix2 r col) :=
    funext fun r => (pay88_apply K q r col).symm
  rw [hst, ← pay24_apply c kS sK hK col]
  have e : k0_pay89 (F := Ideal) vS = k0_pay23 (F := Ideal) vS := rfl
  unfold tstep colOf stepD
  simp only [← pay91_apply, ← pay93_apply]
  refine Col.mk.injEq .. |>.mpr ⟨?_, ?_, ?_⟩
  · rw [pay96_apply, e, pay23_apply vS sV hV]; rfl
  · unfold k0_pay97; pointwise
  · rw [← pay94_apply]

/-- The state before any tile, at a column. -/
theorem st0_col (d : Fin 128) (col : Fin 512) : colOf (st0 (F := Ideal)) d col = ⟨0, ⊥, 0⟩ := by
  unfold colOf st0 k0_pay80 k0_pay78 k0_pay79
  refine Col.mk.injEq .. |>.mpr ⟨?_, ?_, ?_⟩
  · pointwise
  · pointwise; exact bits_bot
  · pointwise

/-- The output tile: the accumulator over the sum, transposed. -/
theorem yOf_apply (s : St Ideal) (g : Fin 4) (r d : Fin 128) :
    yOf (F := Ideal) s g (ix3 0 r d)
      = (colOf s d ⟨128 * g.val + r.val, by omega⟩).acc * Ideal.div 1 (colOf s d ⟨128 * g.val + r.val, by omega⟩).l := by
  match g with
  | 0 => unfold yOf colOf k0_pay99 k0_pay98; pointwise
  | 1 => unfold yOf colOf k0_pay7 k0_pay100 k0_pay98; pointwise
  | 2 => unfold yOf colOf k0_pay8 k0_pay98; pointwise
  | 3 => unfold yOf colOf k0_pay9 k0_pay98; pointwise

end Cert.Proof.Value

end
-- ==== Proof.Value.Att.lean ====
/-
  The kernel's running softmax over the key tiles is the softmax written whole.
-/
module

public import proofs.«01_k».proof.Proof.Value.RefY
public import proofs.«01_k».proof.Proof.Value.Step

@[expose] public section

set_option maxRecDepth 16384

noncomputable section

namespace Cert.Proof.Value

open Cert.ReferenceIdeal Cert.ReferenceIdeal.Gen Cert.ReferenceIdeal.Read Idealize.ShloMosaic Idealize.SL.Sem
open Cert.Proof.Ideal (tQ tK kc ks vc vt vs qc qt qs qrow qtAll colIn St st0 stepU stepD iter fin yOf)

/-! ## The codes of two tiles -/

/-- The product of a row of k codes and a row of q codes. -/
def dotc (aK aQ : EReal) (K Q : Fin 128 → EReal) : EReal := ∑ e, code aK (K e) * code aQ (Q e)

/-- It is a real. -/
theorem dotc_real (aK aQ : EReal) (K Q : Fin 128 → EReal) : ∃ x : ℝ, dotc aK aQ K Q = (x : EReal) := by
  choose f hf using fun e => code_real aK (K e)
  choose f' hf' using fun e => code_real aQ (Q e)
  refine ⟨∑ e, f e * f' e, ?_⟩
  rw [coe_sum]
  exact Finset.sum_congr rfl fun e _ => by rw [hf, hf', EReal.coe_mul]

/-- A scale is a positive real or `⊤`. -/
theorem sc_cases (a : EReal) (ha : 0 ≤ a) : (∃ y : ℝ, 0 < y ∧ sc a = (y : EReal)) ∨ sc a = ⊤ := by
  have h := sc_pos a ha
  generalize sc a = s at h
  induction s using EReal.rec with
  | bot => exact absurd h (by simp)
  | coe y => exact Or.inl ⟨y, by exact_mod_cast h, rfl⟩
  | top => exact Or.inr rfl

/-- A tile whose scale is `⊤` has the codes 0. -/
theorem dotc_zero (aK aQ : EReal) (K Q : Fin 128 → EReal) (h : sc aK = ⊤ ∨ sc aQ = ⊤) : dotc aK aQ K Q = 0 := by
  refine Finset.sum_eq_zero fun e _ => ?_
  rcases h with h | h
  · rw [code_zero_of_sc_top aK h, zero_mul]
  · rw [code_zero_of_sc_top aQ h, mul_zero]

/-- A scaled score is a real. -/
theorem scaled_real (aK aQ : EReal) (hK : 0 ≤ aK) (hQ : 0 ≤ aQ) (K Q : Fin 128 → EReal) :
    ∃ y : ℝ, dotc aK aQ K Q * (sc aQ * ((smR : ℝ) : EReal) * sc aK) = (y : EReal) := by
  rcases sc_cases aK hK with ⟨y, -, ey⟩ | h
  · rcases sc_cases aQ hQ with ⟨z, -, ez⟩ | h
    · obtain ⟨x, hx⟩ := dotc_real aK aQ K Q
      exact ⟨x * (z * smR * y), by rw [hx, ey, ez, EReal.coe_mul, EReal.coe_mul, EReal.coe_mul]⟩
    · exact ⟨0, by rw [dotc_zero _ _ _ _ (Or.inr h), zero_mul]; rfl⟩
  · exact ⟨0, by rw [dotc_zero _ _ _ _ (Or.inl h), zero_mul]; rfl⟩

/-- The factor of a tile's scores is positive. -/
theorem factor_pos (aK aQ : EReal) (hK : 0 ≤ aK) (hQ : 0 ≤ aQ) :
    0 < sc aQ * ((smR : ℝ) : EReal) * sc aK * ((l2e : ℝ) : EReal) :=
  EReal.mul_pos (EReal.mul_pos (EReal.mul_pos (sc_pos aQ hQ) (by exact_mod_cast sm_pos)) (sc_pos aK hK)) (by exact_mod_cast l2e_pos)

/-- A tile's raw scores, masked, are what a step needs. -/
theorem good_tile (aK aQ : EReal) (hK : 0 ≤ aK) (hQ : 0 ≤ aQ) (K : Fin 128 → Fin 128 → EReal) (Q : Fin 128 → EReal)
    (p : Fin 128 → Prop) [DecidablePred p] (r1 : Fin 128) (h1 : ¬ p r1) :
    Good (fun r => if p r then ⊥ else dotc aK aQ (K r) Q) (sc aQ * ((smR : ℝ) : EReal) * sc aK * ((l2e : ℝ) : EReal)) := by
  refine ⟨factor_pos aK aQ hK hQ, fun r => ?_, r1, ?_⟩
  · by_cases h : p r
    · left; exact if_pos h
    · right
      obtain ⟨y, hy⟩ := scaled_real aK aQ hK hQ (K r) Q
      refine ⟨y * l2e, ?_⟩
      show (if p r then ⊥ else dotc aK aQ (K r) Q) * _ = _
      rw [if_neg h, ← mul_assoc, hy, EReal.coe_mul]
  · obtain ⟨x, hx⟩ := dotc_real aK aQ (K r1) Q
    show (if p r1 then ⊥ else dotc aK aQ (K r1) Q) ≠ ⊥
    rw [if_neg h1, hx]; exact EReal.coe_ne_bot x

/-! ## The reference's scores and values, by tiles -/

/-- An unmasked score from the two tiles' codes and scales. -/
theorem raw_tile (x0 : XQ) (x1 : XK) (b : Fin 4) (h : Fin 16) (g : Fin 4) (i : Fin 32) (r : Fin 128) (j : Fin 32) (k : Fin 128) :
    rawR x0 x1 b h g ⟨i.val * 128 + r.val, by omega⟩ ⟨j.val * 128 + k.val, by omega⟩
      = dotc (amax (tileK x1 b j h)) (amax (tileQ x0 b i ⟨h.val * 4 + g.val, by omega⟩))
          (fun e => tileK x1 b j h (ix3 0 k e)) (fun e => tileQ x0 b i ⟨h.val * 4 + g.val, by omega⟩ (ix3 0 r e))
        * (sc (amax (tileQ x0 b i ⟨h.val * 4 + g.val, by omega⟩)) * ((smR : ℝ) : EReal) * sc (amax (tileK x1 b j h))) := by
  unfold rawR dotc
  rw [qscale_apply, kscale_apply]
  exact congrArg (fun z : EReal => z * _) (Finset.sum_congr rfl fun e _ => by rw [codeK, codeQ])

/-- A value from its tile's code and scale. -/
theorem value_tile (x2 : XK) (b : Fin 4) (h : Fin 16) (d : Fin 128) (j : Fin 32) (k : Fin 128) :
    valueR x2 b h d ⟨j.val * 128 + k.val, by omega⟩
      = code (amax (tileK x2 b j h)) (tileK x2 b j h (ix3 0 k d)) * sc (amax (tileK x2 b j h)) := by
  unfold valueR
  rw [kscale_apply, codeK]

/-- A row is a row of a tile. -/
theorem row_split (k : Fin 4096) : k = ⟨(⟨k.val / 128, by omega⟩ : Fin 32).val * 128 + (⟨k.val % 128, by omega⟩ : Fin 128).val, by
    show k.val / 128 * 128 + k.val % 128 < 4096; omega⟩ := Fin.ext (by show k.val = k.val / 128 * 128 + k.val % 128; omega)

theorem value_real (x2 : XK) (b : Fin 4) (h : Fin 16) (d : Fin 128) (k : Fin 4096) : ∃ x : ℝ, valueR x2 b h d k = (x : EReal) := by
  rw [row_split k, value_tile]
  exact code_mul_sc_real _ (amax_nonneg _) _

theorem raw_real (x0 : XQ) (x1 : XK) (b : Fin 4) (h : Fin 16) (g : Fin 4) (q k : Fin 4096) : ∃ x : ℝ, rawR x0 x1 b h g q k = (x : EReal) := by
  rw [row_split k, row_split q, raw_tile]
  exact scaled_real _ _ (amax_nonneg _) (amax_nonneg _) _ _

theorem score_fine (x0 : XQ) (x1 : XK) (b : Fin 4) (h : Fin 16) (g : Fin 4) (q k : Fin 4096) : Fine (scoreR x0 x1 b h g q k) := by
  unfold scoreR
  split_ifs
  · exact Or.inl rfl
  · exact Or.inr (raw_real x0 x1 b h g q k)

/-! ## The kernel's columns -/

/-- The q codes at a column. -/
theorem qtAll_apply (b : Fin 4 → Tile) (g : Fin 4) (e r : Fin 128) :
    qtAll (F := Ideal) b (ix2 e ⟨128 * g.val + r.val, by omega⟩) = code (amax (b g)) (b g (ix3 0 r e)) := by
  have hc : colIn (ix2 e ⟨128 * g.val + r.val, by omega⟩) = ix2 e r := funext fun a => match a with
    | ⟨0, _⟩ => rfl
    | ⟨1, _⟩ => Fin.ext (by show (128 * g.val + r.val) % 128 = r.val; omega)
  have key : ∀ g' : Fin 4, g' = g → qt (F := Ideal) g' (b g') (ix2 e r) = code (amax (b g)) (b g (ix3 0 r e)) := by
    rintro _ rfl; exact qt_apply _ _ _ _
  unfold qtAll
  rw [hc]
  exact key _ (Fin.ext (by show (128 * g.val + r.val) / 128 = g.val; omega))

section
variable (xq : FVec Ideal Cert.KernelIdeal.S1x4096x512 .bf16) (xk xv : FVec Ideal Cert.KernelIdeal.S1x4096x128 .bf16)
  (x0 : XQ) (x1 x2 : XK) (b : Fin 4) (h : Fin 16)
  (hq : ∀ i g, tQ xq i g = tileQ x0 b i ⟨h.val * 4 + g.val, by omega⟩) (hk : ∀ j, tK xk j = tileK x1 b j h) (hv : ∀ j, tK xv j = tileK x2 b j h)
  (i : Fin 32) (g : Fin 4) (r d : Fin 128)

/-- The scores by tile number and row; past the last tile, masked. -/
def scT (j : ℕ) (k : Fin 128) : EReal := if hj : j < 32 then scoreR x0 x1 b h g ⟨i.val * 128 + r.val, by omega⟩ ⟨j * 128 + k.val, by omega⟩ else ⊥
/-- The values by tile number and row, as reals. -/
def uT (j : ℕ) (k : Fin 128) : ℝ := if hj : j < 32 then (valueR x2 b h d ⟨j * 128 + k.val, by omega⟩).toReal else 0

/-- One tile: what the kernel's step does to a column keeps the invariant. -/
theorem col_step (n : Fin 32) (p : Fin 128 → Prop) [DecidablePred p] (r1 : Fin 128) (h1 : ¬ p r1)
    (hp : ∀ k : Fin 128, p k ↔ i.val * 128 + r.val < n.val * 128 + k.val) (s : Col)
    (hI : Inv (fun j k => scT x0 x1 b h i g r j k * ((l2e : ℝ) : EReal)) (uT x2 b h d) n.val s) :
    Inv (fun j k => scT x0 x1 b h i g r j k * ((l2e : ℝ) : EReal)) (uT x2 b h d) (n.val + 1)
      (tstep (fun k => if p k then ⊥ else dotc (amax (tileK x1 b n h)) (amax (tileQ x0 b i ⟨h.val * 4 + g.val, by omega⟩))
          (fun e => tileK x1 b n h (ix3 0 k e)) (fun e => tileQ x0 b i ⟨h.val * 4 + g.val, by omega⟩ (ix3 0 r e)))
        (sc (amax (tileQ x0 b i ⟨h.val * 4 + g.val, by omega⟩)) * ((smR : ℝ) : EReal) * sc (amax (tileK x1 b n h)) * ((l2e : ℝ) : EReal))
        (sc (amax (tileK x2 b n h))) (fun k => code (amax (tileK x2 b n h)) (tileK x2 b n h (ix3 0 k d))) s) := by
  refine inv_step _ _ _ _ hI _ _ _ _ (good_tile _ _ (amax_nonneg _) (amax_nonneg _) (fun k e => tileK x1 b n h (ix3 0 k e)) _ p r1 h1) (fun k => ?_)
    (fun k => code_real _ _) (fun k => ?_) ?_
  · show scT x0 x1 b h i g r n.val k * _ = (if p k then ⊥ else _) * _
    unfold scT scoreR
    rw [dif_pos n.isLt]
    by_cases hk : p k
    · rw [if_pos hk, if_pos ((hp k).mp hk), EReal.bot_mul_coe_of_pos l2e_pos, EReal.bot_mul_of_pos (factor_pos _ _ (amax_nonneg _) (amax_nonneg _))]
    · rw [if_neg hk, if_neg (fun h => hk ((hp k).mpr h)), raw_tile, mul_assoc]
  · unfold uT
    rw [dif_pos n.isLt]
    obtain ⟨x, hx⟩ := value_real x2 b h d ⟨n.val * 128 + k.val, by omega⟩
    rw [hx, EReal.toReal_coe, ← hx, value_tile]
  · rcases sc_cases _ (amax_nonneg (tileK x2 b n h)) with ⟨y, -, hy⟩ | ht
    · exact Or.inl ⟨y, hy⟩
    · exact Or.inr fun k => code_zero_of_sc_top _ ht _

include hq hk hv in
/-- The state after `n` tiles below the diagonal. -/
theorem iter_inv (n : ℕ) (hn : n ≤ i.val) :
    Inv (fun j k => scT x0 x1 b h i g r j k * ((l2e : ℝ) : EReal)) (uT x2 b h d) n
      (colOf (iter (qrow (tQ xq i)) (qtAll (tQ xq i)) xk xv n) d ⟨128 * g.val + r.val, by omega⟩) := by
  induction n with
  | zero => exact Or.inl ⟨rfl, st0_col _ _⟩
  | succ n ih =>
    have hn' : n < 32 := by omega
    have e := stepU_col (qrow (tQ xq i)) (qtAll (tQ xq i)) (kc (tK xk ⟨n, hn'⟩)) (ks (tK xk ⟨n, hn'⟩)) (vt (tK xv ⟨n, hn'⟩)) (vs (tK xv ⟨n, hn'⟩))
      (iter (qrow (tQ xq i)) (qtAll (tQ xq i)) xk xv n) _ _ (fun j => (congrFun (ks_eq _) j).trans (vs_apply _ j)) (fun j => vs_apply _ j) d ⟨128 * g.val + r.val, by omega⟩
    have hit : iter (qrow (tQ xq i)) (qtAll (tQ xq i)) xk xv (n + 1) = stepU (qrow (tQ xq i)) (qtAll (tQ xq i)) (kc (tK xk ⟨n, hn'⟩)) (ks (tK xk ⟨n, hn'⟩)) (vt (tK xv ⟨n, hn'⟩)) (vs (tK xv ⟨n, hn'⟩))
      (iter (qrow (tQ xq i)) (qtAll (tQ xq i)) xk xv n) := by
      rw [iter, dif_pos hn']
    rw [hit, e]
    have hs := col_step x0 x1 x2 b h i g r d ⟨n, hn'⟩ (fun _ => False) 0 not_false (fun k => ⟨False.elim, fun hlt => by
      have : n * 128 + k.val > i.val * 128 + r.val := hlt
      omega⟩) _ (ih (by omega))
    refine (congrArg (Inv _ _ (n + 1)) ?_).mp hs
    simp only [if_false, kc_eq, vc_apply, vt_apply, qtAll_apply, qrow_apply, hk, hv, hq]
    rfl

include hq hk hv in
/-- The final state. -/
theorem fin_inv :
    Inv (fun j k => scT x0 x1 b h i g r j k * ((l2e : ℝ) : EReal)) (uT x2 b h d) (i.val + 1)
      (colOf (fin xq xk xv i) d ⟨128 * g.val + r.val, by omega⟩) := by
  have e := stepD_col (qrow (tQ xq i)) (qtAll (tQ xq i)) (kc (tK xk i)) (ks (tK xk i)) (vt (tK xv i)) (vs (tK xv i))
    (iter (qrow (tQ xq i)) (qtAll (tQ xq i)) xk xv i.val) _ _ (fun j => (congrFun (ks_eq _) j).trans (vs_apply _ j)) (fun j => vs_apply _ j) d ⟨128 * g.val + r.val, by omega⟩
  have hm : (128 * g.val + r.val) % 128 = r.val := by omega
  unfold fin
  rw [e]
  have hs := col_step x0 x1 x2 b h i g r d i (fun k => r.val < k.val) 0 (Nat.not_lt_zero _) (fun k => by omega) _
    (iter_inv xq xk xv x0 x1 x2 b h hq hk hv i g r d i.val le_rfl)
  refine (congrArg (Inv _ _ (i.val + 1)) ?_).mp hs
  simp only [hm, kc_eq, vc_apply, vt_apply, qtAll_apply, qrow_apply, hk, hv, hq]
  rfl

include hq hk hv in
/-- The kernel's output tile is the softmax written whole. -/
theorem att : yOf (F := Ideal) (fin xq xk xv i) g (ix3 0 r d)
    = plain (scoreR x0 x1 b h g ⟨i.val * 128 + r.val, by omega⟩) (valueR x2 b h d) := by
  have hI := fin_inv xq xk xv x0 x1 x2 b h hq hk hv i g r d
  rw [yOf_apply]
  generalize colOf (fin xq xk xv i) d ⟨128 * g.val + r.val, by omega⟩ = s at hI
  -- the whole softmax, as a quotient of sums over the keys
  choose uR hu using value_real x2 b h d
  have h1 : scoreR x0 x1 b h g ⟨i.val * 128 + r.val, by omega⟩ ⟨i.val * 128 + r.val, by omega⟩ ≠ ⊥ := by
    unfold scoreR
    rw [if_neg (lt_irrefl _)]
    obtain ⟨x, hx⟩ := raw_real x0 x1 b h g ⟨i.val * 128 + r.val, by omega⟩ ⟨i.val * 128 + r.val, by omega⟩
    rw [hx]; exact EReal.coe_ne_bot x
  obtain ⟨hpos, hpl⟩ := plain_eq (scoreR x0 x1 b h g ⟨i.val * 128 + r.val, by omega⟩) (valueR x2 b h d) uR hu (score_fine x0 x1 b h g _) _ h1
  -- the sums by tiles
  have hb : ∀ j : ℕ, j ∈ Finset.range (i.val + 1) → j < 32 := fun j hj => by have := Finset.mem_range.mp hj; omega
  have ew0 : ∀ k : Fin 4096, 128 * (i.val + 1) ≤ k.val → ew (scoreR x0 x1 b h g ⟨i.val * 128 + r.val, by omega⟩ k) = 0 := fun k hk => by
    unfold scoreR ew
    rw [if_pos (show i.val * 128 + r.val < k.val by omega), if_pos rfl]
  have tiles : ∀ w : Fin 4096 → ℝ, ∑ k, ew (scoreR x0 x1 b h g ⟨i.val * 128 + r.val, by omega⟩ k) * w k
      = ∑ j ∈ Finset.range (i.val + 1), ∑ k, ew (scT x0 x1 b h i g r j k) * (if hj : j < 32 then w ⟨j * 128 + k.val, by omega⟩ else 0) := fun w => by
    have e := sum_keys (fun k => if hk : k < 4096 then ew (scoreR x0 x1 b h g ⟨i.val * 128 + r.val, by omega⟩ ⟨k, hk⟩) * w ⟨k, hk⟩ else 0) (i.val + 1) (by omega)
      (fun k hk => by
        by_cases hk' : k < 4096
        · simp only [dif_pos hk']; rw [ew0 ⟨k, hk'⟩ hk, zero_mul]
        · simp only [dif_neg hk'])
    have e' : ∑ k : Fin 4096, ew (scoreR x0 x1 b h g ⟨i.val * 128 + r.val, by omega⟩ k) * w k
        = ∑ k : Fin 4096, (fun k => if hk : k < 4096 then ew (scoreR x0 x1 b h g ⟨i.val * 128 + r.val, by omega⟩ ⟨k, hk⟩) * w ⟨k, hk⟩ else 0) k.val :=
      Finset.sum_congr rfl fun k _ => by simp only [dif_pos k.isLt]
    rw [e', e]
    refine Finset.sum_congr rfl fun j hj => Finset.sum_congr rfl fun k _ => ?_
    have hj' := hb j hj
    have hx : 128 * j + k.val < 4096 := by omega
    have he : (⟨128 * j + k.val, hx⟩ : Fin 4096) = ⟨j * 128 + k.val, by omega⟩ := Fin.ext (by show 128 * j + k.val = j * 128 + k.val; omega)
    simp only [dif_pos hx, dif_pos hj', scT, he]
  have d1 := tiles fun _ => 1
  simp only [mul_one] at d1
  have d1' : ∑ k, ew (scoreR x0 x1 b h g ⟨i.val * 128 + r.val, by omega⟩ k) = ∑ j ∈ Finset.range (i.val + 1), ∑ k, ew (scT x0 x1 b h i g r j k) := by
    rw [d1]
    refine Finset.sum_congr rfl fun j hj => Finset.sum_congr rfl fun k _ => ?_
    rw [dif_pos (hb j hj), mul_one]
  have d2 : ∑ k, ew (scoreR x0 x1 b h g ⟨i.val * 128 + r.val, by omega⟩ k) * uR k = ∑ j ∈ Finset.range (i.val + 1), ∑ k, ew (scT x0 x1 b h i g r j k) * uT x2 b h d j k := by
    rw [tiles uR]
    refine Finset.sum_congr rfl fun j hj => Finset.sum_congr rfl fun k _ => ?_
    unfold uT
    rw [dif_pos (hb j hj), dif_pos (hb j hj), hu, EReal.toReal_coe]
  have hfine : ∀ j k, Fine (scT x0 x1 b h i g r j k) := fun j k => by
    unfold scT
    split_ifs
    · exact score_fine _ _ _ _ _ _ _
    · exact Or.inl rfl
  rw [inv_quot _ _ _ s hI (Nat.succ_pos _) hfine (d1' ▸ hpos), hpl, d1', d2]
end

end Cert.Proof.Value

end
-- ==== Proof.Value.Blocks.lean ====
/-
  A point's result blocks, read at an index, are the reference's results at the index the block is placed at.
-/
module

public import proofs.«01_k».proof.Proof.Value.Att

@[expose] public section

set_option maxRecDepth 16384

noncomputable section

namespace Cert.Proof.Value

open Cert.ReferenceIdeal Cert.ReferenceIdeal.Gen Cert.ReferenceIdeal.Read Idealize.ShloMosaic Idealize.SL.Sem
open Cert.Proof.Ideal (tQ tK kc ks vc vs qc qs fin yOf asmQ asmK asmS asmR cell)

/-- A tile's index from its row and column. -/
theorem cell_eq (r c : ℕ) (hr : r < 128) (hc : c < 128) : cell r c hr hc = ix3 0 ⟨r, hr⟩ ⟨c, hc⟩ := by
  funext a
  match a with
  | ⟨0, _⟩ => rfl
  | ⟨1, _⟩ => rfl
  | ⟨2, _⟩ => rfl

/-- An index of a [4, 4096, 8192] array in the columns of group `h`, by tile and head. -/
theorem idxQ (i : S4x4096x8192.Idx) (y : Cert.KernelIdeal.S1x4096x512.Idx) (b : Fin 4) (h : Fin 16)
    (e0 : (i 0).val = b.val) (e1 : (i 1).val = (y 1).val) (e2 : (i 2).val = h.val * 512 + (y 2).val)
    (l1 : (y 1).val < 4096) (l2 : (y 2).val < 512) :
    i = ix3 b ⟨(y 1).val / 128 * 128 + (y 1).val % 128, by omega⟩
      ⟨(h.val * 4 + (y 2).val / 128) * 128 + (y 2).val % 128, by omega⟩ := by
  funext a
  match a with
  | ⟨0, _⟩ => exact Fin.ext e0
  | ⟨1, _⟩ => exact Fin.ext (e1.trans (by show (y 1).val = (y 1).val / 128 * 128 + (y 1).val % 128; omega))
  | ⟨2, _⟩ => exact Fin.ext (e2.trans (by show h.val * 512 + (y 2).val = (h.val * 4 + (y 2).val / 128) * 128 + (y 2).val % 128; omega))

/-- An index of a [4, 4096, 2048] array in the columns of group `h`, by tile. -/
theorem idxK (i : S4x4096x2048.Idx) (y : Cert.KernelIdeal.S1x4096x128.Idx) (b : Fin 4) (h : Fin 16)
    (e0 : (i 0).val = b.val) (e1 : (i 1).val = (y 1).val) (e2 : (i 2).val = h.val * 128 + (y 2).val)
    (l1 : (y 1).val < 4096) (l2 : (y 2).val < 128) :
    i = ix3 b ⟨(y 1).val / 128 * 128 + (y 1).val % 128, by omega⟩ ⟨h.val * 128 + (y 2).val, by omega⟩ := by
  funext a
  match a with
  | ⟨0, _⟩ => exact Fin.ext e0
  | ⟨1, _⟩ => exact Fin.ext (e1.trans (by show (y 1).val = (y 1).val / 128 * 128 + (y 1).val % 128; omega))
  | ⟨2, _⟩ => exact Fin.ext e2

/-- The attention output's block. -/
theorem blk0 (xq : Cert.KernelIdeal.S1x4096x512.Idx → EReal) (xk xv : Cert.KernelIdeal.S1x4096x128.Idx → EReal)
    (x0 : XQ) (x1 x2 : XK) (b : Fin 4) (h : Fin 16)
    (hq : ∀ (i : Fin 32) (g : Fin 4), tQ xq i g = tileQ x0 b i ⟨h.val * 4 + g.val, by omega⟩)
    (hk : ∀ j, tK xk j = tileK x1 b j h) (hv : ∀ j, tK xv j = tileK x2 b j h)
    (i : S4x4096x8192.Idx) (y : Cert.KernelIdeal.S1x4096x512.Idx)
    (e0 : (i 0).val = b.val) (e1 : (i 1).val = (y 1).val) (e2 : (i 2).val = h.val * 512 + (y 2).val) :
    asmQ (fun j g => yOf (F := Ideal) (fin xq xk xv j) g) y = val_main_v120 (F := Ideal) x0 x1 x2 i := by
  have l1 : (y 1).val < 4096 := (y 1).isLt
  have l2 : (y 2).val < 512 := (y 2).isLt
  rw [idxQ i y b h e0 e1 e2 l1 l2]
  refine Eq.trans ?_ (res0 x0 x1 x2 b ⟨(y 1).val / 128 * 128 + (y 1).val % 128, by omega⟩ h ⟨(y 2).val / 128, by omega⟩ ⟨(y 2).val % 128, by omega⟩).symm
  show yOf (F := Ideal) (fin xq xk xv ⟨(y 1).val / 128, by omega⟩) ⟨(y 2).val / 128, by omega⟩ (cell ((y 1).val % 128) ((y 2).val % 128) (by omega) (by omega)) = _
  refine (congrArg _ (cell_eq _ _ _ _)).trans ?_
  exact att xq xk xv x0 x1 x2 b h hq hk hv ⟨(y 1).val / 128, by omega⟩ ⟨(y 2).val / 128, by omega⟩ ⟨(y 1).val % 128, by omega⟩ ⟨(y 2).val % 128, by omega⟩

/-- The q codes' block. -/
theorem blk1 (xq : Cert.KernelIdeal.S1x4096x512.Idx → EReal) (x0 : XQ) (b : Fin 4) (h : Fin 16)
    (hq : ∀ (i : Fin 32) (g : Fin 4), tQ xq i g = tileQ x0 b i ⟨h.val * 4 + g.val, by omega⟩)
    (i : S4x4096x8192.Idx) (y : Cert.KernelIdeal.S1x4096x512.Idx)
    (e0 : (i 0).val = b.val) (e1 : (i 1).val = (y 1).val) (e2 : (i 2).val = h.val * 512 + (y 2).val) :
    asmQ (fun j g => qc (F := Ideal) g (tQ xq j g)) y = val_main_v122 (F := Ideal) x0 i := by
  have l1 : (y 1).val < 4096 := (y 1).isLt
  have l2 : (y 2).val < 512 := (y 2).isLt
  rw [idxQ i y b h e0 e1 e2 l1 l2]
  refine Eq.trans ?_ (res1 x0 b ⟨(y 1).val / 128, by omega⟩ ⟨(y 1).val % 128, by omega⟩ ⟨h.val * 4 + (y 2).val / 128, by omega⟩ ⟨(y 2).val % 128, by omega⟩).symm
  show qc (F := Ideal) ⟨(y 2).val / 128, by omega⟩ (tQ xq ⟨(y 1).val / 128, by omega⟩ ⟨(y 2).val / 128, by omega⟩) (cell ((y 1).val % 128) ((y 2).val % 128) (by omega) (by omega)) = _
  rw [hq]
  exact (congrFun (qc_eq _ _) _).trans ((congrArg _ (cell_eq _ _ _ _)).trans (vc_apply _ ⟨(y 1).val % 128, by omega⟩ ⟨(y 2).val % 128, by omega⟩))

/-- The q scales' block. -/
theorem blk2 (xq : Cert.KernelIdeal.S1x4096x512.Idx → EReal) (x0 : XQ) (b : Fin 4) (h : Fin 16)
    (hq : ∀ (i : Fin 32) (g : Fin 4), tQ xq i g = tileQ x0 b i ⟨h.val * 4 + g.val, by omega⟩)
    (i : S4x16x4x32x128.Idx) (y : Cert.KernelIdeal.S1x1x4x32x128.Idx)
    (e0 : (i 0).val = b.val) (e1 : (i 1).val = h.val) (e2 : (i 2).val = (y 2).val) (e3 : (i 3).val = (y 3).val) (e4 : (i 4).val = (y 4).val) :
    asmR (fun j g => qs (F := Ideal) g (tQ xq j g)) y = val_main_v126 (F := Ideal) x0 i := by
  have e : i = ix5 b h ⟨(y 2).val, (y 2).isLt⟩ ⟨(y 3).val, (y 3).isLt⟩ ⟨(y 4).val, (y 4).isLt⟩ := by
    funext a
    match a with
    | ⟨0, _⟩ => exact Fin.ext e0
    | ⟨1, _⟩ => exact Fin.ext e1
    | ⟨2, _⟩ => exact Fin.ext e2
    | ⟨3, _⟩ => exact Fin.ext e3
    | ⟨4, _⟩ => exact Fin.ext e4
  rw [e]
  refine Eq.trans ?_ (res2 x0 b h ⟨(y 2).val, (y 2).isLt⟩ ⟨(y 3).val, (y 3).isLt⟩ ⟨(y 4).val, (y 4).isLt⟩).symm
  refine (qs_apply _ _ _).trans ?_
  exact congrArg (fun z => sc (amax z)) (hq ⟨(y 3).val, (y 3).isLt⟩ ⟨(y 2).val, (y 2).isLt⟩)

/-- A k or v block's codes. -/
theorem blk3 (xk : Cert.KernelIdeal.S1x4096x128.Idx → EReal) (x1 : XK) (b : Fin 4) (h : Fin 16)
    (hk : ∀ j, tK xk j = tileK x1 b j h) (i : S4x4096x2048.Idx) (y : Cert.KernelIdeal.S1x4096x128.Idx)
    (e0 : (i 0).val = b.val) (e1 : (i 1).val = (y 1).val) (e2 : (i 2).val = h.val * 128 + (y 2).val) :
    asmK (fun j => vc (F := Ideal) (tK xk j)) y = val_main_v128 (F := Ideal) x1 i := by
  have l1 : (y 1).val < 4096 := (y 1).isLt
  have l2 : (y 2).val < 128 := (y 2).isLt
  rw [idxK i y b h e0 e1 e2 l1 l2]
  refine Eq.trans ?_ (res3 x1 b ⟨(y 1).val / 128, by omega⟩ ⟨(y 1).val % 128, by omega⟩ h ⟨(y 2).val, by omega⟩).symm
  show vc (F := Ideal) (tK xk ⟨(y 1).val / 128, by omega⟩) (cell ((y 1).val % 128) (y 2).val (by omega) (by omega)) = _
  rw [hk]
  exact (congrArg _ (cell_eq _ _ _ _)).trans (vc_apply _ ⟨(y 1).val % 128, by omega⟩ ⟨(y 2).val, by omega⟩)

/-- A k or v block's scales. -/
theorem blk4 (xk : Cert.KernelIdeal.S1x4096x128.Idx → EReal) (x1 : XK) (b : Fin 4) (h : Fin 16)
    (hk : ∀ j, tK xk j = tileK x1 b j h) (i : S4x16x32x128.Idx) (y : Cert.KernelIdeal.S1x1x32x128.Idx)
    (e0 : (i 0).val = b.val) (e1 : (i 1).val = h.val) (e2 : (i 2).val = (y 2).val) (e3 : (i 3).val = (y 3).val) :
    asmS (fun j => vs (F := Ideal) (tK xk j)) y = val_main_v131 (F := Ideal) x1 i := by
  have e : i = ix4 b h ⟨(y 2).val, (y 2).isLt⟩ ⟨(y 3).val, (y 3).isLt⟩ := by
    funext a
    match a with
    | ⟨0, _⟩ => exact Fin.ext e0
    | ⟨1, _⟩ => exact Fin.ext e1
    | ⟨2, _⟩ => exact Fin.ext e2
    | ⟨3, _⟩ => exact Fin.ext e3
  rw [e]
  refine Eq.trans ?_ (res4 x1 b h ⟨(y 2).val, (y 2).isLt⟩ ⟨(y 3).val, (y 3).isLt⟩).symm
  refine (vs_apply _ _).trans ?_
  exact congrArg (fun z => sc (amax z)) (hk ⟨(y 2).val, (y 2).isLt⟩)

end Cert.Proof.Value

end
-- ==== Proof.Value.Arrays.lean ====
/-
  The arrays the kernel's run leaves are the reference's results: each point's blocks are placed at batch `b`, group `h`,
  and the points' blocks cover each array.
-/
module

public import proofs.«01_k».proof.Proof.Value.Blocks
public import proofs.«01_k».proof.Proof.Ideal.Run
public import Idealize.ShloMosaic.Lib.Pipeline.ValueKit

@[expose] public section

set_option maxRecDepth 16384

noncomputable section

namespace Cert.Proof.Value

open Cert.KernelIdeal Cert.KernelIdeal.Gen Idealize.ShloMosaic Idealize.SL.Sem
open Cert.ReferenceIdeal.Read
open Cert.Proof.Ideal (tQ tK xq xk xv dats out3 out4 out5 out6 out7 out8 out9 after0_3 after0_4 after0_5 after0_6 after0_7 after0_8 after0_9)

variable (m : (ℓ : Loc nD τ sig) → Buf (Elt Ideal) ℓ) (c : Dev nD) (t : Fin cfg0.N)

/-! ## A point's batch and group -/

/-- The batch of a point. -/
def bOf (t : Fin cfg0.N) : Fin 4 := ⟨(grid0.coords t 0).val, (grid0.coords t 0).isLt⟩
/-- The group of heads of a point. -/
def hOf (t : Fin cfg0.N) : Fin 16 := ⟨(grid0.coords t 1).val, (grid0.coords t 1).isLt⟩

theorem ix0 : ∀ t : Fin cfg0.N, win0_0.index t = ![(bOf t).val, 0, (hOf t).val] := (by decide +kernel : ∀ t : Fin grid0.N, _)
theorem ix1 : ∀ t : Fin cfg0.N, win0_1.index t = ![(bOf t).val, 0, (hOf t).val] := (by decide +kernel : ∀ t : Fin grid0.N, _)
theorem ix2 : ∀ t : Fin cfg0.N, win0_2.index t = ![(bOf t).val, 0, (hOf t).val] := (by decide +kernel : ∀ t : Fin grid0.N, _)
theorem ixw3 : ∀ t : Fin cfg0.N, win0_3.index t = ![(bOf t).val, 0, (hOf t).val] := (by decide +kernel : ∀ t : Fin grid0.N, _)
theorem ixw4 : ∀ t : Fin cfg0.N, win0_4.index t = ![(bOf t).val, 0, (hOf t).val] := (by decide +kernel : ∀ t : Fin grid0.N, _)
theorem ixw5 : ∀ t : Fin cfg0.N, win0_5.index t = ![(bOf t).val, (hOf t).val, 0, 0, 0] := (by decide +kernel : ∀ t : Fin grid0.N, _)
theorem ixw6 : ∀ t : Fin cfg0.N, win0_6.index t = ![(bOf t).val, 0, (hOf t).val] := (by decide +kernel : ∀ t : Fin grid0.N, _)
theorem ixw7 : ∀ t : Fin cfg0.N, win0_7.index t = ![(bOf t).val, (hOf t).val, 0, 0] := (by decide +kernel : ∀ t : Fin grid0.N, _)
theorem ixw8 : ∀ t : Fin cfg0.N, win0_8.index t = ![(bOf t).val, 0, (hOf t).val] := (by decide +kernel : ∀ t : Fin grid0.N, _)
theorem ixw9 : ∀ t : Fin cfg0.N, win0_9.index t = ![(bOf t).val, (hOf t).val, 0, 0] := (by decide +kernel : ∀ t : Fin grid0.N, _)

/-! ## The tiles of a point's blocks are the tiles of the arguments -/

/-- The tiles of a point's q block. -/
theorem hq (i : Fin 32) (g : Fin 4) :
    tQ (xq m c t) i g = tileQ (m ((c.tc : Thread nD τ).loc main_arg0)) (bOf t) i ⟨(hOf t).val * 4 + g.val, by omega⟩ := by
  funext y
  show iblk m c 0 t _ = _
  unfold tileQ
  have h0 : (y 0).val < 1 := (y 0).isLt
  blk_simp [iblk]
  refine congrArg (m ((c.tc : Thread nD τ).loc main_arg0)) (funext fun a => Fin.ext ?_)
  match a with
  | ⟨0, _⟩ => blk_simp [ix0]
  | ⟨1, _⟩ =>
    blk_simp [ix0]
    show 128 * i.val + (y 1).val = i.val * 128 + (y 1).val
    omega
  | ⟨2, _⟩ =>
    blk_simp [ix0]
    show (hOf t).val * 512 + (128 * g.val + (y 2).val) = ((hOf t).val * 4 + g.val) * 128 + (y 2).val
    omega

/-- The tiles of a point's k block. -/
theorem hk (j : Fin 32) :
    tK (xk m c t) j = tileK (m ((c.tc : Thread nD τ).loc main_arg1)) (bOf t) j (hOf t) := by
  funext y
  show iblk m c 1 t _ = _
  unfold tileK
  have h0 : (y 0).val < 1 := (y 0).isLt
  blk_simp [iblk]
  refine congrArg (m ((c.tc : Thread nD τ).loc main_arg1)) (funext fun a => Fin.ext ?_)
  match a with
  | ⟨0, _⟩ => blk_simp [ix1]
  | ⟨1, _⟩ =>
    blk_simp [ix1]
    show 128 * j.val + (y 1).val = j.val * 128 + (y 1).val
    omega
  | ⟨2, _⟩ =>
    blk_simp [ix1]
    rfl

/-- The tiles of a point's v block. -/
theorem hv (j : Fin 32) :
    tK (xv m c t) j = tileK (m ((c.tc : Thread nD τ).loc main_arg2)) (bOf t) j (hOf t) := by
  funext y
  show iblk m c 2 t _ = _
  unfold tileK
  have h0 : (y 0).val < 1 := (y 0).isLt
  blk_simp [iblk]
  refine congrArg (m ((c.tc : Thread nD τ).loc main_arg2)) (funext fun a => Fin.ext ?_)
  match a with
  | ⟨0, _⟩ => blk_simp [ix2]
  | ⟨1, _⟩ =>
    blk_simp [ix2]
    show 128 * j.val + (y 1).val = j.val * 128 + (y 1).val
    omega
  | ⟨2, _⟩ =>
    blk_simp [ix2]
    rfl

/-! ## The arrays -/

/-- The attention output. -/
theorem final3 : (dats m 0 c).arrAt 3 cfg0.N
    = val_main_v120 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have h0 : (y 0).val < 1 := (y 0).isLt
  have h1 : (y 1).val < 4096 := (y 1).isLt
  blk_simp
  rw [after0_3]
  refine blk0 (xq m c t) (xk m c t) (xv m c t) _ _ _ (bOf t) (hOf t) (hq m c t) (hk m c t) (hv m c t) _ y ?_ ?_ ?_
  all_goals blk_simp [ixw3]

/-- The q codes. -/
theorem final4 : (dats m 0 c).arrAt 4 cfg0.N
    = val_main_v122 (F := Ideal) (m ((c.tc : Thread nD τ).loc main_arg0)) := by
  refine (dats m 0 c).arrAt_eq_of_covers 4 _ (by decide +kernel) fun t hf y => ?_
  have h0 : (y 0).val < 1 := (y 0).isLt
  have h1 : (y 1).val < 4096 := (y 1).isLt
  blk_simp
  rw [after0_4]
  refine blk1 (xq m c t) _ (bOf t) (hOf t) (hq m c t) _ y ?_ ?_ ?_
  all_goals blk_simp [ixw4]

/-- The q scales. -/
theorem final5 : (dats m 0 c).arrAt 5 cfg0.N
    = val_main_v126 (F := Ideal) (m ((c.tc : Thread nD τ).loc main_arg0)) := by
  refine (dats m 0 c).arrAt_eq_of_covers 5 _ (by decide +kernel) fun t hf y => ?_
  have h0 : (y 0).val < 1 := (y 0).isLt
  have h1 : (y 1).val < 1 := (y 1).isLt
  blk_simp
  rw [after0_5]
  refine blk2 (xq m c t) _ (bOf t) (hOf t) (hq m c t) _ y ?_ ?_ ?_ ?_ ?_
  all_goals blk_simp [ixw5]

/-- The k codes. -/
theorem final6 : (dats m 0 c).arrAt 6 cfg0.N
    = val_main_v128 (F := Ideal) (m ((c.tc : Thread nD τ).loc main_arg1)) := by
  refine (dats m 0 c).arrAt_eq_of_covers 6 _ (by decide +kernel) fun t hf y => ?_
  have h0 : (y 0).val < 1 := (y 0).isLt
  have h1 : (y 1).val < 4096 := (y 1).isLt
  blk_simp
  rw [after0_6]
  refine blk3 (xk m c t) _ (bOf t) (hOf t) (hk m c t) _ y ?_ ?_ ?_
  all_goals blk_simp [ixw6]

/-- The k scales. -/
theorem final7 : (dats m 0 c).arrAt 7 cfg0.N
    = val_main_v131 (F := Ideal) (m ((c.tc : Thread nD τ).loc main_arg1)) := by
  refine (dats m 0 c).arrAt_eq_of_covers 7 _ (by decide +kernel) fun t hf y => ?_
  have h0 : (y 0).val < 1 := (y 0).isLt
  have h1 : (y 1).val < 1 := (y 1).isLt
  blk_simp
  rw [after0_7]
  refine blk4 (xk m c t) _ (bOf t) (hOf t) (hk m c t) _ y ?_ ?_ ?_ ?_
  all_goals blk_simp [ixw7]

/-- The v codes. -/
theorem final8 : (dats m 0 c).arrAt 8 cfg0.N
    = val_main_v128 (F := Ideal) (m ((c.tc : Thread nD τ).loc main_arg2)) := by
  refine (dats m 0 c).arrAt_eq_of_covers 8 _ (by decide +kernel) fun t hf y => ?_
  have h0 : (y 0).val < 1 := (y 0).isLt
  have h1 : (y 1).val < 4096 := (y 1).isLt
  blk_simp
  rw [after0_8]
  refine blk3 (xv m c t) _ (bOf t) (hOf t) (hv m c t) _ y ?_ ?_ ?_
  all_goals blk_simp [ixw8]

/-- The v scales. -/
theorem final9 : (dats m 0 c).arrAt 9 cfg0.N
    = val_main_v131 (F := Ideal) (m ((c.tc : Thread nD τ).loc main_arg2)) := by
  refine (dats m 0 c).arrAt_eq_of_covers 9 _ (by decide +kernel) fun t hf y => ?_
  have h0 : (y 0).val < 1 := (y 0).isLt
  have h1 : (y 1).val < 1 := (y 1).isLt
  blk_simp
  rw [after0_9]
  refine blk4 (xv m c t) _ (bOf t) (hOf t) (hv m c t) _ y ?_ ?_ ?_ ?_
  all_goals blk_simp [ixw9]

end Cert.Proof.Value

end
-- ==== Proof.Value.Algebraic.lean ====
/-
  The value claim: over the extended reals the kernel and the reference end with equal results, all seven of them.
-/
module

public import proofs.«01_k».proof.Defs
public import proofs.«01_k».proof.Proof.Value.Arrays
public import proofs.«01_k».proof.Proof.Gen.ReferenceIdeal.Run

@[expose] public section

set_option maxRecDepth 16384

noncomputable section

namespace Cert.Proof

open Idealize.ShloMosaic Idealize.SL.Sem
open Cert.ReferenceIdeal.Read Cert.Proof.Value

/-- The kernel's run: each result is the reference's, at the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0_0)
            = val_main_v120 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_v0_1)
            = val_main_v122 (F := Ideal) (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_v0_2)
            = val_main_v126 (F := Ideal) (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_v0_3)
            = val_main_v128 (F := Ideal) (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_v0_4)
            = val_main_v131 (F := Ideal) (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_v0_5)
            = val_main_v133 (F := Ideal) (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_v0_6)
            = val_main_v136 (F := Ideal) (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine (θ_run Cert.KernelIdeal.defs _ _).mono (fun r h c => ?_) (Cert.Proof.Ideal.run_main (F := Ideal) m ρ)
  have hf := h.1
  refine ⟨(hf.out_eq c 3).trans (final3 m c), (hf.out_eq c 4).trans (final4 m c), (hf.out_eq c 5).trans (final5 m c),
    (hf.out_eq c 6).trans (final6 m c), (hf.out_eq c 7).trans (final7 m c),
    (hf.out_eq c 8).trans ((final8 m c).trans (res5_eq _).symm), (hf.out_eq c 9).trans ((final9 m c).trans (res6_eq _).symm),
    hf.in_eq c 0 rfl, hf.in_eq c 1 rfl, hf.in_eq c 2 rfl⟩

/-- The kernel and the reference end with equal results. -/
theorem algebraic : Cert.algebraic_KernelIdeal_ReferenceIdeal := by
  intro m ρ m' ρ' _ hagree
  refine ⟨_, _, _, _, _, _, _, kernel_run m ρ, ?_⟩
  refine (θ_run Cert.ReferenceIdeal.defs _ _).mono (fun r h c => ?_) (Cert.ReferenceIdeal.Value.run (F := Ideal) m' ρ')
  obtain ⟨a0, a1, a2⟩ := hagree c
  obtain ⟨h0, h1, h2, h3, h4, h5, h6, hargs⟩ := h c
  rw [← a0, ← a1, ← a2]
  exact ⟨h0.trans (val_main_v120_eq _), h1.trans (val_main_v122_eq _), h2.trans (val_main_v126_eq _), h3.trans (val_main_v128_eq _),
    h4.trans (val_main_v131_eq _), h5.trans (val_main_v133_eq _), h6.trans (val_main_v136_eq _), hargs⟩

end Cert.Proof

end
-- ==== Proof.lean ====
module

public import proofs.«01_k».proof.Defs
public import proofs.«01_k».proof.Proof.Frames
public import proofs.«01_k».proof.Proof.Value.Algebraic
public import proofs.«01_k».proof.Proof.Gen.ReferenceIdeal.Read
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- Every claim of this certificate. -/
theorem claim : Cert.Claim :=
  ⟨Cert.Kernel.Gen.facts, Cert.KernelIdeal.Gen.facts, Cert.ReferenceIdeal.Gen.facts,
    frame_p, frame_pi, frame_ri, preserves, algebraic⟩

end Cert.Proof

end
